-- ==== Defs.lean ====
def Pre_Kernel (m : (ℓ : Loc Cert.Kernel.nD Cert.Kernel.τ Cert.Kernel.sig) → Buf (Elt Bits) ℓ) : Prop :=
  True

def Pre_KernelIdeal (m : (ℓ : Loc Cert.KernelIdeal.nD Cert.KernelIdeal.τ Cert.KernelIdeal.sig) → Buf (Elt Ideal) ℓ) : Prop :=
  True

def Pre_KernelIdeal_finite_scores_KernelIdeal [hPre_finite_scores_KernelIdeal : Cert.Pre_finite_scores_KernelIdeal.Facts] (m : (ℓ : Loc Cert.KernelIdeal.nD Cert.KernelIdeal.τ Cert.KernelIdeal.sig) → Buf (Elt Ideal) ℓ) : Prop :=
  ∀ c : Dev Cert.KernelIdeal.nD,
    (Cert.Pre_finite_scores_KernelIdeal.fn (F := Ideal) (m ((c.tc : Thread Cert.KernelIdeal.nD Cert.KernelIdeal.τ).loc Cert.KernelIdeal.main_arg0)) (m ((c.tc : Thread Cert.KernelIdeal.nD Cert.KernelIdeal.τ).loc Cert.KernelIdeal.main_arg1)) (m ((c.tc : Thread Cert.KernelIdeal.nD Cert.KernelIdeal.τ).loc Cert.KernelIdeal.main_arg2)) (m ((c.tc : Thread Cert.KernelIdeal.nD Cert.KernelIdeal.τ).loc Cert.KernelIdeal.main_arg3)) (m ((c.tc : Thread Cert.KernelIdeal.nD Cert.KernelIdeal.τ).loc Cert.KernelIdeal.main_arg4)) (m ((c.tc : Thread Cert.KernelIdeal.nD Cert.KernelIdeal.τ).loc Cert.KernelIdeal.main_arg5)) (m ((c.tc : Thread Cert.KernelIdeal.nD Cert.KernelIdeal.τ).loc Cert.KernelIdeal.main_arg6))).1 = (fun _ => 1#1)
    ∧ (Cert.Pre_finite_scores_KernelIdeal.fn (F := Ideal) (m ((c.tc : Thread Cert.KernelIdeal.nD Cert.KernelIdeal.τ).loc Cert.KernelIdeal.main_arg0)) (m ((c.tc : Thread Cert.KernelIdeal.nD Cert.KernelIdeal.τ).loc Cert.KernelIdeal.main_arg1)) (m ((c.tc : Thread Cert.KernelIdeal.nD Cert.KernelIdeal.τ).loc Cert.KernelIdeal.main_arg2)) (m ((c.tc : Thread Cert.KernelIdeal.nD Cert.KernelIdeal.τ).loc Cert.KernelIdeal.main_arg3)) (m ((c.tc : Thread Cert.KernelIdeal.nD Cert.KernelIdeal.τ).loc Cert.KernelIdeal.main_arg4)) (m ((c.tc : Thread Cert.KernelIdeal.nD Cert.KernelIdeal.τ).loc Cert.KernelIdeal.main_arg5)) (m ((c.tc : Thread Cert.KernelIdeal.nD Cert.KernelIdeal.τ).loc Cert.KernelIdeal.main_arg6))).2.1 = (fun _ => 1#1)
    ∧ (Cert.Pre_finite_scores_KernelIdeal.fn (F := Ideal) (m ((c.tc : Thread Cert.KernelIdeal.nD Cert.KernelIdeal.τ).loc Cert.KernelIdeal.main_arg0)) (m ((c.tc : Thread Cert.KernelIdeal.nD Cert.KernelIdeal.τ).loc Cert.KernelIdeal.main_arg1)) (m ((c.tc : Thread Cert.KernelIdeal.nD Cert.KernelIdeal.τ).loc Cert.KernelIdeal.main_arg2)) (m ((c.tc : Thread Cert.KernelIdeal.nD Cert.KernelIdeal.τ).loc Cert.KernelIdeal.main_arg3)) (m ((c.tc : Thread Cert.KernelIdeal.nD Cert.KernelIdeal.τ).loc Cert.KernelIdeal.main_arg4)) (m ((c.tc : Thread Cert.KernelIdeal.nD Cert.KernelIdeal.τ).loc Cert.KernelIdeal.main_arg5)) (m ((c.tc : Thread Cert.KernelIdeal.nD Cert.KernelIdeal.τ).loc Cert.KernelIdeal.main_arg6))).2.2.1 = (fun _ => 1#1)
    ∧ (Cert.Pre_finite_scores_KernelIdeal.fn (F := Ideal) (m ((c.tc : Thread Cert.KernelIdeal.nD Cert.KernelIdeal.τ).loc Cert.KernelIdeal.main_arg0)) (m ((c.tc : Thread Cert.KernelIdeal.nD Cert.KernelIdeal.τ).loc Cert.KernelIdeal.main_arg1)) (m ((c.tc : Thread Cert.KernelIdeal.nD Cert.KernelIdeal.τ).loc Cert.KernelIdeal.main_arg2)) (m ((c.tc : Thread Cert.KernelIdeal.nD Cert.KernelIdeal.τ).loc Cert.KernelIdeal.main_arg3)) (m ((c.tc : Thread Cert.KernelIdeal.nD Cert.KernelIdeal.τ).loc Cert.KernelIdeal.main_arg4)) (m ((c.tc : Thread Cert.KernelIdeal.nD Cert.KernelIdeal.τ).loc Cert.KernelIdeal.main_arg5)) (m ((c.tc : Thread Cert.KernelIdeal.nD Cert.KernelIdeal.τ).loc Cert.KernelIdeal.main_arg6))).2.2.2.1 = (fun _ => 1#1)
    ∧ (Cert.Pre_finite_scores_KernelIdeal.fn (F := Ideal) (m ((c.tc : Thread Cert.KernelIdeal.nD Cert.KernelIdeal.τ).loc Cert.KernelIdeal.main_arg0)) (m ((c.tc : Thread Cert.KernelIdeal.nD Cert.KernelIdeal.τ).loc Cert.KernelIdeal.main_arg1)) (m ((c.tc : Thread Cert.KernelIdeal.nD Cert.KernelIdeal.τ).loc Cert.KernelIdeal.main_arg2)) (m ((c.tc : Thread Cert.KernelIdeal.nD Cert.KernelIdeal.τ).loc Cert.KernelIdeal.main_arg3)) (m ((c.tc : Thread Cert.KernelIdeal.nD Cert.KernelIdeal.τ).loc Cert.KernelIdeal.main_arg4)) (m ((c.tc : Thread Cert.KernelIdeal.nD Cert.KernelIdeal.τ).loc Cert.KernelIdeal.main_arg5)) (m ((c.tc : Thread Cert.KernelIdeal.nD Cert.KernelIdeal.τ).loc Cert.KernelIdeal.main_arg6))).2.2.2.2 = (fun _ => 1#1)

def Pre_ReferenceIdeal (m : (ℓ : Loc Cert.ReferenceIdeal.nD Cert.ReferenceIdeal.τ Cert.ReferenceIdeal.sig) → Buf (Elt Ideal) ℓ) : Prop :=
  True

def Pre_ReferenceIdeal_finite_scores_ReferenceIdeal [hPre_finite_scores_ReferenceIdeal : Cert.Pre_finite_scores_ReferenceIdeal.Facts] (m : (ℓ : Loc Cert.ReferenceIdeal.nD Cert.ReferenceIdeal.τ Cert.ReferenceIdeal.sig) → Buf (Elt Ideal) ℓ) : Prop :=
  ∀ c : Dev Cert.ReferenceIdeal.nD,
    (Cert.Pre_finite_scores_ReferenceIdeal.fn (F := Ideal) (m ((c.tc : Thread Cert.ReferenceIdeal.nD Cert.ReferenceIdeal.τ).loc Cert.ReferenceIdeal.main_arg0)) (m ((c.tc : Thread Cert.ReferenceIdeal.nD Cert.ReferenceIdeal.τ).loc Cert.ReferenceIdeal.main_arg1)) (m ((c.tc : Thread Cert.ReferenceIdeal.nD Cert.ReferenceIdeal.τ).loc Cert.ReferenceIdeal.main_arg2)) (m ((c.tc : Thread Cert.ReferenceIdeal.nD Cert.ReferenceIdeal.τ).loc Cert.ReferenceIdeal.main_arg3)) (m ((c.tc : Thread Cert.ReferenceIdeal.nD Cert.ReferenceIdeal.τ).loc Cert.ReferenceIdeal.main_arg4)) (m ((c.tc : Thread Cert.ReferenceIdeal.nD Cert.ReferenceIdeal.τ).loc Cert.ReferenceIdeal.main_arg5)) (m ((c.tc : Thread Cert.ReferenceIdeal.nD Cert.ReferenceIdeal.τ).loc Cert.ReferenceIdeal.main_arg6))).1 = (fun _ => 1#1)
    ∧ (Cert.Pre_finite_scores_ReferenceIdeal.fn (F := Ideal) (m ((c.tc : Thread Cert.ReferenceIdeal.nD Cert.ReferenceIdeal.τ).loc Cert.ReferenceIdeal.main_arg0)) (m ((c.tc : Thread Cert.ReferenceIdeal.nD Cert.ReferenceIdeal.τ).loc Cert.ReferenceIdeal.main_arg1)) (m ((c.tc : Thread Cert.ReferenceIdeal.nD Cert.ReferenceIdeal.τ).loc Cert.ReferenceIdeal.main_arg2)) (m ((c.tc : Thread Cert.ReferenceIdeal.nD Cert.ReferenceIdeal.τ).loc Cert.ReferenceIdeal.main_arg3)) (m ((c.tc : Thread Cert.ReferenceIdeal.nD Cert.ReferenceIdeal.τ).loc Cert.ReferenceIdeal.main_arg4)) (m ((c.tc : Thread Cert.ReferenceIdeal.nD Cert.ReferenceIdeal.τ).loc Cert.ReferenceIdeal.main_arg5)) (m ((c.tc : Thread Cert.ReferenceIdeal.nD Cert.ReferenceIdeal.τ).loc Cert.ReferenceIdeal.main_arg6))).2.1 = (fun _ => 1#1)
    ∧ (Cert.Pre_finite_scores_ReferenceIdeal.fn (F := Ideal) (m ((c.tc : Thread Cert.ReferenceIdeal.nD Cert.ReferenceIdeal.τ).loc Cert.ReferenceIdeal.main_arg0)) (m ((c.tc : Thread Cert.ReferenceIdeal.nD Cert.ReferenceIdeal.τ).loc Cert.ReferenceIdeal.main_arg1)) (m ((c.tc : Thread Cert.ReferenceIdeal.nD Cert.ReferenceIdeal.τ).loc Cert.ReferenceIdeal.main_arg2)) (m ((c.tc : Thread Cert.ReferenceIdeal.nD Cert.ReferenceIdeal.τ).loc Cert.ReferenceIdeal.main_arg3)) (m ((c.tc : Thread Cert.ReferenceIdeal.nD Cert.ReferenceIdeal.τ).loc Cert.ReferenceIdeal.main_arg4)) (m ((c.tc : Thread Cert.ReferenceIdeal.nD Cert.ReferenceIdeal.τ).loc Cert.ReferenceIdeal.main_arg5)) (m ((c.tc : Thread Cert.ReferenceIdeal.nD Cert.ReferenceIdeal.τ).loc Cert.ReferenceIdeal.main_arg6))).2.2.1 = (fun _ => 1#1)
    ∧ (Cert.Pre_finite_scores_ReferenceIdeal.fn (F := Ideal) (m ((c.tc : Thread Cert.ReferenceIdeal.nD Cert.ReferenceIdeal.τ).loc Cert.ReferenceIdeal.main_arg0)) (m ((c.tc : Thread Cert.ReferenceIdeal.nD Cert.ReferenceIdeal.τ).loc Cert.ReferenceIdeal.main_arg1)) (m ((c.tc : Thread Cert.ReferenceIdeal.nD Cert.ReferenceIdeal.τ).loc Cert.ReferenceIdeal.main_arg2)) (m ((c.tc : Thread Cert.ReferenceIdeal.nD Cert.ReferenceIdeal.τ).loc Cert.ReferenceIdeal.main_arg3)) (m ((c.tc : Thread Cert.ReferenceIdeal.nD Cert.ReferenceIdeal.τ).loc Cert.ReferenceIdeal.main_arg4)) (m ((c.tc : Thread Cert.ReferenceIdeal.nD Cert.ReferenceIdeal.τ).loc Cert.ReferenceIdeal.main_arg5)) (m ((c.tc : Thread Cert.ReferenceIdeal.nD Cert.ReferenceIdeal.τ).loc Cert.ReferenceIdeal.main_arg6))).2.2.2.1 = (fun _ => 1#1)
    ∧ (Cert.Pre_finite_scores_ReferenceIdeal.fn (F := Ideal) (m ((c.tc : Thread Cert.ReferenceIdeal.nD Cert.ReferenceIdeal.τ).loc Cert.ReferenceIdeal.main_arg0)) (m ((c.tc : Thread Cert.ReferenceIdeal.nD Cert.ReferenceIdeal.τ).loc Cert.ReferenceIdeal.main_arg1)) (m ((c.tc : Thread Cert.ReferenceIdeal.nD Cert.ReferenceIdeal.τ).loc Cert.ReferenceIdeal.main_arg2)) (m ((c.tc : Thread Cert.ReferenceIdeal.nD Cert.ReferenceIdeal.τ).loc Cert.ReferenceIdeal.main_arg3)) (m ((c.tc : Thread Cert.ReferenceIdeal.nD Cert.ReferenceIdeal.τ).loc Cert.ReferenceIdeal.main_arg4)) (m ((c.tc : Thread Cert.ReferenceIdeal.nD Cert.ReferenceIdeal.τ).loc Cert.ReferenceIdeal.main_arg5)) (m ((c.tc : Thread Cert.ReferenceIdeal.nD Cert.ReferenceIdeal.τ).loc Cert.ReferenceIdeal.main_arg6))).2.2.2.2 = (fun _ => 1#1)

def quiescent_Kernel [hKernel : Cert.Kernel.Facts] : Prop :=
  ∀ (m : (ℓ : Loc Cert.Kernel.nD Cert.Kernel.τ Cert.Kernel.sig) → Buf (Elt Bits) ℓ) (g : Dev Cert.Kernel.nD → PrngReg), Pre_Kernel m →
    θ_run (Cert.Kernel.defs (F := Bits)) (onTc (τ := Cert.Kernel.τ) (Cert.Kernel.main (F := Bits))) ⟨m, fun _ => 0, g⟩ (fun r => (∀ c : Dev Cert.Kernel.nD,
      r.2.mem ((c.tc : Thread Cert.Kernel.nD Cert.Kernel.τ).loc Cert.Kernel.main_arg0) = m ((c.tc : Thread Cert.Kernel.nD Cert.Kernel.τ).loc Cert.Kernel.main_arg0)
      ∧ r.2.mem ((c.tc : Thread Cert.Kernel.nD Cert.Kernel.τ).loc Cert.Kernel.main_arg1) = m ((c.tc : Thread Cert.Kernel.nD Cert.Kernel.τ).loc Cert.Kernel.main_arg1)
      ∧ r.2.mem ((c.tc : Thread Cert.Kernel.nD Cert.Kernel.τ).loc Cert.Kernel.main_arg2) = m ((c.tc : Thread Cert.Kernel.nD Cert.Kernel.τ).loc Cert.Kernel.main_arg2)
      ∧ r.2.mem ((c.tc : Thread Cert.Kernel.nD Cert.Kernel.τ).loc Cert.Kernel.main_arg3) = m ((c.tc : Thread Cert.Kernel.nD Cert.Kernel.τ).loc Cert.Kernel.main_arg3)
      ∧ r.2.mem ((c.tc : Thread Cert.Kernel.nD Cert.Kernel.τ).loc Cert.Kernel.main_arg4) = m ((c.tc : Thread Cert.Kernel.nD Cert.Kernel.τ).loc Cert.Kernel.main_arg4)
      ∧ r.2.mem ((c.tc : Thread Cert.Kernel.nD Cert.Kernel.τ).loc Cert.Kernel.main_arg5) = m ((c.tc : Thread Cert.Kernel.nD Cert.Kernel.τ).loc Cert.Kernel.main_arg5)
      ∧ r.2.mem ((c.tc : Thread Cert.Kernel.nD Cert.Kernel.τ).loc Cert.Kernel.main_arg6) = m ((c.tc : Thread Cert.Kernel.nD Cert.Kernel.τ).loc Cert.Kernel.main_arg6))
      ∧ r.2.sem = fun _ => 0)

def quiescent_KernelIdeal [hKernelIdeal : Cert.KernelIdeal.Facts] : Prop :=
  ∀ (m : (ℓ : Loc Cert.KernelIdeal.nD Cert.KernelIdeal.τ Cert.KernelIdeal.sig) → Buf (Elt Ideal) ℓ) (g : Dev Cert.KernelIdeal.nD → PrngReg), Pre_KernelIdeal m →
    θ_run (Cert.KernelIdeal.defs (F := Ideal)) (onTc (τ := Cert.KernelIdeal.τ) (Cert.KernelIdeal.main (F := Ideal))) ⟨m, fun _ => 0, g⟩ (fun r => (∀ c : Dev Cert.KernelIdeal.nD,
      r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
      ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
      ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
      ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3)
      ∧ r.2.mem ((c.tc : Thread Cert.KernelIdeal.nD Cert.KernelIdeal.τ).loc Cert.KernelIdeal.main_arg4) = m ((c.tc : Thread Cert.KernelIdeal.nD Cert.KernelIdeal.τ).loc Cert.KernelIdeal.main_arg4)
      ∧ r.2.mem ((c.tc : Thread Cert.KernelIdeal.nD Cert.KernelIdeal.τ).loc Cert.KernelIdeal.main_arg5) = m ((c.tc : Thread Cert.KernelIdeal.nD Cert.KernelIdeal.τ).loc Cert.KernelIdeal.main_arg5)
      ∧ r.2.mem ((c.tc : Thread Cert.KernelIdeal.nD Cert.KernelIdeal.τ).loc Cert.KernelIdeal.main_arg6) = m ((c.tc : Thread Cert.KernelIdeal.nD Cert.KernelIdeal.τ).loc Cert.KernelIdeal.main_arg6))
      ∧ r.2.sem = fun _ => 0)

def quiescent_KernelIdeal_pre_finite_scores_KernelIdeal [hKernelIdeal : Cert.KernelIdeal.Facts] [hPre_finite_scores_KernelIdeal : Cert.Pre_finite_scores_KernelIdeal.Facts] : Prop :=
  ∀ (m : (ℓ : Loc Cert.KernelIdeal.nD Cert.KernelIdeal.τ Cert.KernelIdeal.sig) → Buf (Elt Ideal) ℓ) (g : Dev Cert.KernelIdeal.nD → PrngReg), Pre_KernelIdeal_finite_scores_KernelIdeal m →
    θ_run (Cert.KernelIdeal.defs (F := Ideal)) (onTc (τ := Cert.KernelIdeal.τ) (Cert.KernelIdeal.main (F := Ideal))) ⟨m, fun _ => 0, g⟩ (fun r => (∀ c : Dev Cert.KernelIdeal.nD,
      r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
      ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
      ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
      ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3)
      ∧ r.2.mem ((c.tc : Thread Cert.KernelIdeal.nD Cert.KernelIdeal.τ).loc Cert.KernelIdeal.main_arg4) = m ((c.tc : Thread Cert.KernelIdeal.nD Cert.KernelIdeal.τ).loc Cert.KernelIdeal.main_arg4)
      ∧ r.2.mem ((c.tc : Thread Cert.KernelIdeal.nD Cert.KernelIdeal.τ).loc Cert.KernelIdeal.main_arg5) = m ((c.tc : Thread Cert.KernelIdeal.nD Cert.KernelIdeal.τ).loc Cert.KernelIdeal.main_arg5)
      ∧ r.2.mem ((c.tc : Thread Cert.KernelIdeal.nD Cert.KernelIdeal.τ).loc Cert.KernelIdeal.main_arg6) = m ((c.tc : Thread Cert.KernelIdeal.nD Cert.KernelIdeal.τ).loc Cert.KernelIdeal.main_arg6))
      ∧ r.2.sem = fun _ => 0)

def quiescent_ReferenceIdeal [hReferenceIdeal : Cert.ReferenceIdeal.Facts] : Prop :=
  ∀ (m : (ℓ : Loc Cert.ReferenceIdeal.nD Cert.ReferenceIdeal.τ Cert.ReferenceIdeal.sig) → Buf (Elt Ideal) ℓ) (g : Dev Cert.ReferenceIdeal.nD → PrngReg), Pre_ReferenceIdeal m →
    θ_run (Cert.ReferenceIdeal.defs (F := Ideal)) (onTc (τ := Cert.ReferenceIdeal.τ) (Cert.ReferenceIdeal.main (F := Ideal))) ⟨m, fun _ => 0, g⟩ (fun r => (∀ c : Dev Cert.ReferenceIdeal.nD,
      r.2.mem ((c.tc : Thread Cert.ReferenceIdeal.nD Cert.ReferenceIdeal.τ).loc Cert.ReferenceIdeal.main_arg0) = m ((c.tc : Thread Cert.ReferenceIdeal.nD Cert.ReferenceIdeal.τ).loc Cert.ReferenceIdeal.main_arg0)
      ∧ r.2.mem ((c.tc : Thread Cert.ReferenceIdeal.nD Cert.ReferenceIdeal.τ).loc Cert.ReferenceIdeal.main_arg1) = m ((c.tc : Thread Cert.ReferenceIdeal.nD Cert.ReferenceIdeal.τ).loc Cert.ReferenceIdeal.main_arg1)
      ∧ r.2.mem ((c.tc : Thread Cert.ReferenceIdeal.nD Cert.ReferenceIdeal.τ).loc Cert.ReferenceIdeal.main_arg2) = m ((c.tc : Thread Cert.ReferenceIdeal.nD Cert.ReferenceIdeal.τ).loc Cert.ReferenceIdeal.main_arg2)
      ∧ r.2.mem ((c.tc : Thread Cert.ReferenceIdeal.nD Cert.ReferenceIdeal.τ).loc Cert.ReferenceIdeal.main_arg3) = m ((c.tc : Thread Cert.ReferenceIdeal.nD Cert.ReferenceIdeal.τ).loc Cert.ReferenceIdeal.main_arg3)
      ∧ r.2.mem ((c.tc : Thread Cert.ReferenceIdeal.nD Cert.ReferenceIdeal.τ).loc Cert.ReferenceIdeal.main_arg4) = m ((c.tc : Thread Cert.ReferenceIdeal.nD Cert.ReferenceIdeal.τ).loc Cert.ReferenceIdeal.main_arg4)
      ∧ r.2.mem ((c.tc : Thread Cert.ReferenceIdeal.nD Cert.ReferenceIdeal.τ).loc Cert.ReferenceIdeal.main_arg5) = m ((c.tc : Thread Cert.ReferenceIdeal.nD Cert.ReferenceIdeal.τ).loc Cert.ReferenceIdeal.main_arg5)
      ∧ r.2.mem ((c.tc : Thread Cert.ReferenceIdeal.nD Cert.ReferenceIdeal.τ).loc Cert.ReferenceIdeal.main_arg6) = m ((c.tc : Thread Cert.ReferenceIdeal.nD Cert.ReferenceIdeal.τ).loc Cert.ReferenceIdeal.main_arg6))
      ∧ r.2.sem = fun _ => 0)

def quiescent_ReferenceIdeal_pre_finite_scores_ReferenceIdeal [hReferenceIdeal : Cert.ReferenceIdeal.Facts] [hPre_finite_scores_ReferenceIdeal : Cert.Pre_finite_scores_ReferenceIdeal.Facts] : Prop :=
  ∀ (m : (ℓ : Loc Cert.ReferenceIdeal.nD Cert.ReferenceIdeal.τ Cert.ReferenceIdeal.sig) → Buf (Elt Ideal) ℓ) (g : Dev Cert.ReferenceIdeal.nD → PrngReg), Pre_ReferenceIdeal_finite_scores_ReferenceIdeal m →
    θ_run (Cert.ReferenceIdeal.defs (F := Ideal)) (onTc (τ := Cert.ReferenceIdeal.τ) (Cert.ReferenceIdeal.main (F := Ideal))) ⟨m, fun _ => 0, g⟩ (fun r => (∀ c : Dev Cert.ReferenceIdeal.nD,
      r.2.mem ((c.tc : Thread Cert.ReferenceIdeal.nD Cert.ReferenceIdeal.τ).loc Cert.ReferenceIdeal.main_arg0) = m ((c.tc : Thread Cert.ReferenceIdeal.nD Cert.ReferenceIdeal.τ).loc Cert.ReferenceIdeal.main_arg0)
      ∧ r.2.mem ((c.tc : Thread Cert.ReferenceIdeal.nD Cert.ReferenceIdeal.τ).loc Cert.ReferenceIdeal.main_arg1) = m ((c.tc : Thread Cert.ReferenceIdeal.nD Cert.ReferenceIdeal.τ).loc Cert.ReferenceIdeal.main_arg1)
      ∧ r.2.mem ((c.tc : Thread Cert.ReferenceIdeal.nD Cert.ReferenceIdeal.τ).loc Cert.ReferenceIdeal.main_arg2) = m ((c.tc : Thread Cert.ReferenceIdeal.nD Cert.ReferenceIdeal.τ).loc Cert.ReferenceIdeal.main_arg2)
      ∧ r.2.mem ((c.tc : Thread Cert.ReferenceIdeal.nD Cert.ReferenceIdeal.τ).loc Cert.ReferenceIdeal.main_arg3) = m ((c.tc : Thread Cert.ReferenceIdeal.nD Cert.ReferenceIdeal.τ).loc Cert.ReferenceIdeal.main_arg3)
      ∧ r.2.mem ((c.tc : Thread Cert.ReferenceIdeal.nD Cert.ReferenceIdeal.τ).loc Cert.ReferenceIdeal.main_arg4) = m ((c.tc : Thread Cert.ReferenceIdeal.nD Cert.ReferenceIdeal.τ).loc Cert.ReferenceIdeal.main_arg4)
      ∧ r.2.mem ((c.tc : Thread Cert.ReferenceIdeal.nD Cert.ReferenceIdeal.τ).loc Cert.ReferenceIdeal.main_arg5) = m ((c.tc : Thread Cert.ReferenceIdeal.nD Cert.ReferenceIdeal.τ).loc Cert.ReferenceIdeal.main_arg5)
      ∧ r.2.mem ((c.tc : Thread Cert.ReferenceIdeal.nD Cert.ReferenceIdeal.τ).loc Cert.ReferenceIdeal.main_arg6) = m ((c.tc : Thread Cert.ReferenceIdeal.nD Cert.ReferenceIdeal.τ).loc Cert.ReferenceIdeal.main_arg6))
      ∧ r.2.sem = fun _ => 0)

def preserves_Kernel_KernelIdeal : Prop :=
  True

def algebraic_KernelIdeal_ReferenceIdeal_pre_finite_scores_KernelIdeal [hKernelIdeal : Cert.KernelIdeal.Facts] [hReferenceIdeal : Cert.ReferenceIdeal.Facts] [hPre_finite_scores_KernelIdeal : Cert.Pre_finite_scores_KernelIdeal.Facts] : Prop :=
  ∀ (m : (ℓ : Loc Cert.KernelIdeal.nD Cert.KernelIdeal.τ Cert.KernelIdeal.sig) → Buf (Elt Ideal) ℓ) (g : Dev Cert.KernelIdeal.nD → PrngReg)
    (m' : (ℓ : Loc Cert.ReferenceIdeal.nD Cert.ReferenceIdeal.τ Cert.ReferenceIdeal.sig) → Buf (Elt Ideal) ℓ) (g' : Dev Cert.ReferenceIdeal.nD → PrngReg), Pre_KernelIdeal_finite_scores_KernelIdeal m →
    (∀ c : Dev Cert.KernelIdeal.nD,
      m ((c.tc : Thread Cert.KernelIdeal.nD Cert.KernelIdeal.τ).loc Cert.KernelIdeal.main_arg0) = m' (((0 : Dev Cert.ReferenceIdeal.nD).tc : Thread Cert.ReferenceIdeal.nD Cert.ReferenceIdeal.τ).loc Cert.ReferenceIdeal.main_arg0)
      ∧ m ((c.tc : Thread Cert.KernelIdeal.nD Cert.KernelIdeal.τ).loc Cert.KernelIdeal.main_arg1) = Layout.block ⟨2, ![1024, 1024]⟩ ⟨2, ![1024, 32768]⟩ 1 32 c (m' (((0 : Dev Cert.ReferenceIdeal.nD).tc : Thread Cert.ReferenceIdeal.nD Cert.ReferenceIdeal.τ).loc Cert.ReferenceIdeal.main_arg1))
      ∧ m ((c.tc : Thread Cert.KernelIdeal.nD Cert.KernelIdeal.τ).loc Cert.KernelIdeal.main_arg2) = Layout.block ⟨2, ![1024, 1024]⟩ ⟨2, ![1024, 32768]⟩ 1 32 c (m' (((0 : Dev Cert.ReferenceIdeal.nD).tc : Thread Cert.ReferenceIdeal.nD Cert.ReferenceIdeal.τ).loc Cert.ReferenceIdeal.main_arg2))
      ∧ m ((c.tc : Thread Cert.KernelIdeal.nD Cert.KernelIdeal.τ).loc Cert.KernelIdeal.main_arg3) = Layout.block ⟨2, ![1024, 1024]⟩ ⟨2, ![1024, 32768]⟩ 1 32 c (m' (((0 : Dev Cert.ReferenceIdeal.nD).tc : Thread Cert.ReferenceIdeal.nD Cert.ReferenceIdeal.τ).loc Cert.ReferenceIdeal.main_arg3))
      ∧ m ((c.tc : Thread Cert.KernelIdeal.nD Cert.KernelIdeal.τ).loc Cert.KernelIdeal.main_arg4) = Layout.block ⟨2, ![1024, 1024]⟩ ⟨2, ![32768, 1024]⟩ 0 32 c (m' (((0 : Dev Cert.ReferenceIdeal.nD).tc : Thread Cert.ReferenceIdeal.nD Cert.ReferenceIdeal.τ).loc Cert.ReferenceIdeal.main_arg4))
      ∧ m ((c.tc : Thread Cert.KernelIdeal.nD Cert.KernelIdeal.τ).loc Cert.KernelIdeal.main_arg5) = m' (((0 : Dev Cert.ReferenceIdeal.nD).tc : Thread Cert.ReferenceIdeal.nD Cert.ReferenceIdeal.τ).loc Cert.ReferenceIdeal.main_arg5)
      ∧ m ((c.tc : Thread Cert.KernelIdeal.nD Cert.KernelIdeal.τ).loc Cert.KernelIdeal.main_arg6) = m' (((0 : Dev Cert.ReferenceIdeal.nD).tc : Thread Cert.ReferenceIdeal.nD Cert.ReferenceIdeal.τ).loc Cert.ReferenceIdeal.main_arg6)) →
    ∃ (v0 : Buf (Elt Ideal) (((0 : Dev Cert.ReferenceIdeal.nD).tc : Thread Cert.ReferenceIdeal.nD Cert.ReferenceIdeal.τ).loc Cert.ReferenceIdeal.main_v66)),
      θ_run (Cert.KernelIdeal.defs (F := Ideal)) (onTc (τ := Cert.KernelIdeal.τ) (Cert.KernelIdeal.main (F := Ideal))) ⟨m, fun _ => 0, g⟩ (fun r => ∀ c : Dev Cert.KernelIdeal.nD,
          r.2.mem ((c.tc : Thread Cert.KernelIdeal.nD Cert.KernelIdeal.τ).loc Cert.KernelIdeal.main_v1) = v0
          ∧ r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
          ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
          ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
          ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3)
          ∧ r.2.mem ((c.tc : Thread Cert.KernelIdeal.nD Cert.KernelIdeal.τ).loc Cert.KernelIdeal.main_arg4) = m ((c.tc : Thread Cert.KernelIdeal.nD Cert.KernelIdeal.τ).loc Cert.KernelIdeal.main_arg4)
          ∧ r.2.mem ((c.tc : Thread Cert.KernelIdeal.nD Cert.KernelIdeal.τ).loc Cert.KernelIdeal.main_arg5) = m ((c.tc : Thread Cert.KernelIdeal.nD Cert.KernelIdeal.τ).loc Cert.KernelIdeal.main_arg5)
          ∧ r.2.mem ((c.tc : Thread Cert.KernelIdeal.nD Cert.KernelIdeal.τ).loc Cert.KernelIdeal.main_arg6) = m ((c.tc : Thread Cert.KernelIdeal.nD Cert.KernelIdeal.τ).loc Cert.KernelIdeal.main_arg6))
      ∧ θ_run (Cert.ReferenceIdeal.defs (F := Ideal)) (onTc (τ := Cert.ReferenceIdeal.τ) (Cert.ReferenceIdeal.main (F := Ideal))) ⟨m', fun _ => 0, g'⟩ (fun r =>
          r.2.mem (((0 : Dev Cert.ReferenceIdeal.nD).tc : Thread Cert.ReferenceIdeal.nD Cert.ReferenceIdeal.τ).loc Cert.ReferenceIdeal.main_v66) = v0
          ∧ r.2.mem (((0 : Dev Cert.ReferenceIdeal.nD).tc : Thread Cert.ReferenceIdeal.nD Cert.ReferenceIdeal.τ).loc Cert.ReferenceIdeal.main_arg0) = m' (((0 : Dev Cert.ReferenceIdeal.nD).tc : Thread Cert.ReferenceIdeal.nD Cert.ReferenceIdeal.τ).loc Cert.ReferenceIdeal.main_arg0)
          ∧ r.2.mem (((0 : Dev Cert.ReferenceIdeal.nD).tc : Thread Cert.ReferenceIdeal.nD Cert.ReferenceIdeal.τ).loc Cert.ReferenceIdeal.main_arg1) = m' (((0 : Dev Cert.ReferenceIdeal.nD).tc : Thread Cert.ReferenceIdeal.nD Cert.ReferenceIdeal.τ).loc Cert.ReferenceIdeal.main_arg1)
          ∧ r.2.mem (((0 : Dev Cert.ReferenceIdeal.nD).tc : Thread Cert.ReferenceIdeal.nD Cert.ReferenceIdeal.τ).loc Cert.ReferenceIdeal.main_arg2) = m' (((0 : Dev Cert.ReferenceIdeal.nD).tc : Thread Cert.ReferenceIdeal.nD Cert.ReferenceIdeal.τ).loc Cert.ReferenceIdeal.main_arg2)
          ∧ r.2.mem (((0 : Dev Cert.ReferenceIdeal.nD).tc : Thread Cert.ReferenceIdeal.nD Cert.ReferenceIdeal.τ).loc Cert.ReferenceIdeal.main_arg3) = m' (((0 : Dev Cert.ReferenceIdeal.nD).tc : Thread Cert.ReferenceIdeal.nD Cert.ReferenceIdeal.τ).loc Cert.ReferenceIdeal.main_arg3)
          ∧ r.2.mem (((0 : Dev Cert.ReferenceIdeal.nD).tc : Thread Cert.ReferenceIdeal.nD Cert.ReferenceIdeal.τ).loc Cert.ReferenceIdeal.main_arg4) = m' (((0 : Dev Cert.ReferenceIdeal.nD).tc : Thread Cert.ReferenceIdeal.nD Cert.ReferenceIdeal.τ).loc Cert.ReferenceIdeal.main_arg4)
          ∧ r.2.mem (((0 : Dev Cert.ReferenceIdeal.nD).tc : Thread Cert.ReferenceIdeal.nD Cert.ReferenceIdeal.τ).loc Cert.ReferenceIdeal.main_arg5) = m' (((0 : Dev Cert.ReferenceIdeal.nD).tc : Thread Cert.ReferenceIdeal.nD Cert.ReferenceIdeal.τ).loc Cert.ReferenceIdeal.main_arg5)
          ∧ r.2.mem (((0 : Dev Cert.ReferenceIdeal.nD).tc : Thread Cert.ReferenceIdeal.nD Cert.ReferenceIdeal.τ).loc Cert.ReferenceIdeal.main_arg6) = m' (((0 : Dev Cert.ReferenceIdeal.nD).tc : Thread Cert.ReferenceIdeal.nD Cert.ReferenceIdeal.τ).loc Cert.ReferenceIdeal.main_arg6))

def Claim : Prop :=
  ∃ (hKernel : Cert.Kernel.Facts) (hKernelIdeal : Cert.KernelIdeal.Facts) (hReferenceIdeal : Cert.ReferenceIdeal.Facts) (hPre_finite_scores_KernelIdeal : Cert.Pre_finite_scores_KernelIdeal.Facts) (hPre_finite_scores_ReferenceIdeal : Cert.Pre_finite_scores_ReferenceIdeal.Facts),
    quiescent_Kernel (hKernel := hKernel)
    ∧ quiescent_KernelIdeal (hKernelIdeal := hKernelIdeal)
    ∧ quiescent_KernelIdeal_pre_finite_scores_KernelIdeal (hKernelIdeal := hKernelIdeal) (hPre_finite_scores_KernelIdeal := hPre_finite_scores_KernelIdeal)
    ∧ quiescent_ReferenceIdeal (hReferenceIdeal := hReferenceIdeal)
    ∧ quiescent_ReferenceIdeal_pre_finite_scores_ReferenceIdeal (hReferenceIdeal := hReferenceIdeal) (hPre_finite_scores_ReferenceIdeal := hPre_finite_scores_ReferenceIdeal)
    ∧ preserves_Kernel_KernelIdeal
    ∧ algebraic_KernelIdeal_ReferenceIdeal_pre_finite_scores_KernelIdeal (hKernelIdeal := hKernelIdeal) (hReferenceIdeal := hReferenceIdeal) (hPre_finite_scores_KernelIdeal := hPre_finite_scores_KernelIdeal)
-- ==== Pre_finite_scores_KernelIdeal.lean ====
abbrev S1x1024x1024 : Shape := ⟨3, ![1, 1024, 1024]⟩
abbrev S1024x1024 : Shape := ⟨2, ![1024, 1024]⟩
abbrev S1024x128 : Shape := ⟨2, ![1024, 128]⟩
abbrev S_ : Shape := ⟨0, ![]⟩

class Facts : Prop where
  bitsLt_bf16_f32 : FTy.bits .bf16 < FTy.bits .f32
  bcast_S_S1x1024x1024 : S_.BroadcastsInDim S1x1024x1024 (![] : Fin 0 → Fin S1x1024x1024.rank)
  bcast_S_S1024x1024 : S_.BroadcastsInDim S1024x1024 (![] : Fin 0 → Fin S1024x1024.rank)
  bcast_S_S1024x128 : S_.BroadcastsInDim S1024x128 (![] : Fin 0 → Fin S1024x128.rank)

variable [Facts]

def fn_part1 {F : FTy → Type} [FloatOps F] (main_v3 : IVec S1x1024x1024 1) (main_v7 : IVec S1024x1024 1) (main_v11 : IVec S1024x1024 1) (main_v15 : IVec S1024x128 1) (main_v17 : FVec F S1024x128 .f32) (main_v18 : FVec F S1024x128 .f32) : IVec S1x1024x1024 1 × IVec S1024x1024 1 × IVec S1024x1024 1 × IVec S1024x128 1 × IVec S1024x128 1 :=
  let main_v19 : IVec S1024x128 1 := cmpf .olt main_v17 main_v18
  (main_v3, main_v7, main_v11, main_v15, main_v19)

def fn {F : FTy → Type} [FloatOps F] (main_arg0 : FVec F S1x1024x1024 .bf16) (main_arg1 : FVec F S1024x1024 .bf16) (main_arg2 : FVec F S1024x1024 .bf16) (main_arg3 : FVec F S1024x1024 .bf16) (main_arg4 : FVec F S1024x1024 .bf16) (main_arg5 : FVec F S1024x128 .bf16) (main_arg6 : FVec F S1024x128 .bf16) : IVec S1x1024x1024 1 × IVec S1024x1024 1 × IVec S1024x1024 1 × IVec S1024x128 1 × IVec S1024x128 1 :=
  let main_v0 : FVec F S1x1024x1024 .f32 := (extf .f32 · bitsLt_bf16_f32) main_arg0
  let main_v1 : FVec F S1x1024x1024 .f32 := Host.absf main_v0
  let main_cst : FVec F S_ .f32 := constant S_ .f32 0x7F800000#32
  let main_v2 : FVec F S1x1024x1024 .f32 := broadcastInDim S1x1024x1024 ![] bcast_S_S1x1024x1024 main_cst
  let main_v3 : IVec S1x1024x1024 1 := cmpf .olt main_v1 main_v2
  let main_v4 : FVec F S1024x1024 .f32 := (extf .f32 · bitsLt_bf16_f32) main_arg1
  let main_v5 : FVec F S1024x1024 .f32 := Host.absf main_v4
  let main_cst_0 : FVec F S_ .f32 := constant S_ .f32 0x7F800000#32
  let main_v6 : FVec F S1024x1024 .f32 := broadcastInDim S1024x1024 ![] bcast_S_S1024x1024 main_cst_0
  let main_v7 : IVec S1024x1024 1 := cmpf .olt main_v5 main_v6
  let main_v8 : FVec F S1024x1024 .f32 := (extf .f32 · bitsLt_bf16_f32) main_arg2
  let main_v9 : FVec F S1024x1024 .f32 := Host.absf main_v8
  let main_cst_1 : FVec F S_ .f32 := constant S_ .f32 0x7F800000#32
  let main_v10 : FVec F S1024x1024 .f32 := broadcastInDim S1024x1024 ![] bcast_S_S1024x1024 main_cst_1
  let main_v11 : IVec S1024x1024 1 := cmpf .olt main_v9 main_v10
  let main_v12 : FVec F S1024x128 .f32 := (extf .f32 · bitsLt_bf16_f32) main_arg5
  let main_v13 : FVec F S1024x128 .f32 := Host.absf main_v12
  let main_cst_2 : FVec F S_ .f32 := constant S_ .f32 0x7F800000#32
  let main_v14 : FVec F S1024x128 .f32 := broadcastInDim S1024x128 ![] bcast_S_S1024x128 main_cst_2
  let main_v15 : IVec S1024x128 1 := cmpf .olt main_v13 main_v14
  let main_v16 : FVec F S1024x128 .f32 := (extf .f32 · bitsLt_bf16_f32) main_arg6
  let main_v17 : FVec F S1024x128 .f32 := Host.absf main_v16
  let main_cst_3 : FVec F S_ .f32 := constant S_ .f32 0x7F800000#32
  let main_v18 : FVec F S1024x128 .f32 := broadcastInDim S1024x128 ![] bcast_S_S1024x128 main_cst_3
  fn_part1 (F := F) main_v3 main_v7 main_v11 main_v15 main_v17 main_v18
-- ==== Pre_finite_scores_ReferenceIdeal.lean ====
abbrev S1x1024x1024 : Shape := ⟨3, ![1, 1024, 1024]⟩
abbrev S1024x32768 : Shape := ⟨2, ![1024, 32768]⟩
abbrev S32768x1024 : Shape := ⟨2, ![32768, 1024]⟩
abbrev S1024x128 : Shape := ⟨2, ![1024, 128]⟩
abbrev S_ : Shape := ⟨0, ![]⟩

class Facts : Prop where
  bitsLt_bf16_f32 : FTy.bits .bf16 < FTy.bits .f32
  bcast_S_S1x1024x1024 : S_.BroadcastsInDim S1x1024x1024 (![] : Fin 0 → Fin S1x1024x1024.rank)
  bcast_S_S1024x32768 : S_.BroadcastsInDim S1024x32768 (![] : Fin 0 → Fin S1024x32768.rank)
  bcast_S_S1024x128 : S_.BroadcastsInDim S1024x128 (![] : Fin 0 → Fin S1024x128.rank)

variable [Facts]

def fn_part1 {F : FTy → Type} [FloatOps F] (main_v3 : IVec S1x1024x1024 1) (main_v7 : IVec S1024x32768 1) (main_v11 : IVec S1024x32768 1) (main_v15 : IVec S1024x128 1) (main_v17 : FVec F S1024x128 .f32) (main_v18 : FVec F S1024x128 .f32) : IVec S1x1024x1024 1 × IVec S1024x32768 1 × IVec S1024x32768 1 × IVec S1024x128 1 × IVec S1024x128 1 :=
  let main_v19 : IVec S1024x128 1 := cmpf .olt main_v17 main_v18
  (main_v3, main_v7, main_v11, main_v15, main_v19)

def fn {F : FTy → Type} [FloatOps F] (main_arg0 : FVec F S1x1024x1024 .bf16) (main_arg1 : FVec F S1024x32768 .bf16) (main_arg2 : FVec F S1024x32768 .bf16) (main_arg3 : FVec F S1024x32768 .bf16) (main_arg4 : FVec F S32768x1024 .bf16) (main_arg5 : FVec F S1024x128 .bf16) (main_arg6 : FVec F S1024x128 .bf16) : IVec S1x1024x1024 1 × IVec S1024x32768 1 × IVec S1024x32768 1 × IVec S1024x128 1 × IVec S1024x128 1 :=
  let main_v0 : FVec F S1x1024x1024 .f32 := (extf .f32 · bitsLt_bf16_f32) main_arg0
  let main_v1 : FVec F S1x1024x1024 .f32 := Host.absf main_v0
  let main_cst : FVec F S_ .f32 := constant S_ .f32 0x7F800000#32
  let main_v2 : FVec F S1x1024x1024 .f32 := broadcastInDim S1x1024x1024 ![] bcast_S_S1x1024x1024 main_cst
  let main_v3 : IVec S1x1024x1024 1 := cmpf .olt main_v1 main_v2
  let main_v4 : FVec F S1024x32768 .f32 := (extf .f32 · bitsLt_bf16_f32) main_arg1
  let main_v5 : FVec F S1024x32768 .f32 := Host.absf main_v4
  let main_cst_0 : FVec F S_ .f32 := constant S_ .f32 0x7F800000#32
  let main_v6 : FVec F S1024x32768 .f32 := broadcastInDim S1024x32768 ![] bcast_S_S1024x32768 main_cst_0
  let main_v7 : IVec S1024x32768 1 := cmpf .olt main_v5 main_v6
  let main_v8 : FVec F S1024x32768 .f32 := (extf .f32 · bitsLt_bf16_f32) main_arg2
  let main_v9 : FVec F S1024x32768 .f32 := Host.absf main_v8
  let main_cst_1 : FVec F S_ .f32 := constant S_ .f32 0x7F800000#32
  let main_v10 : FVec F S1024x32768 .f32 := broadcastInDim S1024x32768 ![] bcast_S_S1024x32768 main_cst_1
  let main_v11 : IVec S1024x32768 1 := cmpf .olt main_v9 main_v10
  let main_v12 : FVec F S1024x128 .f32 := (extf .f32 · bitsLt_bf16_f32) main_arg5
  let main_v13 : FVec F S1024x128 .f32 := Host.absf main_v12
  let main_cst_2 : FVec F S_ .f32 := constant S_ .f32 0x7F800000#32
  let main_v14 : FVec F S1024x128 .f32 := broadcastInDim S1024x128 ![] bcast_S_S1024x128 main_cst_2
  let main_v15 : IVec S1024x128 1 := cmpf .olt main_v13 main_v14
  let main_v16 : FVec F S1024x128 .f32 := (extf .f32 · bitsLt_bf16_f32) main_arg6
  let main_v17 : FVec F S1024x128 .f32 := Host.absf main_v16
  let main_cst_3 : FVec F S_ .f32 := constant S_ .f32 0x7F800000#32
  let main_v18 : FVec F S1024x128 .f32 := broadcastInDim S1024x128 ![] bcast_S_S1024x128 main_cst_3
  fn_part1 (F := F) main_v3 main_v7 main_v11 main_v15 main_v17 main_v18
-- ==== Kernel.lean ====
abbrev S1x1024x1024 : Shape := ⟨3, ![1, 1024, 1024]⟩
abbrev S1024x1024 : Shape := ⟨2, ![1024, 1024]⟩
abbrev S1024x128 : Shape := ⟨2, ![1024, 128]⟩
abbrev S8x1024x128 : Shape := ⟨3, ![8, 1024, 128]⟩
abbrev S32x32x1024 : Shape := ⟨3, ![32, 32, 1024]⟩
abbrev S32x1024 : Shape := ⟨2, ![32, 1024]⟩
abbrev S32 : Shape := ⟨1, ![32]⟩
abbrev S_ : Shape := ⟨0, ![]⟩
abbrev S128x128 : Shape := ⟨2, ![128, 128]⟩
abbrev S1x1024x128 : Shape := ⟨3, ![1, 1024, 128]⟩
abbrev S128x1024 : Shape := ⟨2, ![128, 1024]⟩
abbrev S1x128x128 : Shape := ⟨3, ![1, 128, 128]⟩
abbrev S128 : Shape := ⟨1, ![128]⟩
abbrev S128x1 : Shape := ⟨2, ![128, 1]⟩
abbrev S1 : Shape := ⟨1, ![1]⟩
abbrev S1x32x1024 : Shape := ⟨3, ![1, 32, 1024]⟩

abbrev nBuf : Space → Nat
  | .hbm => 8
  | .vmem => 15
  | .smem => 0
  | _ => 0

abbrev bufTy : (tb : Table) → Fin (tcTables nBuf tb) → BufTy
  | .hbm, ⟨0, _⟩ => ⟨S1x1024x1024, .bf16⟩
  | .hbm, ⟨1, _⟩ => ⟨S1024x1024, .bf16⟩
  | .hbm, ⟨2, _⟩ => ⟨S1024x1024, .bf16⟩
  | .hbm, ⟨3, _⟩ => ⟨S1024x1024, .bf16⟩
  | .hbm, ⟨4, _⟩ => ⟨S1024x1024, .bf16⟩
  | .hbm, ⟨5, _⟩ => ⟨S1024x128, .bf16⟩
  | .hbm, ⟨6, _⟩ => ⟨S1024x128, .bf16⟩
  | .hbm, ⟨7, _⟩ => ⟨S1024x1024, .bf16⟩
  | .local _ .vmem, ⟨0, _⟩ => ⟨S1x1024x1024, .bf16⟩
  | .local _ .vmem, ⟨1, _⟩ => ⟨S1024x1024, .bf16⟩
  | .local _ .vmem, ⟨2, _⟩ => ⟨S1024x1024, .bf16⟩
  | .local _ .vmem, ⟨3, _⟩ => ⟨S1024x1024, .bf16⟩
  | .local _ .vmem, ⟨4, _⟩ => ⟨S1024x1024, .bf16⟩
  | .local _ .vmem, ⟨5, _⟩ => ⟨S1024x128, .bf16⟩
  | .local _ .vmem, ⟨6, _⟩ => ⟨S1024x128, .bf16⟩
  | .local _ .vmem, ⟨7, _⟩ => ⟨S1024x1024, .bf16⟩
  | .local _ .vmem, ⟨8, _⟩ => ⟨S8x1024x128, .bf16⟩
  | .local _ .vmem, ⟨9, _⟩ => ⟨S8x1024x128, .bf16⟩
  | .local _ .vmem, ⟨10, _⟩ => ⟨S8x1024x128, .bf16⟩
  | .local _ .vmem, ⟨11, _⟩ => ⟨S1024x1024, .bf16⟩
  | .local _ .vmem, ⟨12, _⟩ => ⟨S32x32x1024, .bf16⟩
  | .local _ .vmem, ⟨13, _⟩ => ⟨S32x1024, .f32⟩
  | .local _ .vmem, ⟨14, _⟩ => ⟨S32x1024, .bf16⟩
  | _, _ => ⟨S1x1024x1024, .bf16⟩

abbrev dmaSemScopedAt0_0 (i : Nat) : Bool := match i % 128 with
  | 0 => true
  | 1 => true
  | 2 => true
  | 3 => true
  | 4 => true
  | 5 => true
  | 6 => true
  | 7 => true
  | 8 => true
  | 9 => true
  | 10 => true
  | 11 => true
  | 12 => true
  | 13 => true
  | 14 => true
  | 15 => true
  | 16 => true
  | 17 => true
  | 18 => true
  | 19 => true
  | 20 => true
  | 21 => true
  | 22 => true
  | 23 => true
  | 24 => true
  | 25 => true
  | 26 => true
  | 27 => true
  | 28 => true
  | 29 => true
  | 30 => true
  | 31 => true
  | 32 => true
  | 33 => true
  | 34 => true
  | 35 => true
  | 36 => true
  | 37 => true
  | 38 => true
  | 39 => true
  | 40 => true
  | 41 => true
  | 42 => true
  | 43 => true
  | 44 => true
  | 45 => true
  | 46 => true
  | 47 => true
  | 48 => true
  | 49 => true
  | 50 => true
  | 51 => true
  | 52 => true
  | 53 => true
  | 54 => true
  | 55 => true
  | 56 => true
  | 57 => true
  | 58 => true
  | 59 => true
  | 60 => true
  | 61 => true
  | 62 => true
  | 63 => true
  | 64 => true
  | 65 => true
  | 66 => true
  | 67 => true
  | 68 => true
  | 69 => true
  | 70 => true
  | 71 => true
  | 72 => true
  | 73 => true
  | 74 => true
  | 75 => true
  | 76 => true
  | 77 => true
  | 78 => true
  | 79 => true
  | 80 => true
  | 81 => true
  | 82 => true
  | 83 => true
  | 84 => true
  | 85 => true
  | 86 => true
  | 87 => true
  | 88 => true
  | 89 => true
  | 90 => true
  | 91 => true
  | 92 => true
  | 93 => true
  | 94 => true
  | 95 => true
  | 96 => true
  | 97 => true
  | 98 => true
  | 99 => true
  | 100 => true
  | 101 => true
  | 102 => true
  | 103 => true
  | 104 => true
  | 105 => true
  | 106 => true
  | 107 => true
  | 108 => true
  | 109 => true
  | 110 => true
  | 111 => true
  | 112 => true
  | 113 => true
  | 114 => true
  | 115 => true
  | 116 => true
  | 117 => true
  | 118 => true
  | 119 => true
  | 120 => true
  | 121 => true
  | 122 => true
  | 123 => true
  | 124 => true
  | 125 => true
  | 126 => true
  | 127 => true
  | _ => false

abbrev dmaSemScopedAt0_1 (i : Nat) : Bool := match i % 128 with
  | 0 => true
  | 1 => true
  | 2 => true
  | 3 => true
  | 4 => true
  | 5 => true
  | 6 => true
  | 7 => true
  | _ => false

abbrev dmaSemScopedAt (i : Nat) : Bool := match i / 128 with
  | 0 => dmaSemScopedAt0_0 i
  | 1 => dmaSemScopedAt0_1 i
  | _ => false

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | .vmem, ⟨10, _⟩ => true
  | .vmem, ⟨11, _⟩ => true
  | .vmem, ⟨12, _⟩ => true
  | .vmem, ⟨13, _⟩ => true
  | .vmem, ⟨14, _⟩ => true
  | _, _ => false

abbrev semScoped : Fin 1 → Bool
  | ⟨0, _⟩ => false
  | _ => false

abbrev dmaSemScoped : Fin 136 → Bool
  | ⟨i, _⟩ => dmaSemScopedAt i

abbrev sig : RefSig :=
  (ofTc nBuf bufTy 1 136 bufScoped semScoped dmaSemScoped tileCredit tileCredit_eq_zero tileCredit_pos).withBarriers [(0, 0)]

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_arg6 : Ref sig .tc := ⟨.hbm, 6, rfl⟩
abbrev main_v1 : Ref sig .tc := ⟨.hbm, 7, rfl⟩
abbrev cc0_stg0_0 : Ref sig .tc := ⟨.vmem, 0, rfl⟩
abbrev cc0_stg1_0 : Ref sig .tc := ⟨.vmem, 1, rfl⟩
abbrev cc0_stg2_0 : Ref sig .tc := ⟨.vmem, 2, rfl⟩
abbrev cc0_stg3_0 : Ref sig .tc := ⟨.vmem, 3, rfl⟩
abbrev cc0_stg4_0 : Ref sig .tc := ⟨.vmem, 4, rfl⟩
abbrev cc0_stg5_0 : Ref sig .tc := ⟨.vmem, 5, rfl⟩
abbrev cc0_stg6_0 : Ref sig .tc := ⟨.vmem, 6, rfl⟩
abbrev cc0_stg7_0 : Ref sig .tc := ⟨.vmem, 7, rfl⟩
abbrev cc0_scratch0 : Ref sig .tc := ⟨.vmem, 8, rfl⟩
abbrev cc0_scratch1 : Ref sig .tc := ⟨.vmem, 9, rfl⟩
abbrev cc0_scratch2 : Ref sig .tc := ⟨.vmem, 10, rfl⟩
abbrev cc0_scratch3 : Ref sig .tc := ⟨.vmem, 11, rfl⟩
abbrev cc0_scratch4 : Ref sig .tc := ⟨.vmem, 12, rfl⟩
abbrev cc0_scratch5 : Ref sig .tc := ⟨.vmem, 13, rfl⟩
abbrev cc0_scratch6 : Ref sig .tc := ⟨.vmem, 14, rfl⟩
abbrev cc0_sem0_0 : DmaSem sig := 0
abbrev cc0_sem1_0 : DmaSem sig := 1
abbrev cc0_sem2_0 : DmaSem sig := 2
abbrev cc0_sem3_0 : DmaSem sig := 3
abbrev cc0_sem4_0 : DmaSem sig := 4
abbrev cc0_sem5_0 : DmaSem sig := 5
abbrev cc0_sem6_0 : DmaSem sig := 6
abbrev cc0_sem7_0 : DmaSem sig := 7
abbrev barrier0 : Sem sig := 0

abbrev nD : Nat := 32
abbrev τ : Topo := Topo.v7x

variable {F : FTy → Type} [FloatOps F]

abbrev grid0 : Pipeline.Grid := .none

def k0_dev1 (d0 : Dev nD) : Nat :=
  let c0_i32 : BitVec 32 := 0#32
  let v0 : BitVec 32 := Dev.word d0
  let c1_i32 : BitVec 32 := 1#32
  let v1 : BitVec 32 := Scalar.divsi v0 c1_i32
  let c32_i32 : BitVec 32 := 32#32
  let v2 : BitVec 32 := Scalar.remsi v1 c32_i32
  let c1_i32_0 : BitVec 32 := 1#32
  let v4 : BitVec 32 := Scalar.addi v2 c1_i32_0
  let c32_i32_1 : BitVec 32 := 32#32
  let v5 : BitVec 32 := Scalar.remsi v4 c32_i32_1
  let c1_i32_3 : BitVec 32 := 1#32
  let v6 : BitVec 32 := Scalar.muli v5 c1_i32_3
  let v7 : BitVec 32 := Scalar.addi c0_i32 v6
  v7.toNat
def k0_dev2 (d0 : Dev nD) : Nat :=
  let c0_i32_7 : BitVec 32 := 0#32
  let v0 : BitVec 32 := Dev.word d0
  let c1_i32 : BitVec 32 := 1#32
  let v1 : BitVec 32 := Scalar.divsi v0 c1_i32
  let c32_i32 : BitVec 32 := 32#32
  let v2 : BitVec 32 := Scalar.remsi v1 c32_i32
  let c2_i32 : BitVec 32 := 2#32
  let v8 : BitVec 32 := Scalar.addi v2 c2_i32
  let c32_i32_4 : BitVec 32 := 32#32
  let v9 : BitVec 32 := Scalar.remsi v8 c32_i32_4
  let c1_i32_6 : BitVec 32 := 1#32
  let v10 : BitVec 32 := Scalar.muli v9 c1_i32_6
  let v11 : BitVec 32 := Scalar.addi c0_i32_7 v10
  v11.toNat
def k0_dev3 (d0 : Dev nD) : Nat :=
  let c0_i32_11 : BitVec 32 := 0#32
  let v0 : BitVec 32 := Dev.word d0
  let c1_i32 : BitVec 32 := 1#32
  let v1 : BitVec 32 := Scalar.divsi v0 c1_i32
  let c32_i32 : BitVec 32 := 32#32
  let v2 : BitVec 32 := Scalar.remsi v1 c32_i32
  let c3_i32 : BitVec 32 := 3#32
  let v12 : BitVec 32 := Scalar.addi v2 c3_i32
  let c32_i32_8 : BitVec 32 := 32#32
  let v13 : BitVec 32 := Scalar.remsi v12 c32_i32_8
  let c1_i32_10 : BitVec 32 := 1#32
  let v14 : BitVec 32 := Scalar.muli v13 c1_i32_10
  let v15 : BitVec 32 := Scalar.addi c0_i32_11 v14
  v15.toNat
def k0_dev4 (d0 : Dev nD) : Nat :=
  let c0_i32_15 : BitVec 32 := 0#32
  let v0 : BitVec 32 := Dev.word d0
  let c1_i32 : BitVec 32 := 1#32
  let v1 : BitVec 32 := Scalar.divsi v0 c1_i32
  let c32_i32 : BitVec 32 := 32#32
  let v2 : BitVec 32 := Scalar.remsi v1 c32_i32
  let c4_i32 : BitVec 32 := 4#32
  let v16 : BitVec 32 := Scalar.addi v2 c4_i32
  let c32_i32_12 : BitVec 32 := 32#32
  let v17 : BitVec 32 := Scalar.remsi v16 c32_i32_12
  let c1_i32_14 : BitVec 32 := 1#32
  let v18 : BitVec 32 := Scalar.muli v17 c1_i32_14
  let v19 : BitVec 32 := Scalar.addi c0_i32_15 v18
  v19.toNat
def k0_dev5 (d0 : Dev nD) : Nat :=
  let c0_i32_19 : BitVec 32 := 0#32
  let v0 : BitVec 32 := Dev.word d0
  let c1_i32 : BitVec 32 := 1#32
  let v1 : BitVec 32 := Scalar.divsi v0 c1_i32
  let c32_i32 : BitVec 32 := 32#32
  let v2 : BitVec 32 := Scalar.remsi v1 c32_i32
  let c5_i32 : BitVec 32 := 5#32
  let v20 : BitVec 32 := Scalar.addi v2 c5_i32
  let c32_i32_16 : BitVec 32 := 32#32
  let v21 : BitVec 32 := Scalar.remsi v20 c32_i32_16
  let c1_i32_18 : BitVec 32 := 1#32
  let v22 : BitVec 32 := Scalar.muli v21 c1_i32_18
  let v23 : BitVec 32 := Scalar.addi c0_i32_19 v22
  v23.toNat
def k0_dev6 (d0 : Dev nD) : Nat :=
  let c0_i32_23 : BitVec 32 := 0#32
  let v0 : BitVec 32 := Dev.word d0
  let c1_i32 : BitVec 32 := 1#32
  let v1 : BitVec 32 := Scalar.divsi v0 c1_i32
  let c32_i32 : BitVec 32 := 32#32
  let v2 : BitVec 32 := Scalar.remsi v1 c32_i32
  let c6_i32 : BitVec 32 := 6#32
  let v24 : BitVec 32 := Scalar.addi v2 c6_i32
  let c32_i32_20 : BitVec 32 := 32#32
  let v25 : BitVec 32 := Scalar.remsi v24 c32_i32_20
  let c1_i32_22 : BitVec 32 := 1#32
  let v26 : BitVec 32 := Scalar.muli v25 c1_i32_22
  let v27 : BitVec 32 := Scalar.addi c0_i32_23 v26
  v27.toNat
def k0_dev7 (d0 : Dev nD) : Nat :=
  let c0_i32_27 : BitVec 32 := 0#32
  let v0 : BitVec 32 := Dev.word d0
  let c1_i32 : BitVec 32 := 1#32
  let v1 : BitVec 32 := Scalar.divsi v0 c1_i32
  let c32_i32 : BitVec 32 := 32#32
  let v2 : BitVec 32 := Scalar.remsi v1 c32_i32
  let c7_i32 : BitVec 32 := 7#32
  let v28 : BitVec 32 := Scalar.addi v2 c7_i32
  let c32_i32_24 : BitVec 32 := 32#32
  let v29 : BitVec 32 := Scalar.remsi v28 c32_i32_24
  let c1_i32_26 : BitVec 32 := 1#32
  let v30 : BitVec 32 := Scalar.muli v29 c1_i32_26
  let v31 : BitVec 32 := Scalar.addi c0_i32_27 v30
  v31.toNat
def k0_dev8 (d0 : Dev nD) : Nat :=
  let c0_i32_31 : BitVec 32 := 0#32
  let v0 : BitVec 32 := Dev.word d0
  let c1_i32 : BitVec 32 := 1#32
  let v1 : BitVec 32 := Scalar.divsi v0 c1_i32
  let c32_i32 : BitVec 32 := 32#32
  let v2 : BitVec 32 := Scalar.remsi v1 c32_i32
  let c8_i32 : BitVec 32 := 8#32
  let v32 : BitVec 32 := Scalar.addi v2 c8_i32
  let c32_i32_28 : BitVec 32 := 32#32
  let v33 : BitVec 32 := Scalar.remsi v32 c32_i32_28
  let c1_i32_30 : BitVec 32 := 1#32
  let v34 : BitVec 32 := Scalar.muli v33 c1_i32_30
  let v35 : BitVec 32 := Scalar.addi c0_i32_31 v34
  v35.toNat
def k0_dev9 (d0 : Dev nD) : Nat :=
  let c0_i32_35 : BitVec 32 := 0#32
  let v0 : BitVec 32 := Dev.word d0
  let c1_i32 : BitVec 32 := 1#32
  let v1 : BitVec 32 := Scalar.divsi v0 c1_i32
  let c32_i32 : BitVec 32 := 32#32
  let v2 : BitVec 32 := Scalar.remsi v1 c32_i32
  let c9_i32 : BitVec 32 := 9#32
  let v36 : BitVec 32 := Scalar.addi v2 c9_i32
  let c32_i32_32 : BitVec 32 := 32#32
  let v37 : BitVec 32 := Scalar.remsi v36 c32_i32_32
  let c1_i32_34 : BitVec 32 := 1#32
  let v38 : BitVec 32 := Scalar.muli v37 c1_i32_34
  let v39 : BitVec 32 := Scalar.addi c0_i32_35 v38
  v39.toNat
def k0_dev10 (d0 : Dev nD) : Nat :=
  let c0_i32_39 : BitVec 32 := 0#32
  let v0 : BitVec 32 := Dev.word d0
  let c1_i32 : BitVec 32 := 1#32
  let v1 : BitVec 32 := Scalar.divsi v0 c1_i32
  let c32_i32 : BitVec 32 := 32#32
  let v2 : BitVec 32 := Scalar.remsi v1 c32_i32
  let c10_i32 : BitVec 32 := 10#32
  let v40 : BitVec 32 := Scalar.addi v2 c10_i32
  let c32_i32_36 : BitVec 32 := 32#32
  let v41 : BitVec 32 := Scalar.remsi v40 c32_i32_36
  let c1_i32_38 : BitVec 32 := 1#32
  let v42 : BitVec 32 := Scalar.muli v41 c1_i32_38
  let v43 : BitVec 32 := Scalar.addi c0_i32_39 v42
  v43.toNat
def k0_dev11 (d0 : Dev nD) : Nat :=
  let c0_i32_43 : BitVec 32 := 0#32
  let v0 : BitVec 32 := Dev.word d0
  let c1_i32 : BitVec 32 := 1#32
  let v1 : BitVec 32 := Scalar.divsi v0 c1_i32
  let c32_i32 : BitVec 32 := 32#32
  let v2 : BitVec 32 := Scalar.remsi v1 c32_i32
  let c11_i32 : BitVec 32 := 11#32
  let v44 : BitVec 32 := Scalar.addi v2 c11_i32
  let c32_i32_40 : BitVec 32 := 32#32
  let v45 : BitVec 32 := Scalar.remsi v44 c32_i32_40
  let c1_i32_42 : BitVec 32 := 1#32
  let v46 : BitVec 32 := Scalar.muli v45 c1_i32_42
  let v47 : BitVec 32 := Scalar.addi c0_i32_43 v46
  v47.toNat
def k0_dev12 (d0 : Dev nD) : Nat :=
  let c0_i32_47 : BitVec 32 := 0#32
  let v0 : BitVec 32 := Dev.word d0
  let c1_i32 : BitVec 32 := 1#32
  let v1 : BitVec 32 := Scalar.divsi v0 c1_i32
  let c32_i32 : BitVec 32 := 32#32
  let v2 : BitVec 32 := Scalar.remsi v1 c32_i32
  let c12_i32 : BitVec 32 := 12#32
  let v48 : BitVec 32 := Scalar.addi v2 c12_i32
  let c32_i32_44 : BitVec 32 := 32#32
  let v49 : BitVec 32 := Scalar.remsi v48 c32_i32_44
  let c1_i32_46 : BitVec 32 := 1#32
  let v50 : BitVec 32 := Scalar.muli v49 c1_i32_46
  let v51 : BitVec 32 := Scalar.addi c0_i32_47 v50
  v51.toNat
def k0_dev13 (d0 : Dev nD) : Nat :=
  let c0_i32_51 : BitVec 32 := 0#32
  let v0 : BitVec 32 := Dev.word d0
  let c1_i32 : BitVec 32 := 1#32
  let v1 : BitVec 32 := Scalar.divsi v0 c1_i32
  let c32_i32 : BitVec 32 := 32#32
  let v2 : BitVec 32 := Scalar.remsi v1 c32_i32
  let c13_i32 : BitVec 32 := 13#32
  let v52 : BitVec 32 := Scalar.addi v2 c13_i32
  let c32_i32_48 : BitVec 32 := 32#32
  let v53 : BitVec 32 := Scalar.remsi v52 c32_i32_48
  let c1_i32_50 : BitVec 32 := 1#32
  let v54 : BitVec 32 := Scalar.muli v53 c1_i32_50
  let v55 : BitVec 32 := Scalar.addi c0_i32_51 v54
  v55.toNat
def k0_dev14 (d0 : Dev nD) : Nat :=
  let c0_i32_55 : BitVec 32 := 0#32
  let v0 : BitVec 32 := Dev.word d0
  let c1_i32 : BitVec 32 := 1#32
  let v1 : BitVec 32 := Scalar.divsi v0 c1_i32
  let c32_i32 : BitVec 32 := 32#32
  let v2 : BitVec 32 := Scalar.remsi v1 c32_i32
  let c14_i32 : BitVec 32 := 14#32
  let v56 : BitVec 32 := Scalar.addi v2 c14_i32
  let c32_i32_52 : BitVec 32 := 32#32
  let v57 : BitVec 32 := Scalar.remsi v56 c32_i32_52
  let c1_i32_54 : BitVec 32 := 1#32
  let v58 : BitVec 32 := Scalar.muli v57 c1_i32_54
  let v59 : BitVec 32 := Scalar.addi c0_i32_55 v58
  v59.toNat
def k0_dev15 (d0 : Dev nD) : Nat :=
  let c0_i32_59 : BitVec 32 := 0#32
  let v0 : BitVec 32 := Dev.word d0
  let c1_i32 : BitVec 32 := 1#32
  let v1 : BitVec 32 := Scalar.divsi v0 c1_i32
  let c32_i32 : BitVec 32 := 32#32
  let v2 : BitVec 32 := Scalar.remsi v1 c32_i32
  let c15_i32 : BitVec 32 := 15#32
  let v60 : BitVec 32 := Scalar.addi v2 c15_i32
  let c32_i32_56 : BitVec 32 := 32#32
  let v61 : BitVec 32 := Scalar.remsi v60 c32_i32_56
  let c1_i32_58 : BitVec 32 := 1#32
  let v62 : BitVec 32 := Scalar.muli v61 c1_i32_58
  let v63 : BitVec 32 := Scalar.addi c0_i32_59 v62
  v63.toNat
def k0_dev16 (d0 : Dev nD) : Nat :=
  let c0_i32_63 : BitVec 32 := 0#32
  let v0 : BitVec 32 := Dev.word d0
  let c1_i32 : BitVec 32 := 1#32
  let v1 : BitVec 32 := Scalar.divsi v0 c1_i32
  let c32_i32 : BitVec 32 := 32#32
  let v2 : BitVec 32 := Scalar.remsi v1 c32_i32
  let c16_i32 : BitVec 32 := 16#32
  let v64 : BitVec 32 := Scalar.addi v2 c16_i32
  let c32_i32_60 : BitVec 32 := 32#32
  let v65 : BitVec 32 := Scalar.remsi v64 c32_i32_60
  let c1_i32_62 : BitVec 32 := 1#32
  let v66 : BitVec 32 := Scalar.muli v65 c1_i32_62
  let v67 : BitVec 32 := Scalar.addi c0_i32_63 v66
  v67.toNat
def k0_dev17 (d0 : Dev nD) : Nat :=
  let c0_i32_67 : BitVec 32 := 0#32
  let v0 : BitVec 32 := Dev.word d0
  let c1_i32 : BitVec 32 := 1#32
  let v1 : BitVec 32 := Scalar.divsi v0 c1_i32
  let c32_i32 : BitVec 32 := 32#32
  let v2 : BitVec 32 := Scalar.remsi v1 c32_i32
  let c17_i32 : BitVec 32 := 17#32
  let v68 : BitVec 32 := Scalar.addi v2 c17_i32
  let c32_i32_64 : BitVec 32 := 32#32
  let v69 : BitVec 32 := Scalar.remsi v68 c32_i32_64
  let c1_i32_66 : BitVec 32 := 1#32
  let v70 : BitVec 32 := Scalar.muli v69 c1_i32_66
  let v71 : BitVec 32 := Scalar.addi c0_i32_67 v70
  v71.toNat
def k0_dev18 (d0 : Dev nD) : Nat :=
  let c0_i32_71 : BitVec 32 := 0#32
  let v0 : BitVec 32 := Dev.word d0
  let c1_i32 : BitVec 32 := 1#32
  let v1 : BitVec 32 := Scalar.divsi v0 c1_i32
  let c32_i32 : BitVec 32 := 32#32
  let v2 : BitVec 32 := Scalar.remsi v1 c32_i32
  let c18_i32 : BitVec 32 := 18#32
  let v72 : BitVec 32 := Scalar.addi v2 c18_i32
  let c32_i32_68 : BitVec 32 := 32#32
  let v73 : BitVec 32 := Scalar.remsi v72 c32_i32_68
  let c1_i32_70 : BitVec 32 := 1#32
  let v74 : BitVec 32 := Scalar.muli v73 c1_i32_70
  let v75 : BitVec 32 := Scalar.addi c0_i32_71 v74
  v75.toNat
def k0_dev19 (d0 : Dev nD) : Nat :=
  let c0_i32_75 : BitVec 32 := 0#32
  let v0 : BitVec 32 := Dev.word d0
  let c1_i32 : BitVec 32 := 1#32
  let v1 : BitVec 32 := Scalar.divsi v0 c1_i32
  let c32_i32 : BitVec 32 := 32#32
  let v2 : BitVec 32 := Scalar.remsi v1 c32_i32
  let c19_i32 : BitVec 32 := 19#32
  let v76 : BitVec 32 := Scalar.addi v2 c19_i32
  let c32_i32_72 : BitVec 32 := 32#32
  let v77 : BitVec 32 := Scalar.remsi v76 c32_i32_72
  let c1_i32_74 : BitVec 32 := 1#32
  let v78 : BitVec 32 := Scalar.muli v77 c1_i32_74
  let v79 : BitVec 32 := Scalar.addi c0_i32_75 v78
  v79.toNat
def k0_dev20 (d0 : Dev nD) : Nat :=
  let c0_i32_79 : BitVec 32 := 0#32
  let v0 : BitVec 32 := Dev.word d0
  let c1_i32 : BitVec 32 := 1#32
  let v1 : BitVec 32 := Scalar.divsi v0 c1_i32
  let c32_i32 : BitVec 32 := 32#32
  let v2 : BitVec 32 := Scalar.remsi v1 c32_i32
  let c20_i32 : BitVec 32 := 20#32
  let v80 : BitVec 32 := Scalar.addi v2 c20_i32
  let c32_i32_76 : BitVec 32 := 32#32
  let v81 : BitVec 32 := Scalar.remsi v80 c32_i32_76
  let c1_i32_78 : BitVec 32 := 1#32
  let v82 : BitVec 32 := Scalar.muli v81 c1_i32_78
  let v83 : BitVec 32 := Scalar.addi c0_i32_79 v82
  v83.toNat
def k0_dev21 (d0 : Dev nD) : Nat :=
  let c0_i32_83 : BitVec 32 := 0#32
  let v0 : BitVec 32 := Dev.word d0
  let c1_i32 : BitVec 32 := 1#32
  let v1 : BitVec 32 := Scalar.divsi v0 c1_i32
  let c32_i32 : BitVec 32 := 32#32
  let v2 : BitVec 32 := Scalar.remsi v1 c32_i32
  let c21_i32 : BitVec 32 := 21#32
  let v84 : BitVec 32 := Scalar.addi v2 c21_i32
  let c32_i32_80 : BitVec 32 := 32#32
  let v85 : BitVec 32 := Scalar.remsi v84 c32_i32_80
  let c1_i32_82 : BitVec 32 := 1#32
  let v86 : BitVec 32 := Scalar.muli v85 c1_i32_82
  let v87 : BitVec 32 := Scalar.addi c0_i32_83 v86
  v87.toNat
def k0_dev22 (d0 : Dev nD) : Nat :=
  let c0_i32_87 : BitVec 32 := 0#32
  let v0 : BitVec 32 := Dev.word d0
  let c1_i32 : BitVec 32 := 1#32
  let v1 : BitVec 32 := Scalar.divsi v0 c1_i32
  let c32_i32 : BitVec 32 := 32#32
  let v2 : BitVec 32 := Scalar.remsi v1 c32_i32
  let c22_i32 : BitVec 32 := 22#32
  let v88 : BitVec 32 := Scalar.addi v2 c22_i32
  let c32_i32_84 : BitVec 32 := 32#32
  let v89 : BitVec 32 := Scalar.remsi v88 c32_i32_84
  let c1_i32_86 : BitVec 32 := 1#32
  let v90 : BitVec 32 := Scalar.muli v89 c1_i32_86
  let v91 : BitVec 32 := Scalar.addi c0_i32_87 v90
  v91.toNat
def k0_dev23 (d0 : Dev nD) : Nat :=
  let c0_i32_91 : BitVec 32 := 0#32
  let v0 : BitVec 32 := Dev.word d0
  let c1_i32 : BitVec 32 := 1#32
  let v1 : BitVec 32 := Scalar.divsi v0 c1_i32
  let c32_i32 : BitVec 32 := 32#32
  let v2 : BitVec 32 := Scalar.remsi v1 c32_i32
  let c23_i32 : BitVec 32 := 23#32
  let v92 : BitVec 32 := Scalar.addi v2 c23_i32
  let c32_i32_88 : BitVec 32 := 32#32
  let v93 : BitVec 32 := Scalar.remsi v92 c32_i32_88
  let c1_i32_90 : BitVec 32 := 1#32
  let v94 : BitVec 32 := Scalar.muli v93 c1_i32_90
  let v95 : BitVec 32 := Scalar.addi c0_i32_91 v94
  v95.toNat
def k0_dev24 (d0 : Dev nD) : Nat :=
  let c0_i32_95 : BitVec 32 := 0#32
  let v0 : BitVec 32 := Dev.word d0
  let c1_i32 : BitVec 32 := 1#32
  let v1 : BitVec 32 := Scalar.divsi v0 c1_i32
  let c32_i32 : BitVec 32 := 32#32
  let v2 : BitVec 32 := Scalar.remsi v1 c32_i32
  let c24_i32 : BitVec 32 := 24#32
  let v96 : BitVec 32 := Scalar.addi v2 c24_i32
  let c32_i32_92 : BitVec 32 := 32#32
  let v97 : BitVec 32 := Scalar.remsi v96 c32_i32_92
  let c1_i32_94 : BitVec 32 := 1#32
  let v98 : BitVec 32 := Scalar.muli v97 c1_i32_94
  let v99 : BitVec 32 := Scalar.addi c0_i32_95 v98
  v99.toNat
def k0_dev25 (d0 : Dev nD) : Nat :=
  let c0_i32_99 : BitVec 32 := 0#32
  let v0 : BitVec 32 := Dev.word d0
  let c1_i32 : BitVec 32 := 1#32
  let v1 : BitVec 32 := Scalar.divsi v0 c1_i32
  let c32_i32 : BitVec 32 := 32#32
  let v2 : BitVec 32 := Scalar.remsi v1 c32_i32
  let c25_i32 : BitVec 32 := 25#32
  let v100 : BitVec 32 := Scalar.addi v2 c25_i32
  let c32_i32_96 : BitVec 32 := 32#32
  let v101 : BitVec 32 := Scalar.remsi v100 c32_i32_96
  let c1_i32_98 : BitVec 32 := 1#32
  let v102 : BitVec 32 := Scalar.muli v101 c1_i32_98
  let v103 : BitVec 32 := Scalar.addi c0_i32_99 v102
  v103.toNat
def k0_dev26 (d0 : Dev nD) : Nat :=
  let c0_i32_103 : BitVec 32 := 0#32
  let v0 : BitVec 32 := Dev.word d0
  let c1_i32 : BitVec 32 := 1#32
  let v1 : BitVec 32 := Scalar.divsi v0 c1_i32
  let c32_i32 : BitVec 32 := 32#32
  let v2 : BitVec 32 := Scalar.remsi v1 c32_i32
  let c26_i32 : BitVec 32 := 26#32
  let v104 : BitVec 32 := Scalar.addi v2 c26_i32
  let c32_i32_100 : BitVec 32 := 32#32
  let v105 : BitVec 32 := Scalar.remsi v104 c32_i32_100
  let c1_i32_102 : BitVec 32 := 1#32
  let v106 : BitVec 32 := Scalar.muli v105 c1_i32_102
  let v107 : BitVec 32 := Scalar.addi c0_i32_103 v106
  v107.toNat
def k0_dev27 (d0 : Dev nD) : Nat :=
  let c0_i32_107 : BitVec 32 := 0#32
  let v0 : BitVec 32 := Dev.word d0
  let c1_i32 : BitVec 32 := 1#32
  let v1 : BitVec 32 := Scalar.divsi v0 c1_i32
  let c32_i32 : BitVec 32 := 32#32
  let v2 : BitVec 32 := Scalar.remsi v1 c32_i32
  let c27_i32 : BitVec 32 := 27#32
  let v108 : BitVec 32 := Scalar.addi v2 c27_i32
  let c32_i32_104 : BitVec 32 := 32#32
  let v109 : BitVec 32 := Scalar.remsi v108 c32_i32_104
  let c1_i32_106 : BitVec 32 := 1#32
  let v110 : BitVec 32 := Scalar.muli v109 c1_i32_106
  let v111 : BitVec 32 := Scalar.addi c0_i32_107 v110
  v111.toNat
def k0_dev28 (d0 : Dev nD) : Nat :=
  let c0_i32_111 : BitVec 32 := 0#32
  let v0 : BitVec 32 := Dev.word d0
  let c1_i32 : BitVec 32 := 1#32
  let v1 : BitVec 32 := Scalar.divsi v0 c1_i32
  let c32_i32 : BitVec 32 := 32#32
  let v2 : BitVec 32 := Scalar.remsi v1 c32_i32
  let c28_i32 : BitVec 32 := 28#32
  let v112 : BitVec 32 := Scalar.addi v2 c28_i32
  let c32_i32_108 : BitVec 32 := 32#32
  let v113 : BitVec 32 := Scalar.remsi v112 c32_i32_108
  let c1_i32_110 : BitVec 32 := 1#32
  let v114 : BitVec 32 := Scalar.muli v113 c1_i32_110
  let v115 : BitVec 32 := Scalar.addi c0_i32_111 v114
  v115.toNat
def k0_dev29 (d0 : Dev nD) : Nat :=
  let c0_i32_115 : BitVec 32 := 0#32
  let v0 : BitVec 32 := Dev.word d0
  let c1_i32 : BitVec 32 := 1#32
  let v1 : BitVec 32 := Scalar.divsi v0 c1_i32
  let c32_i32 : BitVec 32 := 32#32
  let v2 : BitVec 32 := Scalar.remsi v1 c32_i32
  let c29_i32 : BitVec 32 := 29#32
  let v116 : BitVec 32 := Scalar.addi v2 c29_i32
  let c32_i32_112 : BitVec 32 := 32#32
  let v117 : BitVec 32 := Scalar.remsi v116 c32_i32_112
  let c1_i32_114 : BitVec 32 := 1#32
  let v118 : BitVec 32 := Scalar.muli v117 c1_i32_114
  let v119 : BitVec 32 := Scalar.addi c0_i32_115 v118
  v119.toNat
def k0_dev30 (d0 : Dev nD) : Nat :=
  let c0_i32_119 : BitVec 32 := 0#32
  let v0 : BitVec 32 := Dev.word d0
  let c1_i32 : BitVec 32 := 1#32
  let v1 : BitVec 32 := Scalar.divsi v0 c1_i32
  let c32_i32 : BitVec 32 := 32#32
  let v2 : BitVec 32 := Scalar.remsi v1 c32_i32
  let c30_i32 : BitVec 32 := 30#32
  let v120 : BitVec 32 := Scalar.addi v2 c30_i32
  let c32_i32_116 : BitVec 32 := 32#32
  let v121 : BitVec 32 := Scalar.remsi v120 c32_i32_116
  let c1_i32_118 : BitVec 32 := 1#32
  let v122 : BitVec 32 := Scalar.muli v121 c1_i32_118
  let v123 : BitVec 32 := Scalar.addi c0_i32_119 v122
  v123.toNat
def k0_dev31 (d0 : Dev nD) : Nat :=
  let c0_i32_123 : BitVec 32 := 0#32
  let v0 : BitVec 32 := Dev.word d0
  let c1_i32 : BitVec 32 := 1#32
  let v1 : BitVec 32 := Scalar.divsi v0 c1_i32
  let c32_i32 : BitVec 32 := 32#32
  let v2 : BitVec 32 := Scalar.remsi v1 c32_i32
  let c31_i32 : BitVec 32 := 31#32
  let v124 : BitVec 32 := Scalar.addi v2 c31_i32
  let c32_i32_120 : BitVec 32 := 32#32
  let v125 : BitVec 32 := Scalar.remsi v124 c32_i32_120
  let c1_i32_122 : BitVec 32 := 1#32
  let v126 : BitVec 32 := Scalar.muli v125 c1_i32_122
  let v127 : BitVec 32 := Scalar.addi c0_i32_123 v126
  v127.toNat
def k0_cond1 (d0 : Dev nD) : BitVec 1 :=
  let c0_i32_453 : BitVec 32 := 0#32
  let v0 : BitVec 32 := Dev.word d0
  let c1_i32 : BitVec 32 := 1#32
  let v1 : BitVec 32 := Scalar.divsi v0 c1_i32
  let c32_i32 : BitVec 32 := 32#32
  let v2 : BitVec 32 := Scalar.remsi v1 c32_i32
  let v622 : BitVec 1 := Scalar.cmpi .ne c0_i32_453 v2
  let v623 : BitVec 32 := Scalar.extui v622
  let c0_i32_455 : BitVec 32 := 0#32
  let v624 : BitVec 1 := Scalar.cmpi .ne v623 c0_i32_455
  v624

def k0_off1 (d0 : Dev nD) : Fin 1 → Nat :=
  let c0_i32_450 : BitVec 32 := 0#32
  let v0 : BitVec 32 := Dev.word d0
  let c1_i32 : BitVec 32 := 1#32
  let v1 : BitVec 32 := Scalar.divsi v0 c1_i32
  let c32_i32 : BitVec 32 := 32#32
  let v2 : BitVec 32 := Scalar.remsi v1 c32_i32
  let v619 : BitVec 32 := Scalar.subi c0_i32_450 v2
  let c32_i32_451 : BitVec 32 := 32#32
  let v620 : BitVec 32 := Scalar.addi v619 c32_i32_451
  let c32_i32_452 : BitVec 32 := 32#32
  let v621 : BitVec 32 := Scalar.remsi v620 c32_i32_452
  ![v621.toNat]
def k0_off2 (d0 : Dev nD) : Fin 3 → Nat :=
  let c0_i32_450 : BitVec 32 := 0#32
  let v0 : BitVec 32 := Dev.word d0
  let c1_i32 : BitVec 32 := 1#32
  let v1 : BitVec 32 := Scalar.divsi v0 c1_i32
  let c32_i32 : BitVec 32 := 32#32
  let v2 : BitVec 32 := Scalar.remsi v1 c32_i32
  let v619 : BitVec 32 := Scalar.subi c0_i32_450 v2
  let c32_i32_451 : BitVec 32 := 32#32
  let v620 : BitVec 32 := Scalar.addi v619 c32_i32_451
  let c32_i32_452 : BitVec 32 := 32#32
  let v621 : BitVec 32 := Scalar.remsi v620 c32_i32_452
  let c0_i32_2944 : BitVec 32 := 0#32
  let c0_i32_2945 : BitVec 32 := 0#32
  ![v621.toNat, 0, 0]
def k0_dev32 : Nat :=
  let c0_i32_2943 : BitVec 32 := 0#32
  let c0_i32_454 : BitVec 32 := 0#32
  let c1_i32_2942 : BitVec 32 := 1#32
  let v3340 : BitVec 32 := Scalar.muli c0_i32_454 c1_i32_2942
  let v3341 : BitVec 32 := Scalar.addi c0_i32_2943 v3340
  v3341.toNat
def k0_cond2 (d0 : Dev nD) : BitVec 1 :=
  let c1_i32_459 : BitVec 32 := 1#32
  let v0 : BitVec 32 := Dev.word d0
  let c1_i32 : BitVec 32 := 1#32
  let v1 : BitVec 32 := Scalar.divsi v0 c1_i32
  let c32_i32 : BitVec 32 := 32#32
  let v2 : BitVec 32 := Scalar.remsi v1 c32_i32
  let v628 : BitVec 1 := Scalar.cmpi .ne c1_i32_459 v2
  let v629 : BitVec 32 := Scalar.extui v628
  let c0_i32_461 : BitVec 32 := 0#32
  let v630 : BitVec 1 := Scalar.cmpi .ne v629 c0_i32_461
  v630

def k0_off3 (d0 : Dev nD) : Fin 1 → Nat :=
  let c1_i32_456 : BitVec 32 := 1#32
  let v0 : BitVec 32 := Dev.word d0
  let c1_i32 : BitVec 32 := 1#32
  let v1 : BitVec 32 := Scalar.divsi v0 c1_i32
  let c32_i32 : BitVec 32 := 32#32
  let v2 : BitVec 32 := Scalar.remsi v1 c32_i32
  let v625 : BitVec 32 := Scalar.subi c1_i32_456 v2
  let c32_i32_457 : BitVec 32 := 32#32
  let v626 : BitVec 32 := Scalar.addi v625 c32_i32_457
  let c32_i32_458 : BitVec 32 := 32#32
  let v627 : BitVec 32 := Scalar.remsi v626 c32_i32_458
  ![v627.toNat]
def k0_off4 (d0 : Dev nD) : Fin 3 → Nat :=
  let c1_i32_456 : BitVec 32 := 1#32
  let v0 : BitVec 32 := Dev.word d0
  let c1_i32 : BitVec 32 := 1#32
  let v1 : BitVec 32 := Scalar.divsi v0 c1_i32
  let c32_i32 : BitVec 32 := 32#32
  let v2 : BitVec 32 := Scalar.remsi v1 c32_i32
  let v625 : BitVec 32 := Scalar.subi c1_i32_456 v2
  let c32_i32_457 : BitVec 32 := 32#32
  let v626 : BitVec 32 := Scalar.addi v625 c32_i32_457
  let c32_i32_458 : BitVec 32 := 32#32
  let v627 : BitVec 32 := Scalar.remsi v626 c32_i32_458
  let c0_i32_2944 : BitVec 32 := 0#32
  let c0_i32_2945 : BitVec 32 := 0#32
  ![v627.toNat, 0, 0]
def k0_dev33 : Nat :=
  let c0_i32_2943 : BitVec 32 := 0#32
  let c1_i32_460 : BitVec 32 := 1#32
  let c1_i32_2942 : BitVec 32 := 1#32
  let v3340 : BitVec 32 := Scalar.muli c1_i32_460 c1_i32_2942
  let v3341 : BitVec 32 := Scalar.addi c0_i32_2943 v3340
  v3341.toNat
def k0_cond3 (d0 : Dev nD) : BitVec 1 :=
  let c2_i32_465 : BitVec 32 := 2#32
  let v0 : BitVec 32 := Dev.word d0
  let c1_i32 : BitVec 32 := 1#32
  let v1 : BitVec 32 := Scalar.divsi v0 c1_i32
  let c32_i32 : BitVec 32 := 32#32
  let v2 : BitVec 32 := Scalar.remsi v1 c32_i32
  let v634 : BitVec 1 := Scalar.cmpi .ne c2_i32_465 v2
  let v635 : BitVec 32 := Scalar.extui v634
  let c0_i32_467 : BitVec 32 := 0#32
  let v636 : BitVec 1 := Scalar.cmpi .ne v635 c0_i32_467
  v636

def k0_off5 (d0 : Dev nD) : Fin 1 → Nat :=
  let c2_i32_462 : BitVec 32 := 2#32
  let v0 : BitVec 32 := Dev.word d0
  let c1_i32 : BitVec 32 := 1#32
  let v1 : BitVec 32 := Scalar.divsi v0 c1_i32
  let c32_i32 : BitVec 32 := 32#32
  let v2 : BitVec 32 := Scalar.remsi v1 c32_i32
  let v631 : BitVec 32 := Scalar.subi c2_i32_462 v2
  let c32_i32_463 : BitVec 32 := 32#32
  let v632 : BitVec 32 := Scalar.addi v631 c32_i32_463
  let c32_i32_464 : BitVec 32 := 32#32
  let v633 : BitVec 32 := Scalar.remsi v632 c32_i32_464
  ![v633.toNat]
def k0_off6 (d0 : Dev nD) : Fin 3 → Nat :=
  let c2_i32_462 : BitVec 32 := 2#32
  let v0 : BitVec 32 := Dev.word d0
  let c1_i32 : BitVec 32 := 1#32
  let v1 : BitVec 32 := Scalar.divsi v0 c1_i32
  let c32_i32 : BitVec 32 := 32#32
  let v2 : BitVec 32 := Scalar.remsi v1 c32_i32
  let v631 : BitVec 32 := Scalar.subi c2_i32_462 v2
  let c32_i32_463 : BitVec 32 := 32#32
  let v632 : BitVec 32 := Scalar.addi v631 c32_i32_463
  let c32_i32_464 : BitVec 32 := 32#32
  let v633 : BitVec 32 := Scalar.remsi v632 c32_i32_464
  let c0_i32_2944 : BitVec 32 := 0#32
  let c0_i32_2945 : BitVec 32 := 0#32
  ![v633.toNat, 0, 0]
def k0_dev34 : Nat :=
  let c0_i32_2943 : BitVec 32 := 0#32
  let c2_i32_466 : BitVec 32 := 2#32
  let c1_i32_2942 : BitVec 32 := 1#32
  let v3340 : BitVec 32 := Scalar.muli c2_i32_466 c1_i32_2942
  let v3341 : BitVec 32 := Scalar.addi c0_i32_2943 v3340
  v3341.toNat
def k0_cond4 (d0 : Dev nD) : BitVec 1 :=
  let c3_i32_471 : BitVec 32 := 3#32
  let v0 : BitVec 32 := Dev.word d0
  let c1_i32 : BitVec 32 := 1#32
  let v1 : BitVec 32 := Scalar.divsi v0 c1_i32
  let c32_i32 : BitVec 32 := 32#32
  let v2 : BitVec 32 := Scalar.remsi v1 c32_i32
  let v640 : BitVec 1 := Scalar.cmpi .ne c3_i32_471 v2
  let v641 : BitVec 32 := Scalar.extui v640
  let c0_i32_473 : BitVec 32 := 0#32
  let v642 : BitVec 1 := Scalar.cmpi .ne v641 c0_i32_473
  v642

def k0_off7 (d0 : Dev nD) : Fin 1 → Nat :=
  let c3_i32_468 : BitVec 32 := 3#32
  let v0 : BitVec 32 := Dev.word d0
  let c1_i32 : BitVec 32 := 1#32
  let v1 : BitVec 32 := Scalar.divsi v0 c1_i32
  let c32_i32 : BitVec 32 := 32#32
  let v2 : BitVec 32 := Scalar.remsi v1 c32_i32
  let v637 : BitVec 32 := Scalar.subi c3_i32_468 v2
  let c32_i32_469 : BitVec 32 := 32#32
  let v638 : BitVec 32 := Scalar.addi v637 c32_i32_469
  let c32_i32_470 : BitVec 32 := 32#32
  let v639 : BitVec 32 := Scalar.remsi v638 c32_i32_470
  ![v639.toNat]
def k0_off8 (d0 : Dev nD) : Fin 3 → Nat :=
  let c3_i32_468 : BitVec 32 := 3#32
  let v0 : BitVec 32 := Dev.word d0
  let c1_i32 : BitVec 32 := 1#32
  let v1 : BitVec 32 := Scalar.divsi v0 c1_i32
  let c32_i32 : BitVec 32 := 32#32
  let v2 : BitVec 32 := Scalar.remsi v1 c32_i32
  let v637 : BitVec 32 := Scalar.subi c3_i32_468 v2
  let c32_i32_469 : BitVec 32 := 32#32
  let v638 : BitVec 32 := Scalar.addi v637 c32_i32_469
  let c32_i32_470 : BitVec 32 := 32#32
  let v639 : BitVec 32 := Scalar.remsi v638 c32_i32_470
  let c0_i32_2944 : BitVec 32 := 0#32
  let c0_i32_2945 : BitVec 32 := 0#32
  ![v639.toNat, 0, 0]
def k0_dev35 : Nat :=
  let c0_i32_2943 : BitVec 32 := 0#32
  let c3_i32_472 : BitVec 32 := 3#32
  let c1_i32_2942 : BitVec 32 := 1#32
  let v3340 : BitVec 32 := Scalar.muli c3_i32_472 c1_i32_2942
  let v3341 : BitVec 32 := Scalar.addi c0_i32_2943 v3340
  v3341.toNat
def k0_cond5 (d0 : Dev nD) : BitVec 1 :=
  let c4_i32_608 : BitVec 32 := 4#32
  let v0 : BitVec 32 := Dev.word d0
  let c1_i32 : BitVec 32 := 1#32
  let v1 : BitVec 32 := Scalar.divsi v0 c1_i32
  let c32_i32 : BitVec 32 := 32#32
  let v2 : BitVec 32 := Scalar.remsi v1 c32_i32
  let v819 : BitVec 1 := Scalar.cmpi .ne c4_i32_608 v2
  let v820 : BitVec 32 := Scalar.extui v819
  let c0_i32_610 : BitVec 32 := 0#32
  let v821 : BitVec 1 := Scalar.cmpi .ne v820 c0_i32_610
  v821

def k0_off9 (d0 : Dev nD) : Fin 1 → Nat :=
  let c4_i32_605 : BitVec 32 := 4#32
  let v0 : BitVec 32 := Dev.word d0
  let c1_i32 : BitVec 32 := 1#32
  let v1 : BitVec 32 := Scalar.divsi v0 c1_i32
  let c32_i32 : BitVec 32 := 32#32
  let v2 : BitVec 32 := Scalar.remsi v1 c32_i32
  let v816 : BitVec 32 := Scalar.subi c4_i32_605 v2
  let c32_i32_606 : BitVec 32 := 32#32
  let v817 : BitVec 32 := Scalar.addi v816 c32_i32_606
  let c32_i32_607 : BitVec 32 := 32#32
  let v818 : BitVec 32 := Scalar.remsi v817 c32_i32_607
  ![v818.toNat]
def k0_off10 (d0 : Dev nD) : Fin 3 → Nat :=
  let c4_i32_605 : BitVec 32 := 4#32
  let v0 : BitVec 32 := Dev.word d0
  let c1_i32 : BitVec 32 := 1#32
  let v1 : BitVec 32 := Scalar.divsi v0 c1_i32
  let c32_i32 : BitVec 32 := 32#32
  let v2 : BitVec 32 := Scalar.remsi v1 c32_i32
  let v816 : BitVec 32 := Scalar.subi c4_i32_605 v2
  let c32_i32_606 : BitVec 32 := 32#32
  let v817 : BitVec 32 := Scalar.addi v816 c32_i32_606
  let c32_i32_607 : BitVec 32 := 32#32
  let v818 : BitVec 32 := Scalar.remsi v817 c32_i32_607
  let c0_i32_2944 : BitVec 32 := 0#32
  let c0_i32_2945 : BitVec 32 := 0#32
  ![v818.toNat, 0, 0]
def k0_dev36 : Nat :=
  let c0_i32_2943 : BitVec 32 := 0#32
  let c4_i32_609 : BitVec 32 := 4#32
  let c1_i32_2942 : BitVec 32 := 1#32
  let v3340 : BitVec 32 := Scalar.muli c4_i32_609 c1_i32_2942
  let v3341 : BitVec 32 := Scalar.addi c0_i32_2943 v3340
  v3341.toNat
def k0_cond6 (d0 : Dev nD) : BitVec 1 :=
  let c5_i32_614 : BitVec 32 := 5#32
  let v0 : BitVec 32 := Dev.word d0
  let c1_i32 : BitVec 32 := 1#32
  let v1 : BitVec 32 := Scalar.divsi v0 c1_i32
  let c32_i32 : BitVec 32 := 32#32
  let v2 : BitVec 32 := Scalar.remsi v1 c32_i32
  let v825 : BitVec 1 := Scalar.cmpi .ne c5_i32_614 v2
  let v826 : BitVec 32 := Scalar.extui v825
  let c0_i32_616 : BitVec 32 := 0#32
  let v827 : BitVec 1 := Scalar.cmpi .ne v826 c0_i32_616
  v827

def k0_off11 (d0 : Dev nD) : Fin 1 → Nat :=
  let c5_i32_611 : BitVec 32 := 5#32
  let v0 : BitVec 32 := Dev.word d0
  let c1_i32 : BitVec 32 := 1#32
  let v1 : BitVec 32 := Scalar.divsi v0 c1_i32
  let c32_i32 : BitVec 32 := 32#32
  let v2 : BitVec 32 := Scalar.remsi v1 c32_i32
  let v822 : BitVec 32 := Scalar.subi c5_i32_611 v2
  let c32_i32_612 : BitVec 32 := 32#32
  let v823 : BitVec 32 := Scalar.addi v822 c32_i32_612
  let c32_i32_613 : BitVec 32 := 32#32
  let v824 : BitVec 32 := Scalar.remsi v823 c32_i32_613
  ![v824.toNat]
def k0_off12 (d0 : Dev nD) : Fin 3 → Nat :=
  let c5_i32_611 : BitVec 32 := 5#32
  let v0 : BitVec 32 := Dev.word d0
  let c1_i32 : BitVec 32 := 1#32
  let v1 : BitVec 32 := Scalar.divsi v0 c1_i32
  let c32_i32 : BitVec 32 := 32#32
  let v2 : BitVec 32 := Scalar.remsi v1 c32_i32
  let v822 : BitVec 32 := Scalar.subi c5_i32_611 v2
  let c32_i32_612 : BitVec 32 := 32#32
  let v823 : BitVec 32 := Scalar.addi v822 c32_i32_612
  let c32_i32_613 : BitVec 32 := 32#32
  let v824 : BitVec 32 := Scalar.remsi v823 c32_i32_613
  let c0_i32_2944 : BitVec 32 := 0#32
  let c0_i32_2945 : BitVec 32 := 0#32
  ![v824.toNat, 0, 0]
def k0_dev37 : Nat :=
  let c0_i32_2943 : BitVec 32 := 0#32
  let c5_i32_615 : BitVec 32 := 5#32
  let c1_i32_2942 : BitVec 32 := 1#32
  let v3340 : BitVec 32 := Scalar.muli c5_i32_615 c1_i32_2942
  let v3341 : BitVec 32 := Scalar.addi c0_i32_2943 v3340
  v3341.toNat
def k0_cond7 (d0 : Dev nD) : BitVec 1 :=
  let c6_i32_620 : BitVec 32 := 6#32
  let v0 : BitVec 32 := Dev.word d0
  let c1_i32 : BitVec 32 := 1#32
  let v1 : BitVec 32 := Scalar.divsi v0 c1_i32
  let c32_i32 : BitVec 32 := 32#32
  let v2 : BitVec 32 := Scalar.remsi v1 c32_i32
  let v831 : BitVec 1 := Scalar.cmpi .ne c6_i32_620 v2
  let v832 : BitVec 32 := Scalar.extui v831
  let c0_i32_622 : BitVec 32 := 0#32
  let v833 : BitVec 1 := Scalar.cmpi .ne v832 c0_i32_622
  v833

def k0_off13 (d0 : Dev nD) : Fin 1 → Nat :=
  let c6_i32_617 : BitVec 32 := 6#32
  let v0 : BitVec 32 := Dev.word d0
  let c1_i32 : BitVec 32 := 1#32
  let v1 : BitVec 32 := Scalar.divsi v0 c1_i32
  let c32_i32 : BitVec 32 := 32#32
  let v2 : BitVec 32 := Scalar.remsi v1 c32_i32
  let v828 : BitVec 32 := Scalar.subi c6_i32_617 v2
  let c32_i32_618 : BitVec 32 := 32#32
  let v829 : BitVec 32 := Scalar.addi v828 c32_i32_618
  let c32_i32_619 : BitVec 32 := 32#32
  let v830 : BitVec 32 := Scalar.remsi v829 c32_i32_619
  ![v830.toNat]
def k0_off14 (d0 : Dev nD) : Fin 3 → Nat :=
  let c6_i32_617 : BitVec 32 := 6#32
  let v0 : BitVec 32 := Dev.word d0
  let c1_i32 : BitVec 32 := 1#32
  let v1 : BitVec 32 := Scalar.divsi v0 c1_i32
  let c32_i32 : BitVec 32 := 32#32
  let v2 : BitVec 32 := Scalar.remsi v1 c32_i32
  let v828 : BitVec 32 := Scalar.subi c6_i32_617 v2
  let c32_i32_618 : BitVec 32 := 32#32
  let v829 : BitVec 32 := Scalar.addi v828 c32_i32_618
  let c32_i32_619 : BitVec 32 := 32#32
  let v830 : BitVec 32 := Scalar.remsi v829 c32_i32_619
  let c0_i32_2944 : BitVec 32 := 0#32
  let c0_i32_2945 : BitVec 32 := 0#32
  ![v830.toNat, 0, 0]
def k0_dev38 : Nat :=
  let c0_i32_2943 : BitVec 32 := 0#32
  let c6_i32_621 : BitVec 32 := 6#32
  let c1_i32_2942 : BitVec 32 := 1#32
  let v3340 : BitVec 32 := Scalar.muli c6_i32_621 c1_i32_2942
  let v3341 : BitVec 32 := Scalar.addi c0_i32_2943 v3340
  v3341.toNat
def k0_cond8 (d0 : Dev nD) : BitVec 1 :=
  let c7_i32_626 : BitVec 32 := 7#32
  let v0 : BitVec 32 := Dev.word d0
  let c1_i32 : BitVec 32 := 1#32
  let v1 : BitVec 32 := Scalar.divsi v0 c1_i32
  let c32_i32 : BitVec 32 := 32#32
  let v2 : BitVec 32 := Scalar.remsi v1 c32_i32
  let v837 : BitVec 1 := Scalar.cmpi .ne c7_i32_626 v2
  let v838 : BitVec 32 := Scalar.extui v837
  let c0_i32_628 : BitVec 32 := 0#32
  let v839 : BitVec 1 := Scalar.cmpi .ne v838 c0_i32_628
  v839

def k0_off15 (d0 : Dev nD) : Fin 1 → Nat :=
  let c7_i32_623 : BitVec 32 := 7#32
  let v0 : BitVec 32 := Dev.word d0
  let c1_i32 : BitVec 32 := 1#32
  let v1 : BitVec 32 := Scalar.divsi v0 c1_i32
  let c32_i32 : BitVec 32 := 32#32
  let v2 : BitVec 32 := Scalar.remsi v1 c32_i32
  let v834 : BitVec 32 := Scalar.subi c7_i32_623 v2
  let c32_i32_624 : BitVec 32 := 32#32
  let v835 : BitVec 32 := Scalar.addi v834 c32_i32_624
  let c32_i32_625 : BitVec 32 := 32#32
  let v836 : BitVec 32 := Scalar.remsi v835 c32_i32_625
  ![v836.toNat]
def k0_off16 (d0 : Dev nD) : Fin 3 → Nat :=
  let c7_i32_623 : BitVec 32 := 7#32
  let v0 : BitVec 32 := Dev.word d0
  let c1_i32 : BitVec 32 := 1#32
  let v1 : BitVec 32 := Scalar.divsi v0 c1_i32
  let c32_i32 : BitVec 32 := 32#32
  let v2 : BitVec 32 := Scalar.remsi v1 c32_i32
  let v834 : BitVec 32 := Scalar.subi c7_i32_623 v2
  let c32_i32_624 : BitVec 32 := 32#32
  let v835 : BitVec 32 := Scalar.addi v834 c32_i32_624
  let c32_i32_625 : BitVec 32 := 32#32
  let v836 : BitVec 32 := Scalar.remsi v835 c32_i32_625
  let c0_i32_2944 : BitVec 32 := 0#32
  let c0_i32_2945 : BitVec 32 := 0#32
  ![v836.toNat, 0, 0]
def k0_dev39 : Nat :=
  let c0_i32_2943 : BitVec 32 := 0#32
  let c7_i32_627 : BitVec 32 := 7#32
  let c1_i32_2942 : BitVec 32 := 1#32
  let v3340 : BitVec 32 := Scalar.muli c7_i32_627 c1_i32_2942
  let v3341 : BitVec 32 := Scalar.addi c0_i32_2943 v3340
  v3341.toNat
def k0_cond9 (d0 : Dev nD) : BitVec 1 :=
  let c8_i32_763 : BitVec 32 := 8#32
  let v0 : BitVec 32 := Dev.word d0
  let c1_i32 : BitVec 32 := 1#32
  let v1 : BitVec 32 := Scalar.divsi v0 c1_i32
  let c32_i32 : BitVec 32 := 32#32
  let v2 : BitVec 32 := Scalar.remsi v1 c32_i32
  let v1016 : BitVec 1 := Scalar.cmpi .ne c8_i32_763 v2
  let v1017 : BitVec 32 := Scalar.extui v1016
  let c0_i32_765 : BitVec 32 := 0#32
  let v1018 : BitVec 1 := Scalar.cmpi .ne v1017 c0_i32_765
  v1018

def k0_off17 (d0 : Dev nD) : Fin 1 → Nat :=
  let c8_i32_760 : BitVec 32 := 8#32
  let v0 : BitVec 32 := Dev.word d0
  let c1_i32 : BitVec 32 := 1#32
  let v1 : BitVec 32 := Scalar.divsi v0 c1_i32
  let c32_i32 : BitVec 32 := 32#32
  let v2 : BitVec 32 := Scalar.remsi v1 c32_i32
  let v1013 : BitVec 32 := Scalar.subi c8_i32_760 v2
  let c32_i32_761 : BitVec 32 := 32#32
  let v1014 : BitVec 32 := Scalar.addi v1013 c32_i32_761
  let c32_i32_762 : BitVec 32 := 32#32
  let v1015 : BitVec 32 := Scalar.remsi v1014 c32_i32_762
  ![v1015.toNat]
def k0_off18 (d0 : Dev nD) : Fin 3 → Nat :=
  let c8_i32_760 : BitVec 32 := 8#32
  let v0 : BitVec 32 := Dev.word d0
  let c1_i32 : BitVec 32 := 1#32
  let v1 : BitVec 32 := Scalar.divsi v0 c1_i32
  let c32_i32 : BitVec 32 := 32#32
  let v2 : BitVec 32 := Scalar.remsi v1 c32_i32
  let v1013 : BitVec 32 := Scalar.subi c8_i32_760 v2
  let c32_i32_761 : BitVec 32 := 32#32
  let v1014 : BitVec 32 := Scalar.addi v1013 c32_i32_761
  let c32_i32_762 : BitVec 32 := 32#32
  let v1015 : BitVec 32 := Scalar.remsi v1014 c32_i32_762
  let c0_i32_2944 : BitVec 32 := 0#32
  let c0_i32_2945 : BitVec 32 := 0#32
  ![v1015.toNat, 0, 0]
def k0_dev40 : Nat :=
  let c0_i32_2943 : BitVec 32 := 0#32
  let c8_i32_764 : BitVec 32 := 8#32
  let c1_i32_2942 : BitVec 32 := 1#32
  let v3340 : BitVec 32 := Scalar.muli c8_i32_764 c1_i32_2942
  let v3341 : BitVec 32 := Scalar.addi c0_i32_2943 v3340
  v3341.toNat
def k0_cond10 (d0 : Dev nD) : BitVec 1 :=
  let c9_i32_769 : BitVec 32 := 9#32
  let v0 : BitVec 32 := Dev.word d0
  let c1_i32 : BitVec 32 := 1#32
  let v1 : BitVec 32 := Scalar.divsi v0 c1_i32
  let c32_i32 : BitVec 32 := 32#32
  let v2 : BitVec 32 := Scalar.remsi v1 c32_i32
  let v1022 : BitVec 1 := Scalar.cmpi .ne c9_i32_769 v2
  let v1023 : BitVec 32 := Scalar.extui v1022
  let c0_i32_771 : BitVec 32 := 0#32
  let v1024 : BitVec 1 := Scalar.cmpi .ne v1023 c0_i32_771
  v1024

def k0_off19 (d0 : Dev nD) : Fin 1 → Nat :=
  let c9_i32_766 : BitVec 32 := 9#32
  let v0 : BitVec 32 := Dev.word d0
  let c1_i32 : BitVec 32 := 1#32
  let v1 : BitVec 32 := Scalar.divsi v0 c1_i32
  let c32_i32 : BitVec 32 := 32#32
  let v2 : BitVec 32 := Scalar.remsi v1 c32_i32
  let v1019 : BitVec 32 := Scalar.subi c9_i32_766 v2
  let c32_i32_767 : BitVec 32 := 32#32
  let v1020 : BitVec 32 := Scalar.addi v1019 c32_i32_767
  let c32_i32_768 : BitVec 32 := 32#32
  let v1021 : BitVec 32 := Scalar.remsi v1020 c32_i32_768
  ![v1021.toNat]
def k0_off20 (d0 : Dev nD) : Fin 3 → Nat :=
  let c9_i32_766 : BitVec 32 := 9#32
  let v0 : BitVec 32 := Dev.word d0
  let c1_i32 : BitVec 32 := 1#32
  let v1 : BitVec 32 := Scalar.divsi v0 c1_i32
  let c32_i32 : BitVec 32 := 32#32
  let v2 : BitVec 32 := Scalar.remsi v1 c32_i32
  let v1019 : BitVec 32 := Scalar.subi c9_i32_766 v2
  let c32_i32_767 : BitVec 32 := 32#32
  let v1020 : BitVec 32 := Scalar.addi v1019 c32_i32_767
  let c32_i32_768 : BitVec 32 := 32#32
  let v1021 : BitVec 32 := Scalar.remsi v1020 c32_i32_768
  let c0_i32_2944 : BitVec 32 := 0#32
  let c0_i32_2945 : BitVec 32 := 0#32
  ![v1021.toNat, 0, 0]
def k0_dev41 : Nat :=
  let c0_i32_2943 : BitVec 32 := 0#32
  let c9_i32_770 : BitVec 32 := 9#32
  let c1_i32_2942 : BitVec 32 := 1#32
  let v3340 : BitVec 32 := Scalar.muli c9_i32_770 c1_i32_2942
  let v3341 : BitVec 32 := Scalar.addi c0_i32_2943 v3340
  v3341.toNat
def k0_cond11 (d0 : Dev nD) : BitVec 1 :=
  let c10_i32_775 : BitVec 32 := 10#32
  let v0 : BitVec 32 := Dev.word d0
  let c1_i32 : BitVec 32 := 1#32
  let v1 : BitVec 32 := Scalar.divsi v0 c1_i32
  let c32_i32 : BitVec 32 := 32#32
  let v2 : BitVec 32 := Scalar.remsi v1 c32_i32
  let v1028 : BitVec 1 := Scalar.cmpi .ne c10_i32_775 v2
  let v1029 : BitVec 32 := Scalar.extui v1028
  let c0_i32_777 : BitVec 32 := 0#32
  let v1030 : BitVec 1 := Scalar.cmpi .ne v1029 c0_i32_777
  v1030

def k0_off21 (d0 : Dev nD) : Fin 1 → Nat :=
  let c10_i32_772 : BitVec 32 := 10#32
  let v0 : BitVec 32 := Dev.word d0
  let c1_i32 : BitVec 32 := 1#32
  let v1 : BitVec 32 := Scalar.divsi v0 c1_i32
  let c32_i32 : BitVec 32 := 32#32
  let v2 : BitVec 32 := Scalar.remsi v1 c32_i32
  let v1025 : BitVec 32 := Scalar.subi c10_i32_772 v2
  let c32_i32_773 : BitVec 32 := 32#32
  let v1026 : BitVec 32 := Scalar.addi v1025 c32_i32_773
  let c32_i32_774 : BitVec 32 := 32#32
  let v1027 : BitVec 32 := Scalar.remsi v1026 c32_i32_774
  ![v1027.toNat]
def k0_off22 (d0 : Dev nD) : Fin 3 → Nat :=
  let c10_i32_772 : BitVec 32 := 10#32
  let v0 : BitVec 32 := Dev.word d0
  let c1_i32 : BitVec 32 := 1#32
  let v1 : BitVec 32 := Scalar.divsi v0 c1_i32
  let c32_i32 : BitVec 32 := 32#32
  let v2 : BitVec 32 := Scalar.remsi v1 c32_i32
  let v1025 : BitVec 32 := Scalar.subi c10_i32_772 v2
  let c32_i32_773 : BitVec 32 := 32#32
  let v1026 : BitVec 32 := Scalar.addi v1025 c32_i32_773
  let c32_i32_774 : BitVec 32 := 32#32
  let v1027 : BitVec 32 := Scalar.remsi v1026 c32_i32_774
  let c0_i32_2944 : BitVec 32 := 0#32
  let c0_i32_2945 : BitVec 32 := 0#32
  ![v1027.toNat, 0, 0]
def k0_dev42 : Nat :=
  let c0_i32_2943 : BitVec 32 := 0#32
  let c10_i32_776 : BitVec 32 := 10#32
  let c1_i32_2942 : BitVec 32 := 1#32
  let v3340 : BitVec 32 := Scalar.muli c10_i32_776 c1_i32_2942
  let v3341 : BitVec 32 := Scalar.addi c0_i32_2943 v3340
  v3341.toNat
def k0_cond12 (d0 : Dev nD) : BitVec 1 :=
  let c11_i32_781 : BitVec 32 := 11#32
  let v0 : BitVec 32 := Dev.word d0
  let c1_i32 : BitVec 32 := 1#32
  let v1 : BitVec 32 := Scalar.divsi v0 c1_i32
  let c32_i32 : BitVec 32 := 32#32
  let v2 : BitVec 32 := Scalar.remsi v1 c32_i32
  let v1034 : BitVec 1 := Scalar.cmpi .ne c11_i32_781 v2
  let v1035 : BitVec 32 := Scalar.extui v1034
  let c0_i32_783 : BitVec 32 := 0#32
  let v1036 : BitVec 1 := Scalar.cmpi .ne v1035 c0_i32_783
  v1036

def k0_off23 (d0 : Dev nD) : Fin 1 → Nat :=
  let c11_i32_778 : BitVec 32 := 11#32
  let v0 : BitVec 32 := Dev.word d0
  let c1_i32 : BitVec 32 := 1#32
  let v1 : BitVec 32 := Scalar.divsi v0 c1_i32
  let c32_i32 : BitVec 32 := 32#32
  let v2 : BitVec 32 := Scalar.remsi v1 c32_i32
  let v1031 : BitVec 32 := Scalar.subi c11_i32_778 v2
  let c32_i32_779 : BitVec 32 := 32#32
  let v1032 : BitVec 32 := Scalar.addi v1031 c32_i32_779
  let c32_i32_780 : BitVec 32 := 32#32
  let v1033 : BitVec 32 := Scalar.remsi v1032 c32_i32_780
  ![v1033.toNat]
def k0_off24 (d0 : Dev nD) : Fin 3 → Nat :=
  let c11_i32_778 : BitVec 32 := 11#32
  let v0 : BitVec 32 := Dev.word d0
  let c1_i32 : BitVec 32 := 1#32
  let v1 : BitVec 32 := Scalar.divsi v0 c1_i32
  let c32_i32 : BitVec 32 := 32#32
  let v2 : BitVec 32 := Scalar.remsi v1 c32_i32
  let v1031 : BitVec 32 := Scalar.subi c11_i32_778 v2
  let c32_i32_779 : BitVec 32 := 32#32
  let v1032 : BitVec 32 := Scalar.addi v1031 c32_i32_779
  let c32_i32_780 : BitVec 32 := 32#32
  let v1033 : BitVec 32 := Scalar.remsi v1032 c32_i32_780
  let c0_i32_2944 : BitVec 32 := 0#32
  let c0_i32_2945 : BitVec 32 := 0#32
  ![v1033.toNat, 0, 0]
def k0_dev43 : Nat :=
  let c0_i32_2943 : BitVec 32 := 0#32
  let c11_i32_782 : BitVec 32 := 11#32
  let c1_i32_2942 : BitVec 32 := 1#32
  let v3340 : BitVec 32 := Scalar.muli c11_i32_782 c1_i32_2942
  let v3341 : BitVec 32 := Scalar.addi c0_i32_2943 v3340
  v3341.toNat
def k0_cond13 (d0 : Dev nD) : BitVec 1 :=
  let c12_i32_918 : BitVec 32 := 12#32
  let v0 : BitVec 32 := Dev.word d0
  let c1_i32 : BitVec 32 := 1#32
  let v1 : BitVec 32 := Scalar.divsi v0 c1_i32
  let c32_i32 : BitVec 32 := 32#32
  let v2 : BitVec 32 := Scalar.remsi v1 c32_i32
  let v1213 : BitVec 1 := Scalar.cmpi .ne c12_i32_918 v2
  let v1214 : BitVec 32 := Scalar.extui v1213
  let c0_i32_920 : BitVec 32 := 0#32
  let v1215 : BitVec 1 := Scalar.cmpi .ne v1214 c0_i32_920
  v1215

def k0_off25 (d0 : Dev nD) : Fin 1 → Nat :=
  let c12_i32_915 : BitVec 32 := 12#32
  let v0 : BitVec 32 := Dev.word d0
  let c1_i32 : BitVec 32 := 1#32
  let v1 : BitVec 32 := Scalar.divsi v0 c1_i32
  let c32_i32 : BitVec 32 := 32#32
  let v2 : BitVec 32 := Scalar.remsi v1 c32_i32
  let v1210 : BitVec 32 := Scalar.subi c12_i32_915 v2
  let c32_i32_916 : BitVec 32 := 32#32
  let v1211 : BitVec 32 := Scalar.addi v1210 c32_i32_916
  let c32_i32_917 : BitVec 32 := 32#32
  let v1212 : BitVec 32 := Scalar.remsi v1211 c32_i32_917
  ![v1212.toNat]
def k0_off26 (d0 : Dev nD) : Fin 3 → Nat :=
  let c12_i32_915 : BitVec 32 := 12#32
  let v0 : BitVec 32 := Dev.word d0
  let c1_i32 : BitVec 32 := 1#32
  let v1 : BitVec 32 := Scalar.divsi v0 c1_i32
  let c32_i32 : BitVec 32 := 32#32
  let v2 : BitVec 32 := Scalar.remsi v1 c32_i32
  let v1210 : BitVec 32 := Scalar.subi c12_i32_915 v2
  let c32_i32_916 : BitVec 32 := 32#32
  let v1211 : BitVec 32 := Scalar.addi v1210 c32_i32_916
  let c32_i32_917 : BitVec 32 := 32#32
  let v1212 : BitVec 32 := Scalar.remsi v1211 c32_i32_917
  let c0_i32_2944 : BitVec 32 := 0#32
  let c0_i32_2945 : BitVec 32 := 0#32
  ![v1212.toNat, 0, 0]
def k0_dev44 : Nat :=
  let c0_i32_2943 : BitVec 32 := 0#32
  let c12_i32_919 : BitVec 32 := 12#32
  let c1_i32_2942 : BitVec 32 := 1#32
  let v3340 : BitVec 32 := Scalar.muli c12_i32_919 c1_i32_2942
  let v3341 : BitVec 32 := Scalar.addi c0_i32_2943 v3340
  v3341.toNat
def k0_cond14 (d0 : Dev nD) : BitVec 1 :=
  let c13_i32_924 : BitVec 32 := 13#32
  let v0 : BitVec 32 := Dev.word d0
  let c1_i32 : BitVec 32 := 1#32
  let v1 : BitVec 32 := Scalar.divsi v0 c1_i32
  let c32_i32 : BitVec 32 := 32#32
  let v2 : BitVec 32 := Scalar.remsi v1 c32_i32
  let v1219 : BitVec 1 := Scalar.cmpi .ne c13_i32_924 v2
  let v1220 : BitVec 32 := Scalar.extui v1219
  let c0_i32_926 : BitVec 32 := 0#32
  let v1221 : BitVec 1 := Scalar.cmpi .ne v1220 c0_i32_926
  v1221

def k0_off27 (d0 : Dev nD) : Fin 1 → Nat :=
  let c13_i32_921 : BitVec 32 := 13#32
  let v0 : BitVec 32 := Dev.word d0
  let c1_i32 : BitVec 32 := 1#32
  let v1 : BitVec 32 := Scalar.divsi v0 c1_i32
  let c32_i32 : BitVec 32 := 32#32
  let v2 : BitVec 32 := Scalar.remsi v1 c32_i32
  let v1216 : BitVec 32 := Scalar.subi c13_i32_921 v2
  let c32_i32_922 : BitVec 32 := 32#32
  let v1217 : BitVec 32 := Scalar.addi v1216 c32_i32_922
  let c32_i32_923 : BitVec 32 := 32#32
  let v1218 : BitVec 32 := Scalar.remsi v1217 c32_i32_923
  ![v1218.toNat]
def k0_off28 (d0 : Dev nD) : Fin 3 → Nat :=
  let c13_i32_921 : BitVec 32 := 13#32
  let v0 : BitVec 32 := Dev.word d0
  let c1_i32 : BitVec 32 := 1#32
  let v1 : BitVec 32 := Scalar.divsi v0 c1_i32
  let c32_i32 : BitVec 32 := 32#32
  let v2 : BitVec 32 := Scalar.remsi v1 c32_i32
  let v1216 : BitVec 32 := Scalar.subi c13_i32_921 v2
  let c32_i32_922 : BitVec 32 := 32#32
  let v1217 : BitVec 32 := Scalar.addi v1216 c32_i32_922
  let c32_i32_923 : BitVec 32 := 32#32
  let v1218 : BitVec 32 := Scalar.remsi v1217 c32_i32_923
  let c0_i32_2944 : BitVec 32 := 0#32
  let c0_i32_2945 : BitVec 32 := 0#32
  ![v1218.toNat, 0, 0]
def k0_dev45 : Nat :=
  let c0_i32_2943 : BitVec 32 := 0#32
  let c13_i32_925 : BitVec 32 := 13#32
  let c1_i32_2942 : BitVec 32 := 1#32
  let v3340 : BitVec 32 := Scalar.muli c13_i32_925 c1_i32_2942
  let v3341 : BitVec 32 := Scalar.addi c0_i32_2943 v3340
  v3341.toNat
def k0_cond15 (d0 : Dev nD) : BitVec 1 :=
  let c14_i32_930 : BitVec 32 := 14#32
  let v0 : BitVec 32 := Dev.word d0
  let c1_i32 : BitVec 32 := 1#32
  let v1 : BitVec 32 := Scalar.divsi v0 c1_i32
  let c32_i32 : BitVec 32 := 32#32
  let v2 : BitVec 32 := Scalar.remsi v1 c32_i32
  let v1225 : BitVec 1 := Scalar.cmpi .ne c14_i32_930 v2
  let v1226 : BitVec 32 := Scalar.extui v1225
  let c0_i32_932 : BitVec 32 := 0#32
  let v1227 : BitVec 1 := Scalar.cmpi .ne v1226 c0_i32_932
  v1227

def k0_off29 (d0 : Dev nD) : Fin 1 → Nat :=
  let c14_i32_927 : BitVec 32 := 14#32
  let v0 : BitVec 32 := Dev.word d0
  let c1_i32 : BitVec 32 := 1#32
  let v1 : BitVec 32 := Scalar.divsi v0 c1_i32
  let c32_i32 : BitVec 32 := 32#32
  let v2 : BitVec 32 := Scalar.remsi v1 c32_i32
  let v1222 : BitVec 32 := Scalar.subi c14_i32_927 v2
  let c32_i32_928 : BitVec 32 := 32#32
  let v1223 : BitVec 32 := Scalar.addi v1222 c32_i32_928
  let c32_i32_929 : BitVec 32 := 32#32
  let v1224 : BitVec 32 := Scalar.remsi v1223 c32_i32_929
  ![v1224.toNat]
def k0_off30 (d0 : Dev nD) : Fin 3 → Nat :=
  let c14_i32_927 : BitVec 32 := 14#32
  let v0 : BitVec 32 := Dev.word d0
  let c1_i32 : BitVec 32 := 1#32
  let v1 : BitVec 32 := Scalar.divsi v0 c1_i32
  let c32_i32 : BitVec 32 := 32#32
  let v2 : BitVec 32 := Scalar.remsi v1 c32_i32
  let v1222 : BitVec 32 := Scalar.subi c14_i32_927 v2
  let c32_i32_928 : BitVec 32 := 32#32
  let v1223 : BitVec 32 := Scalar.addi v1222 c32_i32_928
  let c32_i32_929 : BitVec 32 := 32#32
  let v1224 : BitVec 32 := Scalar.remsi v1223 c32_i32_929
  let c0_i32_2944 : BitVec 32 := 0#32
  let c0_i32_2945 : BitVec 32 := 0#32
  ![v1224.toNat, 0, 0]
def k0_dev46 : Nat :=
  let c0_i32_2943 : BitVec 32 := 0#32
  let c14_i32_931 : BitVec 32 := 14#32
  let c1_i32_2942 : BitVec 32 := 1#32
  let v3340 : BitVec 32 := Scalar.muli c14_i32_931 c1_i32_2942
  let v3341 : BitVec 32 := Scalar.addi c0_i32_2943 v3340
  v3341.toNat
def k0_cond16 (d0 : Dev nD) : BitVec 1 :=
  let c15_i32_936 : BitVec 32 := 15#32
  let v0 : BitVec 32 := Dev.word d0
  let c1_i32 : BitVec 32 := 1#32
  let v1 : BitVec 32 := Scalar.divsi v0 c1_i32
  let c32_i32 : BitVec 32 := 32#32
  let v2 : BitVec 32 := Scalar.remsi v1 c32_i32
  let v1231 : BitVec 1 := Scalar.cmpi .ne c15_i32_936 v2
  let v1232 : BitVec 32 := Scalar.extui v1231
  let c0_i32_938 : BitVec 32 := 0#32
  let v1233 : BitVec 1 := Scalar.cmpi .ne v1232 c0_i32_938
  v1233

def k0_off31 (d0 : Dev nD) : Fin 1 → Nat :=
  let c15_i32_933 : BitVec 32 := 15#32
  let v0 : BitVec 32 := Dev.word d0
  let c1_i32 : BitVec 32 := 1#32
  let v1 : BitVec 32 := Scalar.divsi v0 c1_i32
  let c32_i32 : BitVec 32 := 32#32
  let v2 : BitVec 32 := Scalar.remsi v1 c32_i32
  let v1228 : BitVec 32 := Scalar.subi c15_i32_933 v2
  let c32_i32_934 : BitVec 32 := 32#32
  let v1229 : BitVec 32 := Scalar.addi v1228 c32_i32_934
  let c32_i32_935 : BitVec 32 := 32#32
  let v1230 : BitVec 32 := Scalar.remsi v1229 c32_i32_935
  ![v1230.toNat]
def k0_off32 (d0 : Dev nD) : Fin 3 → Nat :=
  let c15_i32_933 : BitVec 32 := 15#32
  let v0 : BitVec 32 := Dev.word d0
  let c1_i32 : BitVec 32 := 1#32
  let v1 : BitVec 32 := Scalar.divsi v0 c1_i32
  let c32_i32 : BitVec 32 := 32#32
  let v2 : BitVec 32 := Scalar.remsi v1 c32_i32
  let v1228 : BitVec 32 := Scalar.subi c15_i32_933 v2
  let c32_i32_934 : BitVec 32 := 32#32
  let v1229 : BitVec 32 := Scalar.addi v1228 c32_i32_934
  let c32_i32_935 : BitVec 32 := 32#32
  let v1230 : BitVec 32 := Scalar.remsi v1229 c32_i32_935
  let c0_i32_2944 : BitVec 32 := 0#32
  let c0_i32_2945 : BitVec 32 := 0#32
  ![v1230.toNat, 0, 0]
def k0_dev47 : Nat :=
  let c0_i32_2943 : BitVec 32 := 0#32
  let c15_i32_937 : BitVec 32 := 15#32
  let c1_i32_2942 : BitVec 32 := 1#32
  let v3340 : BitVec 32 := Scalar.muli c15_i32_937 c1_i32_2942
  let v3341 : BitVec 32 := Scalar.addi c0_i32_2943 v3340
  v3341.toNat
def k0_cond17 (d0 : Dev nD) : BitVec 1 :=
  let c16_i32_1073 : BitVec 32 := 16#32
  let v0 : BitVec 32 := Dev.word d0
  let c1_i32 : BitVec 32 := 1#32
  let v1 : BitVec 32 := Scalar.divsi v0 c1_i32
  let c32_i32 : BitVec 32 := 32#32
  let v2 : BitVec 32 := Scalar.remsi v1 c32_i32
  let v1410 : BitVec 1 := Scalar.cmpi .ne c16_i32_1073 v2
  let v1411 : BitVec 32 := Scalar.extui v1410
  let c0_i32_1075 : BitVec 32 := 0#32
  let v1412 : BitVec 1 := Scalar.cmpi .ne v1411 c0_i32_1075
  v1412

def k0_off33 (d0 : Dev nD) : Fin 1 → Nat :=
  let c16_i32_1070 : BitVec 32 := 16#32
  let v0 : BitVec 32 := Dev.word d0
  let c1_i32 : BitVec 32 := 1#32
  let v1 : BitVec 32 := Scalar.divsi v0 c1_i32
  let c32_i32 : BitVec 32 := 32#32
  let v2 : BitVec 32 := Scalar.remsi v1 c32_i32
  let v1407 : BitVec 32 := Scalar.subi c16_i32_1070 v2
  let c32_i32_1071 : BitVec 32 := 32#32
  let v1408 : BitVec 32 := Scalar.addi v1407 c32_i32_1071
  let c32_i32_1072 : BitVec 32 := 32#32
  let v1409 : BitVec 32 := Scalar.remsi v1408 c32_i32_1072
  ![v1409.toNat]
def k0_off34 (d0 : Dev nD) : Fin 3 → Nat :=
  let c16_i32_1070 : BitVec 32 := 16#32
  let v0 : BitVec 32 := Dev.word d0
  let c1_i32 : BitVec 32 := 1#32
  let v1 : BitVec 32 := Scalar.divsi v0 c1_i32
  let c32_i32 : BitVec 32 := 32#32
  let v2 : BitVec 32 := Scalar.remsi v1 c32_i32
  let v1407 : BitVec 32 := Scalar.subi c16_i32_1070 v2
  let c32_i32_1071 : BitVec 32 := 32#32
  let v1408 : BitVec 32 := Scalar.addi v1407 c32_i32_1071
  let c32_i32_1072 : BitVec 32 := 32#32
  let v1409 : BitVec 32 := Scalar.remsi v1408 c32_i32_1072
  let c0_i32_2944 : BitVec 32 := 0#32
  let c0_i32_2945 : BitVec 32 := 0#32
  ![v1409.toNat, 0, 0]
def k0_dev48 : Nat :=
  let c0_i32_2943 : BitVec 32 := 0#32
  let c16_i32_1074 : BitVec 32 := 16#32
  let c1_i32_2942 : BitVec 32 := 1#32
  let v3340 : BitVec 32 := Scalar.muli c16_i32_1074 c1_i32_2942
  let v3341 : BitVec 32 := Scalar.addi c0_i32_2943 v3340
  v3341.toNat
def k0_cond18 (d0 : Dev nD) : BitVec 1 :=
  let c17_i32_1079 : BitVec 32 := 17#32
  let v0 : BitVec 32 := Dev.word d0
  let c1_i32 : BitVec 32 := 1#32
  let v1 : BitVec 32 := Scalar.divsi v0 c1_i32
  let c32_i32 : BitVec 32 := 32#32
  let v2 : BitVec 32 := Scalar.remsi v1 c32_i32
  let v1416 : BitVec 1 := Scalar.cmpi .ne c17_i32_1079 v2
  let v1417 : BitVec 32 := Scalar.extui v1416
  let c0_i32_1081 : BitVec 32 := 0#32
  let v1418 : BitVec 1 := Scalar.cmpi .ne v1417 c0_i32_1081
  v1418

def k0_off35 (d0 : Dev nD) : Fin 1 → Nat :=
  let c17_i32_1076 : BitVec 32 := 17#32
  let v0 : BitVec 32 := Dev.word d0
  let c1_i32 : BitVec 32 := 1#32
  let v1 : BitVec 32 := Scalar.divsi v0 c1_i32
  let c32_i32 : BitVec 32 := 32#32
  let v2 : BitVec 32 := Scalar.remsi v1 c32_i32
  let v1413 : BitVec 32 := Scalar.subi c17_i32_1076 v2
  let c32_i32_1077 : BitVec 32 := 32#32
  let v1414 : BitVec 32 := Scalar.addi v1413 c32_i32_1077
  let c32_i32_1078 : BitVec 32 := 32#32
  let v1415 : BitVec 32 := Scalar.remsi v1414 c32_i32_1078
  ![v1415.toNat]
def k0_off36 (d0 : Dev nD) : Fin 3 → Nat :=
  let c17_i32_1076 : BitVec 32 := 17#32
  let v0 : BitVec 32 := Dev.word d0
  let c1_i32 : BitVec 32 := 1#32
  let v1 : BitVec 32 := Scalar.divsi v0 c1_i32
  let c32_i32 : BitVec 32 := 32#32
  let v2 : BitVec 32 := Scalar.remsi v1 c32_i32
  let v1413 : BitVec 32 := Scalar.subi c17_i32_1076 v2
  let c32_i32_1077 : BitVec 32 := 32#32
  let v1414 : BitVec 32 := Scalar.addi v1413 c32_i32_1077
  let c32_i32_1078 : BitVec 32 := 32#32
  let v1415 : BitVec 32 := Scalar.remsi v1414 c32_i32_1078
  let c0_i32_2944 : BitVec 32 := 0#32
  let c0_i32_2945 : BitVec 32 := 0#32
  ![v1415.toNat, 0, 0]
def k0_dev49 : Nat :=
  let c0_i32_2943 : BitVec 32 := 0#32
  let c17_i32_1080 : BitVec 32 := 17#32
  let c1_i32_2942 : BitVec 32 := 1#32
  let v3340 : BitVec 32 := Scalar.muli c17_i32_1080 c1_i32_2942
  let v3341 : BitVec 32 := Scalar.addi c0_i32_2943 v3340
  v3341.toNat
def k0_cond19 (d0 : Dev nD) : BitVec 1 :=
  let c18_i32_1085 : BitVec 32 := 18#32
  let v0 : BitVec 32 := Dev.word d0
  let c1_i32 : BitVec 32 := 1#32
  let v1 : BitVec 32 := Scalar.divsi v0 c1_i32
  let c32_i32 : BitVec 32 := 32#32
  let v2 : BitVec 32 := Scalar.remsi v1 c32_i32
  let v1422 : BitVec 1 := Scalar.cmpi .ne c18_i32_1085 v2
  let v1423 : BitVec 32 := Scalar.extui v1422
  let c0_i32_1087 : BitVec 32 := 0#32
  let v1424 : BitVec 1 := Scalar.cmpi .ne v1423 c0_i32_1087
  v1424

def k0_off37 (d0 : Dev nD) : Fin 1 → Nat :=
  let c18_i32_1082 : BitVec 32 := 18#32
  let v0 : BitVec 32 := Dev.word d0
  let c1_i32 : BitVec 32 := 1#32
  let v1 : BitVec 32 := Scalar.divsi v0 c1_i32
  let c32_i32 : BitVec 32 := 32#32
  let v2 : BitVec 32 := Scalar.remsi v1 c32_i32
  let v1419 : BitVec 32 := Scalar.subi c18_i32_1082 v2
  let c32_i32_1083 : BitVec 32 := 32#32
  let v1420 : BitVec 32 := Scalar.addi v1419 c32_i32_1083
  let c32_i32_1084 : BitVec 32 := 32#32
  let v1421 : BitVec 32 := Scalar.remsi v1420 c32_i32_1084
  ![v1421.toNat]
def k0_off38 (d0 : Dev nD) : Fin 3 → Nat :=
  let c18_i32_1082 : BitVec 32 := 18#32
  let v0 : BitVec 32 := Dev.word d0
  let c1_i32 : BitVec 32 := 1#32
  let v1 : BitVec 32 := Scalar.divsi v0 c1_i32
  let c32_i32 : BitVec 32 := 32#32
  let v2 : BitVec 32 := Scalar.remsi v1 c32_i32
  let v1419 : BitVec 32 := Scalar.subi c18_i32_1082 v2
  let c32_i32_1083 : BitVec 32 := 32#32
  let v1420 : BitVec 32 := Scalar.addi v1419 c32_i32_1083
  let c32_i32_1084 : BitVec 32 := 32#32
  let v1421 : BitVec 32 := Scalar.remsi v1420 c32_i32_1084
  let c0_i32_2944 : BitVec 32 := 0#32
  let c0_i32_2945 : BitVec 32 := 0#32
  ![v1421.toNat, 0, 0]
def k0_dev50 : Nat :=
  let c0_i32_2943 : BitVec 32 := 0#32
  let c18_i32_1086 : BitVec 32 := 18#32
  let c1_i32_2942 : BitVec 32 := 1#32
  let v3340 : BitVec 32 := Scalar.muli c18_i32_1086 c1_i32_2942
  let v3341 : BitVec 32 := Scalar.addi c0_i32_2943 v3340
  v3341.toNat
def k0_cond20 (d0 : Dev nD) : BitVec 1 :=
  let c19_i32_1091 : BitVec 32 := 19#32
  let v0 : BitVec 32 := Dev.word d0
  let c1_i32 : BitVec 32 := 1#32
  let v1 : BitVec 32 := Scalar.divsi v0 c1_i32
  let c32_i32 : BitVec 32 := 32#32
  let v2 : BitVec 32 := Scalar.remsi v1 c32_i32
  let v1428 : BitVec 1 := Scalar.cmpi .ne c19_i32_1091 v2
  let v1429 : BitVec 32 := Scalar.extui v1428
  let c0_i32_1093 : BitVec 32 := 0#32
  let v1430 : BitVec 1 := Scalar.cmpi .ne v1429 c0_i32_1093
  v1430

def k0_off39 (d0 : Dev nD) : Fin 1 → Nat :=
  let c19_i32_1088 : BitVec 32 := 19#32
  let v0 : BitVec 32 := Dev.word d0
  let c1_i32 : BitVec 32 := 1#32
  let v1 : BitVec 32 := Scalar.divsi v0 c1_i32
  let c32_i32 : BitVec 32 := 32#32
  let v2 : BitVec 32 := Scalar.remsi v1 c32_i32
  let v1425 : BitVec 32 := Scalar.subi c19_i32_1088 v2
  let c32_i32_1089 : BitVec 32 := 32#32
  let v1426 : BitVec 32 := Scalar.addi v1425 c32_i32_1089
  let c32_i32_1090 : BitVec 32 := 32#32
  let v1427 : BitVec 32 := Scalar.remsi v1426 c32_i32_1090
  ![v1427.toNat]
def k0_off40 (d0 : Dev nD) : Fin 3 → Nat :=
  let c19_i32_1088 : BitVec 32 := 19#32
  let v0 : BitVec 32 := Dev.word d0
  let c1_i32 : BitVec 32 := 1#32
  let v1 : BitVec 32 := Scalar.divsi v0 c1_i32
  let c32_i32 : BitVec 32 := 32#32
  let v2 : BitVec 32 := Scalar.remsi v1 c32_i32
  let v1425 : BitVec 32 := Scalar.subi c19_i32_1088 v2
  let c32_i32_1089 : BitVec 32 := 32#32
  let v1426 : BitVec 32 := Scalar.addi v1425 c32_i32_1089
  let c32_i32_1090 : BitVec 32 := 32#32
  let v1427 : BitVec 32 := Scalar.remsi v1426 c32_i32_1090
  let c0_i32_2944 : BitVec 32 := 0#32
  let c0_i32_2945 : BitVec 32 := 0#32
  ![v1427.toNat, 0, 0]
def k0_dev51 : Nat :=
  let c0_i32_2943 : BitVec 32 := 0#32
  let c19_i32_1092 : BitVec 32 := 19#32
  let c1_i32_2942 : BitVec 32 := 1#32
  let v3340 : BitVec 32 := Scalar.muli c19_i32_1092 c1_i32_2942
  let v3341 : BitVec 32 := Scalar.addi c0_i32_2943 v3340
  v3341.toNat
def k0_cond21 (d0 : Dev nD) : BitVec 1 :=
  let c20_i32_1228 : BitVec 32 := 20#32
  let v0 : BitVec 32 := Dev.word d0
  let c1_i32 : BitVec 32 := 1#32
  let v1 : BitVec 32 := Scalar.divsi v0 c1_i32
  let c32_i32 : BitVec 32 := 32#32
  let v2 : BitVec 32 := Scalar.remsi v1 c32_i32
  let v1607 : BitVec 1 := Scalar.cmpi .ne c20_i32_1228 v2
  let v1608 : BitVec 32 := Scalar.extui v1607
  let c0_i32_1230 : BitVec 32 := 0#32
  let v1609 : BitVec 1 := Scalar.cmpi .ne v1608 c0_i32_1230
  v1609

def k0_off41 (d0 : Dev nD) : Fin 1 → Nat :=
  let c20_i32_1225 : BitVec 32 := 20#32
  let v0 : BitVec 32 := Dev.word d0
  let c1_i32 : BitVec 32 := 1#32
  let v1 : BitVec 32 := Scalar.divsi v0 c1_i32
  let c32_i32 : BitVec 32 := 32#32
  let v2 : BitVec 32 := Scalar.remsi v1 c32_i32
  let v1604 : BitVec 32 := Scalar.subi c20_i32_1225 v2
  let c32_i32_1226 : BitVec 32 := 32#32
  let v1605 : BitVec 32 := Scalar.addi v1604 c32_i32_1226
  let c32_i32_1227 : BitVec 32 := 32#32
  let v1606 : BitVec 32 := Scalar.remsi v1605 c32_i32_1227
  ![v1606.toNat]
def k0_off42 (d0 : Dev nD) : Fin 3 → Nat :=
  let c20_i32_1225 : BitVec 32 := 20#32
  let v0 : BitVec 32 := Dev.word d0
  let c1_i32 : BitVec 32 := 1#32
  let v1 : BitVec 32 := Scalar.divsi v0 c1_i32
  let c32_i32 : BitVec 32 := 32#32
  let v2 : BitVec 32 := Scalar.remsi v1 c32_i32
  let v1604 : BitVec 32 := Scalar.subi c20_i32_1225 v2
  let c32_i32_1226 : BitVec 32 := 32#32
  let v1605 : BitVec 32 := Scalar.addi v1604 c32_i32_1226
  let c32_i32_1227 : BitVec 32 := 32#32
  let v1606 : BitVec 32 := Scalar.remsi v1605 c32_i32_1227
  let c0_i32_2944 : BitVec 32 := 0#32
  let c0_i32_2945 : BitVec 32 := 0#32
  ![v1606.toNat, 0, 0]
def k0_dev52 : Nat :=
  let c0_i32_2943 : BitVec 32 := 0#32
  let c20_i32_1229 : BitVec 32 := 20#32
  let c1_i32_2942 : BitVec 32 := 1#32
  let v3340 : BitVec 32 := Scalar.muli c20_i32_1229 c1_i32_2942
  let v3341 : BitVec 32 := Scalar.addi c0_i32_2943 v3340
  v3341.toNat
def k0_cond22 (d0 : Dev nD) : BitVec 1 :=
  let c21_i32_1234 : BitVec 32 := 21#32
  let v0 : BitVec 32 := Dev.word d0
  let c1_i32 : BitVec 32 := 1#32
  let v1 : BitVec 32 := Scalar.divsi v0 c1_i32
  let c32_i32 : BitVec 32 := 32#32
  let v2 : BitVec 32 := Scalar.remsi v1 c32_i32
  let v1613 : BitVec 1 := Scalar.cmpi .ne c21_i32_1234 v2
  let v1614 : BitVec 32 := Scalar.extui v1613
  let c0_i32_1236 : BitVec 32 := 0#32
  let v1615 : BitVec 1 := Scalar.cmpi .ne v1614 c0_i32_1236
  v1615

def k0_off43 (d0 : Dev nD) : Fin 1 → Nat :=
  let c21_i32_1231 : BitVec 32 := 21#32
  let v0 : BitVec 32 := Dev.word d0
  let c1_i32 : BitVec 32 := 1#32
  let v1 : BitVec 32 := Scalar.divsi v0 c1_i32
  let c32_i32 : BitVec 32 := 32#32
  let v2 : BitVec 32 := Scalar.remsi v1 c32_i32
  let v1610 : BitVec 32 := Scalar.subi c21_i32_1231 v2
  let c32_i32_1232 : BitVec 32 := 32#32
  let v1611 : BitVec 32 := Scalar.addi v1610 c32_i32_1232
  let c32_i32_1233 : BitVec 32 := 32#32
  let v1612 : BitVec 32 := Scalar.remsi v1611 c32_i32_1233
  ![v1612.toNat]
def k0_off44 (d0 : Dev nD) : Fin 3 → Nat :=
  let c21_i32_1231 : BitVec 32 := 21#32
  let v0 : BitVec 32 := Dev.word d0
  let c1_i32 : BitVec 32 := 1#32
  let v1 : BitVec 32 := Scalar.divsi v0 c1_i32
  let c32_i32 : BitVec 32 := 32#32
  let v2 : BitVec 32 := Scalar.remsi v1 c32_i32
  let v1610 : BitVec 32 := Scalar.subi c21_i32_1231 v2
  let c32_i32_1232 : BitVec 32 := 32#32
  let v1611 : BitVec 32 := Scalar.addi v1610 c32_i32_1232
  let c32_i32_1233 : BitVec 32 := 32#32
  let v1612 : BitVec 32 := Scalar.remsi v1611 c32_i32_1233
  let c0_i32_2944 : BitVec 32 := 0#32
  let c0_i32_2945 : BitVec 32 := 0#32
  ![v1612.toNat, 0, 0]
def k0_dev53 : Nat :=
  let c0_i32_2943 : BitVec 32 := 0#32
  let c21_i32_1235 : BitVec 32 := 21#32
  let c1_i32_2942 : BitVec 32 := 1#32
  let v3340 : BitVec 32 := Scalar.muli c21_i32_1235 c1_i32_2942
  let v3341 : BitVec 32 := Scalar.addi c0_i32_2943 v3340
  v3341.toNat
def k0_cond23 (d0 : Dev nD) : BitVec 1 :=
  let c22_i32_1240 : BitVec 32 := 22#32
  let v0 : BitVec 32 := Dev.word d0
  let c1_i32 : BitVec 32 := 1#32
  let v1 : BitVec 32 := Scalar.divsi v0 c1_i32
  let c32_i32 : BitVec 32 := 32#32
  let v2 : BitVec 32 := Scalar.remsi v1 c32_i32
  let v1619 : BitVec 1 := Scalar.cmpi .ne c22_i32_1240 v2
  let v1620 : BitVec 32 := Scalar.extui v1619
  let c0_i32_1242 : BitVec 32 := 0#32
  let v1621 : BitVec 1 := Scalar.cmpi .ne v1620 c0_i32_1242
  v1621

def k0_off45 (d0 : Dev nD) : Fin 1 → Nat :=
  let c22_i32_1237 : BitVec 32 := 22#32
  let v0 : BitVec 32 := Dev.word d0
  let c1_i32 : BitVec 32 := 1#32
  let v1 : BitVec 32 := Scalar.divsi v0 c1_i32
  let c32_i32 : BitVec 32 := 32#32
  let v2 : BitVec 32 := Scalar.remsi v1 c32_i32
  let v1616 : BitVec 32 := Scalar.subi c22_i32_1237 v2
  let c32_i32_1238 : BitVec 32 := 32#32
  let v1617 : BitVec 32 := Scalar.addi v1616 c32_i32_1238
  let c32_i32_1239 : BitVec 32 := 32#32
  let v1618 : BitVec 32 := Scalar.remsi v1617 c32_i32_1239
  ![v1618.toNat]
def k0_off46 (d0 : Dev nD) : Fin 3 → Nat :=
  let c22_i32_1237 : BitVec 32 := 22#32
  let v0 : BitVec 32 := Dev.word d0
  let c1_i32 : BitVec 32 := 1#32
  let v1 : BitVec 32 := Scalar.divsi v0 c1_i32
  let c32_i32 : BitVec 32 := 32#32
  let v2 : BitVec 32 := Scalar.remsi v1 c32_i32
  let v1616 : BitVec 32 := Scalar.subi c22_i32_1237 v2
  let c32_i32_1238 : BitVec 32 := 32#32
  let v1617 : BitVec 32 := Scalar.addi v1616 c32_i32_1238
  let c32_i32_1239 : BitVec 32 := 32#32
  let v1618 : BitVec 32 := Scalar.remsi v1617 c32_i32_1239
  let c0_i32_2944 : BitVec 32 := 0#32
  let c0_i32_2945 : BitVec 32 := 0#32
  ![v1618.toNat, 0, 0]
def k0_dev54 : Nat :=
  let c0_i32_2943 : BitVec 32 := 0#32
  let c22_i32_1241 : BitVec 32 := 22#32
  let c1_i32_2942 : BitVec 32 := 1#32
  let v3340 : BitVec 32 := Scalar.muli c22_i32_1241 c1_i32_2942
  let v3341 : BitVec 32 := Scalar.addi c0_i32_2943 v3340
  v3341.toNat
def k0_cond24 (d0 : Dev nD) : BitVec 1 :=
  let c23_i32_1246 : BitVec 32 := 23#32
  let v0 : BitVec 32 := Dev.word d0
  let c1_i32 : BitVec 32 := 1#32
  let v1 : BitVec 32 := Scalar.divsi v0 c1_i32
  let c32_i32 : BitVec 32 := 32#32
  let v2 : BitVec 32 := Scalar.remsi v1 c32_i32
  let v1625 : BitVec 1 := Scalar.cmpi .ne c23_i32_1246 v2
  let v1626 : BitVec 32 := Scalar.extui v1625
  let c0_i32_1248 : BitVec 32 := 0#32
  let v1627 : BitVec 1 := Scalar.cmpi .ne v1626 c0_i32_1248
  v1627

def k0_off47 (d0 : Dev nD) : Fin 1 → Nat :=
  let c23_i32_1243 : BitVec 32 := 23#32
  let v0 : BitVec 32 := Dev.word d0
  let c1_i32 : BitVec 32 := 1#32
  let v1 : BitVec 32 := Scalar.divsi v0 c1_i32
  let c32_i32 : BitVec 32 := 32#32
  let v2 : BitVec 32 := Scalar.remsi v1 c32_i32
  let v1622 : BitVec 32 := Scalar.subi c23_i32_1243 v2
  let c32_i32_1244 : BitVec 32 := 32#32
  let v1623 : BitVec 32 := Scalar.addi v1622 c32_i32_1244
  let c32_i32_1245 : BitVec 32 := 32#32
  let v1624 : BitVec 32 := Scalar.remsi v1623 c32_i32_1245
  ![v1624.toNat]
def k0_off48 (d0 : Dev nD) : Fin 3 → Nat :=
  let c23_i32_1243 : BitVec 32 := 23#32
  let v0 : BitVec 32 := Dev.word d0
  let c1_i32 : BitVec 32 := 1#32
  let v1 : BitVec 32 := Scalar.divsi v0 c1_i32
  let c32_i32 : BitVec 32 := 32#32
  let v2 : BitVec 32 := Scalar.remsi v1 c32_i32
  let v1622 : BitVec 32 := Scalar.subi c23_i32_1243 v2
  let c32_i32_1244 : BitVec 32 := 32#32
  let v1623 : BitVec 32 := Scalar.addi v1622 c32_i32_1244
  let c32_i32_1245 : BitVec 32 := 32#32
  let v1624 : BitVec 32 := Scalar.remsi v1623 c32_i32_1245
  let c0_i32_2944 : BitVec 32 := 0#32
  let c0_i32_2945 : BitVec 32 := 0#32
  ![v1624.toNat, 0, 0]
def k0_dev55 : Nat :=
  let c0_i32_2943 : BitVec 32 := 0#32
  let c23_i32_1247 : BitVec 32 := 23#32
  let c1_i32_2942 : BitVec 32 := 1#32
  let v3340 : BitVec 32 := Scalar.muli c23_i32_1247 c1_i32_2942
  let v3341 : BitVec 32 := Scalar.addi c0_i32_2943 v3340
  v3341.toNat
def k0_cond25 (d0 : Dev nD) : BitVec 1 :=
  let c24_i32_1383 : BitVec 32 := 24#32
  let v0 : BitVec 32 := Dev.word d0
  let c1_i32 : BitVec 32 := 1#32
  let v1 : BitVec 32 := Scalar.divsi v0 c1_i32
  let c32_i32 : BitVec 32 := 32#32
  let v2 : BitVec 32 := Scalar.remsi v1 c32_i32
  let v1804 : BitVec 1 := Scalar.cmpi .ne c24_i32_1383 v2
  let v1805 : BitVec 32 := Scalar.extui v1804
  let c0_i32_1385 : BitVec 32 := 0#32
  let v1806 : BitVec 1 := Scalar.cmpi .ne v1805 c0_i32_1385
  v1806

def k0_off49 (d0 : Dev nD) : Fin 1 → Nat :=
  let c24_i32_1380 : BitVec 32 := 24#32
  let v0 : BitVec 32 := Dev.word d0
  let c1_i32 : BitVec 32 := 1#32
  let v1 : BitVec 32 := Scalar.divsi v0 c1_i32
  let c32_i32 : BitVec 32 := 32#32
  let v2 : BitVec 32 := Scalar.remsi v1 c32_i32
  let v1801 : BitVec 32 := Scalar.subi c24_i32_1380 v2
  let c32_i32_1381 : BitVec 32 := 32#32
  let v1802 : BitVec 32 := Scalar.addi v1801 c32_i32_1381
  let c32_i32_1382 : BitVec 32 := 32#32
  let v1803 : BitVec 32 := Scalar.remsi v1802 c32_i32_1382
  ![v1803.toNat]
def k0_off50 (d0 : Dev nD) : Fin 3 → Nat :=
  let c24_i32_1380 : BitVec 32 := 24#32
  let v0 : BitVec 32 := Dev.word d0
  let c1_i32 : BitVec 32 := 1#32
  let v1 : BitVec 32 := Scalar.divsi v0 c1_i32
  let c32_i32 : BitVec 32 := 32#32
  let v2 : BitVec 32 := Scalar.remsi v1 c32_i32
  let v1801 : BitVec 32 := Scalar.subi c24_i32_1380 v2
  let c32_i32_1381 : BitVec 32 := 32#32
  let v1802 : BitVec 32 := Scalar.addi v1801 c32_i32_1381
  let c32_i32_1382 : BitVec 32 := 32#32
  let v1803 : BitVec 32 := Scalar.remsi v1802 c32_i32_1382
  let c0_i32_2944 : BitVec 32 := 0#32
  let c0_i32_2945 : BitVec 32 := 0#32
  ![v1803.toNat, 0, 0]
def k0_dev56 : Nat :=
  let c0_i32_2943 : BitVec 32 := 0#32
  let c24_i32_1384 : BitVec 32 := 24#32
  let c1_i32_2942 : BitVec 32 := 1#32
  let v3340 : BitVec 32 := Scalar.muli c24_i32_1384 c1_i32_2942
  let v3341 : BitVec 32 := Scalar.addi c0_i32_2943 v3340
  v3341.toNat
def k0_cond26 (d0 : Dev nD) : BitVec 1 :=
  let c25_i32_1389 : BitVec 32 := 25#32
  let v0 : BitVec 32 := Dev.word d0
  let c1_i32 : BitVec 32 := 1#32
  let v1 : BitVec 32 := Scalar.divsi v0 c1_i32
  let c32_i32 : BitVec 32 := 32#32
  let v2 : BitVec 32 := Scalar.remsi v1 c32_i32
  let v1810 : BitVec 1 := Scalar.cmpi .ne c25_i32_1389 v2
  let v1811 : BitVec 32 := Scalar.extui v1810
  let c0_i32_1391 : BitVec 32 := 0#32
  let v1812 : BitVec 1 := Scalar.cmpi .ne v1811 c0_i32_1391
  v1812

def k0_off51 (d0 : Dev nD) : Fin 1 → Nat :=
  let c25_i32_1386 : BitVec 32 := 25#32
  let v0 : BitVec 32 := Dev.word d0
  let c1_i32 : BitVec 32 := 1#32
  let v1 : BitVec 32 := Scalar.divsi v0 c1_i32
  let c32_i32 : BitVec 32 := 32#32
  let v2 : BitVec 32 := Scalar.remsi v1 c32_i32
  let v1807 : BitVec 32 := Scalar.subi c25_i32_1386 v2
  let c32_i32_1387 : BitVec 32 := 32#32
  let v1808 : BitVec 32 := Scalar.addi v1807 c32_i32_1387
  let c32_i32_1388 : BitVec 32 := 32#32
  let v1809 : BitVec 32 := Scalar.remsi v1808 c32_i32_1388
  ![v1809.toNat]
def k0_off52 (d0 : Dev nD) : Fin 3 → Nat :=
  let c25_i32_1386 : BitVec 32 := 25#32
  let v0 : BitVec 32 := Dev.word d0
  let c1_i32 : BitVec 32 := 1#32
  let v1 : BitVec 32 := Scalar.divsi v0 c1_i32
  let c32_i32 : BitVec 32 := 32#32
  let v2 : BitVec 32 := Scalar.remsi v1 c32_i32
  let v1807 : BitVec 32 := Scalar.subi c25_i32_1386 v2
  let c32_i32_1387 : BitVec 32 := 32#32
  let v1808 : BitVec 32 := Scalar.addi v1807 c32_i32_1387
  let c32_i32_1388 : BitVec 32 := 32#32
  let v1809 : BitVec 32 := Scalar.remsi v1808 c32_i32_1388
  let c0_i32_2944 : BitVec 32 := 0#32
  let c0_i32_2945 : BitVec 32 := 0#32
  ![v1809.toNat, 0, 0]
def k0_dev57 : Nat :=
  let c0_i32_2943 : BitVec 32 := 0#32
  let c25_i32_1390 : BitVec 32 := 25#32
  let c1_i32_2942 : BitVec 32 := 1#32
  let v3340 : BitVec 32 := Scalar.muli c25_i32_1390 c1_i32_2942
  let v3341 : BitVec 32 := Scalar.addi c0_i32_2943 v3340
  v3341.toNat
def k0_cond27 (d0 : Dev nD) : BitVec 1 :=
  let c26_i32_1395 : BitVec 32 := 26#32
  let v0 : BitVec 32 := Dev.word d0
  let c1_i32 : BitVec 32 := 1#32
  let v1 : BitVec 32 := Scalar.divsi v0 c1_i32
  let c32_i32 : BitVec 32 := 32#32
  let v2 : BitVec 32 := Scalar.remsi v1 c32_i32
  let v1816 : BitVec 1 := Scalar.cmpi .ne c26_i32_1395 v2
  let v1817 : BitVec 32 := Scalar.extui v1816
  let c0_i32_1397 : BitVec 32 := 0#32
  let v1818 : BitVec 1 := Scalar.cmpi .ne v1817 c0_i32_1397
  v1818

def k0_off53 (d0 : Dev nD) : Fin 1 → Nat :=
  let c26_i32_1392 : BitVec 32 := 26#32
  let v0 : BitVec 32 := Dev.word d0
  let c1_i32 : BitVec 32 := 1#32
  let v1 : BitVec 32 := Scalar.divsi v0 c1_i32
  let c32_i32 : BitVec 32 := 32#32
  let v2 : BitVec 32 := Scalar.remsi v1 c32_i32
  let v1813 : BitVec 32 := Scalar.subi c26_i32_1392 v2
  let c32_i32_1393 : BitVec 32 := 32#32
  let v1814 : BitVec 32 := Scalar.addi v1813 c32_i32_1393
  let c32_i32_1394 : BitVec 32 := 32#32
  let v1815 : BitVec 32 := Scalar.remsi v1814 c32_i32_1394
  ![v1815.toNat]
def k0_off54 (d0 : Dev nD) : Fin 3 → Nat :=
  let c26_i32_1392 : BitVec 32 := 26#32
  let v0 : BitVec 32 := Dev.word d0
  let c1_i32 : BitVec 32 := 1#32
  let v1 : BitVec 32 := Scalar.divsi v0 c1_i32
  let c32_i32 : BitVec 32 := 32#32
  let v2 : BitVec 32 := Scalar.remsi v1 c32_i32
  let v1813 : BitVec 32 := Scalar.subi c26_i32_1392 v2
  let c32_i32_1393 : BitVec 32 := 32#32
  let v1814 : BitVec 32 := Scalar.addi v1813 c32_i32_1393
  let c32_i32_1394 : BitVec 32 := 32#32
  let v1815 : BitVec 32 := Scalar.remsi v1814 c32_i32_1394
  let c0_i32_2944 : BitVec 32 := 0#32
  let c0_i32_2945 : BitVec 32 := 0#32
  ![v1815.toNat, 0, 0]
def k0_dev58 : Nat :=
  let c0_i32_2943 : BitVec 32 := 0#32
  let c26_i32_1396 : BitVec 32 := 26#32
  let c1_i32_2942 : BitVec 32 := 1#32
  let v3340 : BitVec 32 := Scalar.muli c26_i32_1396 c1_i32_2942
  let v3341 : BitVec 32 := Scalar.addi c0_i32_2943 v3340
  v3341.toNat
def k0_cond28 (d0 : Dev nD) : BitVec 1 :=
  let c27_i32_1401 : BitVec 32 := 27#32
  let v0 : BitVec 32 := Dev.word d0
  let c1_i32 : BitVec 32 := 1#32
  let v1 : BitVec 32 := Scalar.divsi v0 c1_i32
  let c32_i32 : BitVec 32 := 32#32
  let v2 : BitVec 32 := Scalar.remsi v1 c32_i32
  let v1822 : BitVec 1 := Scalar.cmpi .ne c27_i32_1401 v2
  let v1823 : BitVec 32 := Scalar.extui v1822
  let c0_i32_1403 : BitVec 32 := 0#32
  let v1824 : BitVec 1 := Scalar.cmpi .ne v1823 c0_i32_1403
  v1824

def k0_off55 (d0 : Dev nD) : Fin 1 → Nat :=
  let c27_i32_1398 : BitVec 32 := 27#32
  let v0 : BitVec 32 := Dev.word d0
  let c1_i32 : BitVec 32 := 1#32
  let v1 : BitVec 32 := Scalar.divsi v0 c1_i32
  let c32_i32 : BitVec 32 := 32#32
  let v2 : BitVec 32 := Scalar.remsi v1 c32_i32
  let v1819 : BitVec 32 := Scalar.subi c27_i32_1398 v2
  let c32_i32_1399 : BitVec 32 := 32#32
  let v1820 : BitVec 32 := Scalar.addi v1819 c32_i32_1399
  let c32_i32_1400 : BitVec 32 := 32#32
  let v1821 : BitVec 32 := Scalar.remsi v1820 c32_i32_1400
  ![v1821.toNat]
def k0_off56 (d0 : Dev nD) : Fin 3 → Nat :=
  let c27_i32_1398 : BitVec 32 := 27#32
  let v0 : BitVec 32 := Dev.word d0
  let c1_i32 : BitVec 32 := 1#32
  let v1 : BitVec 32 := Scalar.divsi v0 c1_i32
  let c32_i32 : BitVec 32 := 32#32
  let v2 : BitVec 32 := Scalar.remsi v1 c32_i32
  let v1819 : BitVec 32 := Scalar.subi c27_i32_1398 v2
  let c32_i32_1399 : BitVec 32 := 32#32
  let v1820 : BitVec 32 := Scalar.addi v1819 c32_i32_1399
  let c32_i32_1400 : BitVec 32 := 32#32
  let v1821 : BitVec 32 := Scalar.remsi v1820 c32_i32_1400
  let c0_i32_2944 : BitVec 32 := 0#32
  let c0_i32_2945 : BitVec 32 := 0#32
  ![v1821.toNat, 0, 0]
def k0_dev59 : Nat :=
  let c0_i32_2943 : BitVec 32 := 0#32
  let c27_i32_1402 : BitVec 32 := 27#32
  let c1_i32_2942 : BitVec 32 := 1#32
  let v3340 : BitVec 32 := Scalar.muli c27_i32_1402 c1_i32_2942
  let v3341 : BitVec 32 := Scalar.addi c0_i32_2943 v3340
  v3341.toNat
def k0_cond29 (d0 : Dev nD) : BitVec 1 :=
  let c28_i32_1538 : BitVec 32 := 28#32
  let v0 : BitVec 32 := Dev.word d0
  let c1_i32 : BitVec 32 := 1#32
  let v1 : BitVec 32 := Scalar.divsi v0 c1_i32
  let c32_i32 : BitVec 32 := 32#32
  let v2 : BitVec 32 := Scalar.remsi v1 c32_i32
  let v2001 : BitVec 1 := Scalar.cmpi .ne c28_i32_1538 v2
  let v2002 : BitVec 32 := Scalar.extui v2001
  let c0_i32_1540 : BitVec 32 := 0#32
  let v2003 : BitVec 1 := Scalar.cmpi .ne v2002 c0_i32_1540
  v2003

def k0_off57 (d0 : Dev nD) : Fin 1 → Nat :=
  let c28_i32_1535 : BitVec 32 := 28#32
  let v0 : BitVec 32 := Dev.word d0
  let c1_i32 : BitVec 32 := 1#32
  let v1 : BitVec 32 := Scalar.divsi v0 c1_i32
  let c32_i32 : BitVec 32 := 32#32
  let v2 : BitVec 32 := Scalar.remsi v1 c32_i32
  let v1998 : BitVec 32 := Scalar.subi c28_i32_1535 v2
  let c32_i32_1536 : BitVec 32 := 32#32
  let v1999 : BitVec 32 := Scalar.addi v1998 c32_i32_1536
  let c32_i32_1537 : BitVec 32 := 32#32
  let v2000 : BitVec 32 := Scalar.remsi v1999 c32_i32_1537
  ![v2000.toNat]
def k0_off58 (d0 : Dev nD) : Fin 3 → Nat :=
  let c28_i32_1535 : BitVec 32 := 28#32
  let v0 : BitVec 32 := Dev.word d0
  let c1_i32 : BitVec 32 := 1#32
  let v1 : BitVec 32 := Scalar.divsi v0 c1_i32
  let c32_i32 : BitVec 32 := 32#32
  let v2 : BitVec 32 := Scalar.remsi v1 c32_i32
  let v1998 : BitVec 32 := Scalar.subi c28_i32_1535 v2
  let c32_i32_1536 : BitVec 32 := 32#32
  let v1999 : BitVec 32 := Scalar.addi v1998 c32_i32_1536
  let c32_i32_1537 : BitVec 32 := 32#32
  let v2000 : BitVec 32 := Scalar.remsi v1999 c32_i32_1537
  let c0_i32_2944 : BitVec 32 := 0#32
  let c0_i32_2945 : BitVec 32 := 0#32
  ![v2000.toNat, 0, 0]
def k0_dev60 : Nat :=
  let c0_i32_2943 : BitVec 32 := 0#32
  let c28_i32_1539 : BitVec 32 := 28#32
  let c1_i32_2942 : BitVec 32 := 1#32
  let v3340 : BitVec 32 := Scalar.muli c28_i32_1539 c1_i32_2942
  let v3341 : BitVec 32 := Scalar.addi c0_i32_2943 v3340
  v3341.toNat
def k0_cond30 (d0 : Dev nD) : BitVec 1 :=
  let c29_i32_1544 : BitVec 32 := 29#32
  let v0 : BitVec 32 := Dev.word d0
  let c1_i32 : BitVec 32 := 1#32
  let v1 : BitVec 32 := Scalar.divsi v0 c1_i32
  let c32_i32 : BitVec 32 := 32#32
  let v2 : BitVec 32 := Scalar.remsi v1 c32_i32
  let v2007 : BitVec 1 := Scalar.cmpi .ne c29_i32_1544 v2
  let v2008 : BitVec 32 := Scalar.extui v2007
  let c0_i32_1546 : BitVec 32 := 0#32
  let v2009 : BitVec 1 := Scalar.cmpi .ne v2008 c0_i32_1546
  v2009

def k0_off59 (d0 : Dev nD) : Fin 1 → Nat :=
  let c29_i32_1541 : BitVec 32 := 29#32
  let v0 : BitVec 32 := Dev.word d0
  let c1_i32 : BitVec 32 := 1#32
  let v1 : BitVec 32 := Scalar.divsi v0 c1_i32
  let c32_i32 : BitVec 32 := 32#32
  let v2 : BitVec 32 := Scalar.remsi v1 c32_i32
  let v2004 : BitVec 32 := Scalar.subi c29_i32_1541 v2
  let c32_i32_1542 : BitVec 32 := 32#32
  let v2005 : BitVec 32 := Scalar.addi v2004 c32_i32_1542
  let c32_i32_1543 : BitVec 32 := 32#32
  let v2006 : BitVec 32 := Scalar.remsi v2005 c32_i32_1543
  ![v2006.toNat]
def k0_off60 (d0 : Dev nD) : Fin 3 → Nat :=
  let c29_i32_1541 : BitVec 32 := 29#32
  let v0 : BitVec 32 := Dev.word d0
  let c1_i32 : BitVec 32 := 1#32
  let v1 : BitVec 32 := Scalar.divsi v0 c1_i32
  let c32_i32 : BitVec 32 := 32#32
  let v2 : BitVec 32 := Scalar.remsi v1 c32_i32
  let v2004 : BitVec 32 := Scalar.subi c29_i32_1541 v2
  let c32_i32_1542 : BitVec 32 := 32#32
  let v2005 : BitVec 32 := Scalar.addi v2004 c32_i32_1542
  let c32_i32_1543 : BitVec 32 := 32#32
  let v2006 : BitVec 32 := Scalar.remsi v2005 c32_i32_1543
  let c0_i32_2944 : BitVec 32 := 0#32
  let c0_i32_2945 : BitVec 32 := 0#32
  ![v2006.toNat, 0, 0]
def k0_dev61 : Nat :=
  let c0_i32_2943 : BitVec 32 := 0#32
  let c29_i32_1545 : BitVec 32 := 29#32
  let c1_i32_2942 : BitVec 32 := 1#32
  let v3340 : BitVec 32 := Scalar.muli c29_i32_1545 c1_i32_2942
  let v3341 : BitVec 32 := Scalar.addi c0_i32_2943 v3340
  v3341.toNat
def k0_cond31 (d0 : Dev nD) : BitVec 1 :=
  let c30_i32_1550 : BitVec 32 := 30#32
  let v0 : BitVec 32 := Dev.word d0
  let c1_i32 : BitVec 32 := 1#32
  let v1 : BitVec 32 := Scalar.divsi v0 c1_i32
  let c32_i32 : BitVec 32 := 32#32
  let v2 : BitVec 32 := Scalar.remsi v1 c32_i32
  let v2013 : BitVec 1 := Scalar.cmpi .ne c30_i32_1550 v2
  let v2014 : BitVec 32 := Scalar.extui v2013
  let c0_i32_1552 : BitVec 32 := 0#32
  let v2015 : BitVec 1 := Scalar.cmpi .ne v2014 c0_i32_1552
  v2015

def k0_off61 (d0 : Dev nD) : Fin 1 → Nat :=
  let c30_i32_1547 : BitVec 32 := 30#32
  let v0 : BitVec 32 := Dev.word d0
  let c1_i32 : BitVec 32 := 1#32
  let v1 : BitVec 32 := Scalar.divsi v0 c1_i32
  let c32_i32 : BitVec 32 := 32#32
  let v2 : BitVec 32 := Scalar.remsi v1 c32_i32
  let v2010 : BitVec 32 := Scalar.subi c30_i32_1547 v2
  let c32_i32_1548 : BitVec 32 := 32#32
  let v2011 : BitVec 32 := Scalar.addi v2010 c32_i32_1548
  let c32_i32_1549 : BitVec 32 := 32#32
  let v2012 : BitVec 32 := Scalar.remsi v2011 c32_i32_1549
  ![v2012.toNat]
def k0_off62 (d0 : Dev nD) : Fin 3 → Nat :=
  let c30_i32_1547 : BitVec 32 := 30#32
  let v0 : BitVec 32 := Dev.word d0
  let c1_i32 : BitVec 32 := 1#32
  let v1 : BitVec 32 := Scalar.divsi v0 c1_i32
  let c32_i32 : BitVec 32 := 32#32
  let v2 : BitVec 32 := Scalar.remsi v1 c32_i32
  let v2010 : BitVec 32 := Scalar.subi c30_i32_1547 v2
  let c32_i32_1548 : BitVec 32 := 32#32
  let v2011 : BitVec 32 := Scalar.addi v2010 c32_i32_1548
  let c32_i32_1549 : BitVec 32 := 32#32
  let v2012 : BitVec 32 := Scalar.remsi v2011 c32_i32_1549
  let c0_i32_2944 : BitVec 32 := 0#32
  let c0_i32_2945 : BitVec 32 := 0#32
  ![v2012.toNat, 0, 0]
def k0_dev62 : Nat :=
  let c0_i32_2943 : BitVec 32 := 0#32
  let c30_i32_1551 : BitVec 32 := 30#32
  let c1_i32_2942 : BitVec 32 := 1#32
  let v3340 : BitVec 32 := Scalar.muli c30_i32_1551 c1_i32_2942
  let v3341 : BitVec 32 := Scalar.addi c0_i32_2943 v3340
  v3341.toNat
def k0_cond32 (d0 : Dev nD) : BitVec 1 :=
  let c31_i32_1556 : BitVec 32 := 31#32
  let v0 : BitVec 32 := Dev.word d0
  let c1_i32 : BitVec 32 := 1#32
  let v1 : BitVec 32 := Scalar.divsi v0 c1_i32
  let c32_i32 : BitVec 32 := 32#32
  let v2 : BitVec 32 := Scalar.remsi v1 c32_i32
  let v2019 : BitVec 1 := Scalar.cmpi .ne c31_i32_1556 v2
  let v2020 : BitVec 32 := Scalar.extui v2019
  let c0_i32_1558 : BitVec 32 := 0#32
  let v2021 : BitVec 1 := Scalar.cmpi .ne v2020 c0_i32_1558
  v2021

def k0_off63 (d0 : Dev nD) : Fin 1 → Nat :=
  let c31_i32_1553 : BitVec 32 := 31#32
  let v0 : BitVec 32 := Dev.word d0
  let c1_i32 : BitVec 32 := 1#32
  let v1 : BitVec 32 := Scalar.divsi v0 c1_i32
  let c32_i32 : BitVec 32 := 32#32
  let v2 : BitVec 32 := Scalar.remsi v1 c32_i32
  let v2016 : BitVec 32 := Scalar.subi c31_i32_1553 v2
  let c32_i32_1554 : BitVec 32 := 32#32
  let v2017 : BitVec 32 := Scalar.addi v2016 c32_i32_1554
  let c32_i32_1555 : BitVec 32 := 32#32
  let v2018 : BitVec 32 := Scalar.remsi v2017 c32_i32_1555
  ![v2018.toNat]
def k0_off64 (d0 : Dev nD) : Fin 3 → Nat :=
  let c31_i32_1553 : BitVec 32 := 31#32
  let v0 : BitVec 32 := Dev.word d0
  let c1_i32 : BitVec 32 := 1#32
  let v1 : BitVec 32 := Scalar.divsi v0 c1_i32
  let c32_i32 : BitVec 32 := 32#32
  let v2 : BitVec 32 := Scalar.remsi v1 c32_i32
  let v2016 : BitVec 32 := Scalar.subi c31_i32_1553 v2
  let c32_i32_1554 : BitVec 32 := 32#32
  let v2017 : BitVec 32 := Scalar.addi v2016 c32_i32_1554
  let c32_i32_1555 : BitVec 32 := 32#32
  let v2018 : BitVec 32 := Scalar.remsi v2017 c32_i32_1555
  let c0_i32_2944 : BitVec 32 := 0#32
  let c0_i32_2945 : BitVec 32 := 0#32
  ![v2018.toNat, 0, 0]
def k0_dev63 : Nat :=
  let c0_i32_2943 : BitVec 32 := 0#32
  let c31_i32_1557 : BitVec 32 := 31#32
  let c1_i32_2942 : BitVec 32 := 1#32
  let v3340 : BitVec 32 := Scalar.muli c31_i32_1557 c1_i32_2942
  let v3341 : BitVec 32 := Scalar.addi c0_i32_2943 v3340
  v3341.toNat
def k0_off65 (d0 : Dev nD) : Fin 2 → Nat :=
  let v0 : BitVec 32 := Dev.word d0
  let c1_i32 : BitVec 32 := 1#32
  let v1 : BitVec 32 := Scalar.divsi v0 c1_i32
  let c32_i32 : BitVec 32 := 32#32
  let v2 : BitVec 32 := Scalar.remsi v1 c32_i32
  let c32_i32_1559 : BitVec 32 := 32#32
  let v2022 : BitVec 32 := Scalar.muli v2 c32_i32_1559
  let v2023 : Index := Scalar.indexCast v2022
  let c0_1560 : Index := 0#32
  ![v2023.toNat, 0]
def k0_off66 (d0 : Dev nD) : Fin 2 → Nat :=
  let v0 : BitVec 32 := Dev.word d0
  let c1_i32 : BitVec 32 := 1#32
  let v1 : BitVec 32 := Scalar.divsi v0 c1_i32
  let c32_i32 : BitVec 32 := 32#32
  let v2 : BitVec 32 := Scalar.remsi v1 c32_i32
  let c32_i32_2041 : BitVec 32 := 32#32
  let v2501 : BitVec 32 := Scalar.muli v2 c32_i32_2041
  let c0_i32_2046 : BitVec 32 := 0#32
  ![v2501.toNat, 0]
def k0_dev64 (d0 : Dev nD) : Nat :=
  let c0_i32_2045 : BitVec 32 := 0#32
  let v0 : BitVec 32 := Dev.word d0
  let c1_i32 : BitVec 32 := 1#32
  let v1 : BitVec 32 := Scalar.divsi v0 c1_i32
  let c32_i32 : BitVec 32 := 32#32
  let v2 : BitVec 32 := Scalar.remsi v1 c32_i32
  let c1_i32_2039 : BitVec 32 := 1#32
  let v2499 : BitVec 32 := Scalar.addi v2 c1_i32_2039
  let c32_i32_2040 : BitVec 32 := 32#32
  let v2500 : BitVec 32 := Scalar.remsi v2499 c32_i32_2040
  let c1_i32_2044 : BitVec 32 := 1#32
  let v2502 : BitVec 32 := Scalar.muli v2500 c1_i32_2044
  let v2503 : BitVec 32 := Scalar.addi c0_i32_2045 v2502
  v2503.toNat
def k0_dev65 (d0 : Dev nD) : Nat :=
  let c0_i32_2053 : BitVec 32 := 0#32
  let v0 : BitVec 32 := Dev.word d0
  let c1_i32 : BitVec 32 := 1#32
  let v1 : BitVec 32 := Scalar.divsi v0 c1_i32
  let c32_i32 : BitVec 32 := 32#32
  let v2 : BitVec 32 := Scalar.remsi v1 c32_i32
  let c2_i32_2047 : BitVec 32 := 2#32
  let v2509 : BitVec 32 := Scalar.addi v2 c2_i32_2047
  let c32_i32_2048 : BitVec 32 := 32#32
  let v2510 : BitVec 32 := Scalar.remsi v2509 c32_i32_2048
  let c1_i32_2052 : BitVec 32 := 1#32
  let v2512 : BitVec 32 := Scalar.muli v2510 c1_i32_2052
  let v2513 : BitVec 32 := Scalar.addi c0_i32_2053 v2512
  v2513.toNat
def k0_dev66 (d0 : Dev nD) : Nat :=
  let c0_i32_2061 : BitVec 32 := 0#32
  let v0 : BitVec 32 := Dev.word d0
  let c1_i32 : BitVec 32 := 1#32
  let v1 : BitVec 32 := Scalar.divsi v0 c1_i32
  let c32_i32 : BitVec 32 := 32#32
  let v2 : BitVec 32 := Scalar.remsi v1 c32_i32
  let c3_i32_2055 : BitVec 32 := 3#32
  let v2519 : BitVec 32 := Scalar.addi v2 c3_i32_2055
  let c32_i32_2056 : BitVec 32 := 32#32
  let v2520 : BitVec 32 := Scalar.remsi v2519 c32_i32_2056
  let c1_i32_2060 : BitVec 32 := 1#32
  let v2522 : BitVec 32 := Scalar.muli v2520 c1_i32_2060
  let v2523 : BitVec 32 := Scalar.addi c0_i32_2061 v2522
  v2523.toNat
def k0_dev67 (d0 : Dev nD) : Nat :=
  let c0_i32_2069 : BitVec 32 := 0#32
  let v0 : BitVec 32 := Dev.word d0
  let c1_i32 : BitVec 32 := 1#32
  let v1 : BitVec 32 := Scalar.divsi v0 c1_i32
  let c32_i32 : BitVec 32 := 32#32
  let v2 : BitVec 32 := Scalar.remsi v1 c32_i32
  let c4_i32_2063 : BitVec 32 := 4#32
  let v2529 : BitVec 32 := Scalar.addi v2 c4_i32_2063
  let c32_i32_2064 : BitVec 32 := 32#32
  let v2530 : BitVec 32 := Scalar.remsi v2529 c32_i32_2064
  let c1_i32_2068 : BitVec 32 := 1#32
  let v2532 : BitVec 32 := Scalar.muli v2530 c1_i32_2068
  let v2533 : BitVec 32 := Scalar.addi c0_i32_2069 v2532
  v2533.toNat
def k0_dev68 (d0 : Dev nD) : Nat :=
  let c0_i32_2077 : BitVec 32 := 0#32
  let v0 : BitVec 32 := Dev.word d0
  let c1_i32 : BitVec 32 := 1#32
  let v1 : BitVec 32 := Scalar.divsi v0 c1_i32
  let c32_i32 : BitVec 32 := 32#32
  let v2 : BitVec 32 := Scalar.remsi v1 c32_i32
  let c5_i32_2071 : BitVec 32 := 5#32
  let v2539 : BitVec 32 := Scalar.addi v2 c5_i32_2071
  let c32_i32_2072 : BitVec 32 := 32#32
  let v2540 : BitVec 32 := Scalar.remsi v2539 c32_i32_2072
  let c1_i32_2076 : BitVec 32 := 1#32
  let v2542 : BitVec 32 := Scalar.muli v2540 c1_i32_2076
  let v2543 : BitVec 32 := Scalar.addi c0_i32_2077 v2542
  v2543.toNat
def k0_dev69 (d0 : Dev nD) : Nat :=
  let c0_i32_2085 : BitVec 32 := 0#32
  let v0 : BitVec 32 := Dev.word d0
  let c1_i32 : BitVec 32 := 1#32
  let v1 : BitVec 32 := Scalar.divsi v0 c1_i32
  let c32_i32 : BitVec 32 := 32#32
  let v2 : BitVec 32 := Scalar.remsi v1 c32_i32
  let c6_i32_2079 : BitVec 32 := 6#32
  let v2549 : BitVec 32 := Scalar.addi v2 c6_i32_2079
  let c32_i32_2080 : BitVec 32 := 32#32
  let v2550 : BitVec 32 := Scalar.remsi v2549 c32_i32_2080
  let c1_i32_2084 : BitVec 32 := 1#32
  let v2552 : BitVec 32 := Scalar.muli v2550 c1_i32_2084
  let v2553 : BitVec 32 := Scalar.addi c0_i32_2085 v2552
  v2553.toNat
def k0_dev70 (d0 : Dev nD) : Nat :=
  let c0_i32_2093 : BitVec 32 := 0#32
  let v0 : BitVec 32 := Dev.word d0
  let c1_i32 : BitVec 32 := 1#32
  let v1 : BitVec 32 := Scalar.divsi v0 c1_i32
  let c32_i32 : BitVec 32 := 32#32
  let v2 : BitVec 32 := Scalar.remsi v1 c32_i32
  let c7_i32_2087 : BitVec 32 := 7#32
  let v2559 : BitVec 32 := Scalar.addi v2 c7_i32_2087
  let c32_i32_2088 : BitVec 32 := 32#32
  let v2560 : BitVec 32 := Scalar.remsi v2559 c32_i32_2088
  let c1_i32_2092 : BitVec 32 := 1#32
  let v2562 : BitVec 32 := Scalar.muli v2560 c1_i32_2092
  let v2563 : BitVec 32 := Scalar.addi c0_i32_2093 v2562
  v2563.toNat
def k0_dev71 (d0 : Dev nD) : Nat :=
  let c0_i32_2101 : BitVec 32 := 0#32
  let v0 : BitVec 32 := Dev.word d0
  let c1_i32 : BitVec 32 := 1#32
  let v1 : BitVec 32 := Scalar.divsi v0 c1_i32
  let c32_i32 : BitVec 32 := 32#32
  let v2 : BitVec 32 := Scalar.remsi v1 c32_i32
  let c8_i32_2095 : BitVec 32 := 8#32
  let v2569 : BitVec 32 := Scalar.addi v2 c8_i32_2095
  let c32_i32_2096 : BitVec 32 := 32#32
  let v2570 : BitVec 32 := Scalar.remsi v2569 c32_i32_2096
  let c1_i32_2100 : BitVec 32 := 1#32
  let v2572 : BitVec 32 := Scalar.muli v2570 c1_i32_2100
  let v2573 : BitVec 32 := Scalar.addi c0_i32_2101 v2572
  v2573.toNat
def k0_dev72 (d0 : Dev nD) : Nat :=
  let c0_i32_2109 : BitVec 32 := 0#32
  let v0 : BitVec 32 := Dev.word d0
  let c1_i32 : BitVec 32 := 1#32
  let v1 : BitVec 32 := Scalar.divsi v0 c1_i32
  let c32_i32 : BitVec 32 := 32#32
  let v2 : BitVec 32 := Scalar.remsi v1 c32_i32
  let c9_i32_2103 : BitVec 32 := 9#32
  let v2579 : BitVec 32 := Scalar.addi v2 c9_i32_2103
  let c32_i32_2104 : BitVec 32 := 32#32
  let v2580 : BitVec 32 := Scalar.remsi v2579 c32_i32_2104
  let c1_i32_2108 : BitVec 32 := 1#32
  let v2582 : BitVec 32 := Scalar.muli v2580 c1_i32_2108
  let v2583 : BitVec 32 := Scalar.addi c0_i32_2109 v2582
  v2583.toNat
def k0_dev73 (d0 : Dev nD) : Nat :=
  let c0_i32_2117 : BitVec 32 := 0#32
  let v0 : BitVec 32 := Dev.word d0
  let c1_i32 : BitVec 32 := 1#32
  let v1 : BitVec 32 := Scalar.divsi v0 c1_i32
  let c32_i32 : BitVec 32 := 32#32
  let v2 : BitVec 32 := Scalar.remsi v1 c32_i32
  let c10_i32_2111 : BitVec 32 := 10#32
  let v2589 : BitVec 32 := Scalar.addi v2 c10_i32_2111
  let c32_i32_2112 : BitVec 32 := 32#32
  let v2590 : BitVec 32 := Scalar.remsi v2589 c32_i32_2112
  let c1_i32_2116 : BitVec 32 := 1#32
  let v2592 : BitVec 32 := Scalar.muli v2590 c1_i32_2116
  let v2593 : BitVec 32 := Scalar.addi c0_i32_2117 v2592
  v2593.toNat
def k0_dev74 (d0 : Dev nD) : Nat :=
  let c0_i32_2125 : BitVec 32 := 0#32
  let v0 : BitVec 32 := Dev.word d0
  let c1_i32 : BitVec 32 := 1#32
  let v1 : BitVec 32 := Scalar.divsi v0 c1_i32
  let c32_i32 : BitVec 32 := 32#32
  let v2 : BitVec 32 := Scalar.remsi v1 c32_i32
  let c11_i32_2119 : BitVec 32 := 11#32
  let v2599 : BitVec 32 := Scalar.addi v2 c11_i32_2119
  let c32_i32_2120 : BitVec 32 := 32#32
  let v2600 : BitVec 32 := Scalar.remsi v2599 c32_i32_2120
  let c1_i32_2124 : BitVec 32 := 1#32
  let v2602 : BitVec 32 := Scalar.muli v2600 c1_i32_2124
  let v2603 : BitVec 32 := Scalar.addi c0_i32_2125 v2602
  v2603.toNat
def k0_dev75 (d0 : Dev nD) : Nat :=
  let c0_i32_2133 : BitVec 32 := 0#32
  let v0 : BitVec 32 := Dev.word d0
  let c1_i32 : BitVec 32 := 1#32
  let v1 : BitVec 32 := Scalar.divsi v0 c1_i32
  let c32_i32 : BitVec 32 := 32#32
  let v2 : BitVec 32 := Scalar.remsi v1 c32_i32
  let c12_i32_2127 : BitVec 32 := 12#32
  let v2609 : BitVec 32 := Scalar.addi v2 c12_i32_2127
  let c32_i32_2128 : BitVec 32 := 32#32
  let v2610 : BitVec 32 := Scalar.remsi v2609 c32_i32_2128
  let c1_i32_2132 : BitVec 32 := 1#32
  let v2612 : BitVec 32 := Scalar.muli v2610 c1_i32_2132
  let v2613 : BitVec 32 := Scalar.addi c0_i32_2133 v2612
  v2613.toNat
def k0_dev76 (d0 : Dev nD) : Nat :=
  let c0_i32_2141 : BitVec 32 := 0#32
  let v0 : BitVec 32 := Dev.word d0
  let c1_i32 : BitVec 32 := 1#32
  let v1 : BitVec 32 := Scalar.divsi v0 c1_i32
  let c32_i32 : BitVec 32 := 32#32
  let v2 : BitVec 32 := Scalar.remsi v1 c32_i32
  let c13_i32_2135 : BitVec 32 := 13#32
  let v2619 : BitVec 32 := Scalar.addi v2 c13_i32_2135
  let c32_i32_2136 : BitVec 32 := 32#32
  let v2620 : BitVec 32 := Scalar.remsi v2619 c32_i32_2136
  let c1_i32_2140 : BitVec 32 := 1#32
  let v2622 : BitVec 32 := Scalar.muli v2620 c1_i32_2140
  let v2623 : BitVec 32 := Scalar.addi c0_i32_2141 v2622
  v2623.toNat
def k0_dev77 (d0 : Dev nD) : Nat :=
  let c0_i32_2149 : BitVec 32 := 0#32
  let v0 : BitVec 32 := Dev.word d0
  let c1_i32 : BitVec 32 := 1#32
  let v1 : BitVec 32 := Scalar.divsi v0 c1_i32
  let c32_i32 : BitVec 32 := 32#32
  let v2 : BitVec 32 := Scalar.remsi v1 c32_i32
  let c14_i32_2143 : BitVec 32 := 14#32
  let v2629 : BitVec 32 := Scalar.addi v2 c14_i32_2143
  let c32_i32_2144 : BitVec 32 := 32#32
  let v2630 : BitVec 32 := Scalar.remsi v2629 c32_i32_2144
  let c1_i32_2148 : BitVec 32 := 1#32
  let v2632 : BitVec 32 := Scalar.muli v2630 c1_i32_2148
  let v2633 : BitVec 32 := Scalar.addi c0_i32_2149 v2632
  v2633.toNat
def k0_dev78 (d0 : Dev nD) : Nat :=
  let c0_i32_2157 : BitVec 32 := 0#32
  let v0 : BitVec 32 := Dev.word d0
  let c1_i32 : BitVec 32 := 1#32
  let v1 : BitVec 32 := Scalar.divsi v0 c1_i32
  let c32_i32 : BitVec 32 := 32#32
  let v2 : BitVec 32 := Scalar.remsi v1 c32_i32
  let c15_i32_2151 : BitVec 32 := 15#32
  let v2639 : BitVec 32 := Scalar.addi v2 c15_i32_2151
  let c32_i32_2152 : BitVec 32 := 32#32
  let v2640 : BitVec 32 := Scalar.remsi v2639 c32_i32_2152
  let c1_i32_2156 : BitVec 32 := 1#32
  let v2642 : BitVec 32 := Scalar.muli v2640 c1_i32_2156
  let v2643 : BitVec 32 := Scalar.addi c0_i32_2157 v2642
  v2643.toNat
def k0_dev79 (d0 : Dev nD) : Nat :=
  let c0_i32_2165 : BitVec 32 := 0#32
  let v0 : BitVec 32 := Dev.word d0
  let c1_i32 : BitVec 32 := 1#32
  let v1 : BitVec 32 := Scalar.divsi v0 c1_i32
  let c32_i32 : BitVec 32 := 32#32
  let v2 : BitVec 32 := Scalar.remsi v1 c32_i32
  let c16_i32_2159 : BitVec 32 := 16#32
  let v2649 : BitVec 32 := Scalar.addi v2 c16_i32_2159
  let c32_i32_2160 : BitVec 32 := 32#32
  let v2650 : BitVec 32 := Scalar.remsi v2649 c32_i32_2160
  let c1_i32_2164 : BitVec 32 := 1#32
  let v2652 : BitVec 32 := Scalar.muli v2650 c1_i32_2164
  let v2653 : BitVec 32 := Scalar.addi c0_i32_2165 v2652
  v2653.toNat
def k0_dev80 (d0 : Dev nD) : Nat :=
  let c0_i32_2173 : BitVec 32 := 0#32
  let v0 : BitVec 32 := Dev.word d0
  let c1_i32 : BitVec 32 := 1#32
  let v1 : BitVec 32 := Scalar.divsi v0 c1_i32
  let c32_i32 : BitVec 32 := 32#32
  let v2 : BitVec 32 := Scalar.remsi v1 c32_i32
  let c17_i32_2167 : BitVec 32 := 17#32
  let v2659 : BitVec 32 := Scalar.addi v2 c17_i32_2167
  let c32_i32_2168 : BitVec 32 := 32#32
  let v2660 : BitVec 32 := Scalar.remsi v2659 c32_i32_2168
  let c1_i32_2172 : BitVec 32 := 1#32
  let v2662 : BitVec 32 := Scalar.muli v2660 c1_i32_2172
  let v2663 : BitVec 32 := Scalar.addi c0_i32_2173 v2662
  v2663.toNat
def k0_dev81 (d0 : Dev nD) : Nat :=
  let c0_i32_2181 : BitVec 32 := 0#32
  let v0 : BitVec 32 := Dev.word d0
  let c1_i32 : BitVec 32 := 1#32
  let v1 : BitVec 32 := Scalar.divsi v0 c1_i32
  let c32_i32 : BitVec 32 := 32#32
  let v2 : BitVec 32 := Scalar.remsi v1 c32_i32
  let c18_i32_2175 : BitVec 32 := 18#32
  let v2669 : BitVec 32 := Scalar.addi v2 c18_i32_2175
  let c32_i32_2176 : BitVec 32 := 32#32
  let v2670 : BitVec 32 := Scalar.remsi v2669 c32_i32_2176
  let c1_i32_2180 : BitVec 32 := 1#32
  let v2672 : BitVec 32 := Scalar.muli v2670 c1_i32_2180
  let v2673 : BitVec 32 := Scalar.addi c0_i32_2181 v2672
  v2673.toNat
def k0_dev82 (d0 : Dev nD) : Nat :=
  let c0_i32_2189 : BitVec 32 := 0#32
  let v0 : BitVec 32 := Dev.word d0
  let c1_i32 : BitVec 32 := 1#32
  let v1 : BitVec 32 := Scalar.divsi v0 c1_i32
  let c32_i32 : BitVec 32 := 32#32
  let v2 : BitVec 32 := Scalar.remsi v1 c32_i32
  let c19_i32_2183 : BitVec 32 := 19#32
  let v2679 : BitVec 32 := Scalar.addi v2 c19_i32_2183
  let c32_i32_2184 : BitVec 32 := 32#32
  let v2680 : BitVec 32 := Scalar.remsi v2679 c32_i32_2184
  let c1_i32_2188 : BitVec 32 := 1#32
  let v2682 : BitVec 32 := Scalar.muli v2680 c1_i32_2188
  let v2683 : BitVec 32 := Scalar.addi c0_i32_2189 v2682
  v2683.toNat
def k0_dev83 (d0 : Dev nD) : Nat :=
  let c0_i32_2197 : BitVec 32 := 0#32
  let v0 : BitVec 32 := Dev.word d0
  let c1_i32 : BitVec 32 := 1#32
  let v1 : BitVec 32 := Scalar.divsi v0 c1_i32
  let c32_i32 : BitVec 32 := 32#32
  let v2 : BitVec 32 := Scalar.remsi v1 c32_i32
  let c20_i32_2191 : BitVec 32 := 20#32
  let v2689 : BitVec 32 := Scalar.addi v2 c20_i32_2191
  let c32_i32_2192 : BitVec 32 := 32#32
  let v2690 : BitVec 32 := Scalar.remsi v2689 c32_i32_2192
  let c1_i32_2196 : BitVec 32 := 1#32
  let v2692 : BitVec 32 := Scalar.muli v2690 c1_i32_2196
  let v2693 : BitVec 32 := Scalar.addi c0_i32_2197 v2692
  v2693.toNat
def k0_dev84 (d0 : Dev nD) : Nat :=
  let c0_i32_2205 : BitVec 32 := 0#32
  let v0 : BitVec 32 := Dev.word d0
  let c1_i32 : BitVec 32 := 1#32
  let v1 : BitVec 32 := Scalar.divsi v0 c1_i32
  let c32_i32 : BitVec 32 := 32#32
  let v2 : BitVec 32 := Scalar.remsi v1 c32_i32
  let c21_i32_2199 : BitVec 32 := 21#32
  let v2699 : BitVec 32 := Scalar.addi v2 c21_i32_2199
  let c32_i32_2200 : BitVec 32 := 32#32
  let v2700 : BitVec 32 := Scalar.remsi v2699 c32_i32_2200
  let c1_i32_2204 : BitVec 32 := 1#32
  let v2702 : BitVec 32 := Scalar.muli v2700 c1_i32_2204
  let v2703 : BitVec 32 := Scalar.addi c0_i32_2205 v2702
  v2703.toNat
def k0_dev85 (d0 : Dev nD) : Nat :=
  let c0_i32_2213 : BitVec 32 := 0#32
  let v0 : BitVec 32 := Dev.word d0
  let c1_i32 : BitVec 32 := 1#32
  let v1 : BitVec 32 := Scalar.divsi v0 c1_i32
  let c32_i32 : BitVec 32 := 32#32
  let v2 : BitVec 32 := Scalar.remsi v1 c32_i32
  let c22_i32_2207 : BitVec 32 := 22#32
  let v2709 : BitVec 32 := Scalar.addi v2 c22_i32_2207
  let c32_i32_2208 : BitVec 32 := 32#32
  let v2710 : BitVec 32 := Scalar.remsi v2709 c32_i32_2208
  let c1_i32_2212 : BitVec 32 := 1#32
  let v2712 : BitVec 32 := Scalar.muli v2710 c1_i32_2212
  let v2713 : BitVec 32 := Scalar.addi c0_i32_2213 v2712
  v2713.toNat
def k0_dev86 (d0 : Dev nD) : Nat :=
  let c0_i32_2221 : BitVec 32 := 0#32
  let v0 : BitVec 32 := Dev.word d0
  let c1_i32 : BitVec 32 := 1#32
  let v1 : BitVec 32 := Scalar.divsi v0 c1_i32
  let c32_i32 : BitVec 32 := 32#32
  let v2 : BitVec 32 := Scalar.remsi v1 c32_i32
  let c23_i32_2215 : BitVec 32 := 23#32
  let v2719 : BitVec 32 := Scalar.addi v2 c23_i32_2215
  let c32_i32_2216 : BitVec 32 := 32#32
  let v2720 : BitVec 32 := Scalar.remsi v2719 c32_i32_2216
  let c1_i32_2220 : BitVec 32 := 1#32
  let v2722 : BitVec 32 := Scalar.muli v2720 c1_i32_2220
  let v2723 : BitVec 32 := Scalar.addi c0_i32_2221 v2722
  v2723.toNat
def k0_dev87 (d0 : Dev nD) : Nat :=
  let c0_i32_2229 : BitVec 32 := 0#32
  let v0 : BitVec 32 := Dev.word d0
  let c1_i32 : BitVec 32 := 1#32
  let v1 : BitVec 32 := Scalar.divsi v0 c1_i32
  let c32_i32 : BitVec 32 := 32#32
  let v2 : BitVec 32 := Scalar.remsi v1 c32_i32
  let c24_i32_2223 : BitVec 32 := 24#32
  let v2729 : BitVec 32 := Scalar.addi v2 c24_i32_2223
  let c32_i32_2224 : BitVec 32 := 32#32
  let v2730 : BitVec 32 := Scalar.remsi v2729 c32_i32_2224
  let c1_i32_2228 : BitVec 32 := 1#32
  let v2732 : BitVec 32 := Scalar.muli v2730 c1_i32_2228
  let v2733 : BitVec 32 := Scalar.addi c0_i32_2229 v2732
  v2733.toNat
def k0_dev88 (d0 : Dev nD) : Nat :=
  let c0_i32_2237 : BitVec 32 := 0#32
  let v0 : BitVec 32 := Dev.word d0
  let c1_i32 : BitVec 32 := 1#32
  let v1 : BitVec 32 := Scalar.divsi v0 c1_i32
  let c32_i32 : BitVec 32 := 32#32
  let v2 : BitVec 32 := Scalar.remsi v1 c32_i32
  let c25_i32_2231 : BitVec 32 := 25#32
  let v2739 : BitVec 32 := Scalar.addi v2 c25_i32_2231
  let c32_i32_2232 : BitVec 32 := 32#32
  let v2740 : BitVec 32 := Scalar.remsi v2739 c32_i32_2232
  let c1_i32_2236 : BitVec 32 := 1#32
  let v2742 : BitVec 32 := Scalar.muli v2740 c1_i32_2236
  let v2743 : BitVec 32 := Scalar.addi c0_i32_2237 v2742
  v2743.toNat
def k0_dev89 (d0 : Dev nD) : Nat :=
  let c0_i32_2245 : BitVec 32 := 0#32
  let v0 : BitVec 32 := Dev.word d0
  let c1_i32 : BitVec 32 := 1#32
  let v1 : BitVec 32 := Scalar.divsi v0 c1_i32
  let c32_i32 : BitVec 32 := 32#32
  let v2 : BitVec 32 := Scalar.remsi v1 c32_i32
  let c26_i32_2239 : BitVec 32 := 26#32
  let v2749 : BitVec 32 := Scalar.addi v2 c26_i32_2239
  let c32_i32_2240 : BitVec 32 := 32#32
  let v2750 : BitVec 32 := Scalar.remsi v2749 c32_i32_2240
  let c1_i32_2244 : BitVec 32 := 1#32
  let v2752 : BitVec 32 := Scalar.muli v2750 c1_i32_2244
  let v2753 : BitVec 32 := Scalar.addi c0_i32_2245 v2752
  v2753.toNat
def k0_dev90 (d0 : Dev nD) : Nat :=
  let c0_i32_2253 : BitVec 32 := 0#32
  let v0 : BitVec 32 := Dev.word d0
  let c1_i32 : BitVec 32 := 1#32
  let v1 : BitVec 32 := Scalar.divsi v0 c1_i32
  let c32_i32 : BitVec 32 := 32#32
  let v2 : BitVec 32 := Scalar.remsi v1 c32_i32
  let c27_i32_2247 : BitVec 32 := 27#32
  let v2759 : BitVec 32 := Scalar.addi v2 c27_i32_2247
  let c32_i32_2248 : BitVec 32 := 32#32
  let v2760 : BitVec 32 := Scalar.remsi v2759 c32_i32_2248
  let c1_i32_2252 : BitVec 32 := 1#32
  let v2762 : BitVec 32 := Scalar.muli v2760 c1_i32_2252
  let v2763 : BitVec 32 := Scalar.addi c0_i32_2253 v2762
  v2763.toNat
def k0_dev91 (d0 : Dev nD) : Nat :=
  let c0_i32_2261 : BitVec 32 := 0#32
  let v0 : BitVec 32 := Dev.word d0
  let c1_i32 : BitVec 32 := 1#32
  let v1 : BitVec 32 := Scalar.divsi v0 c1_i32
  let c32_i32 : BitVec 32 := 32#32
  let v2 : BitVec 32 := Scalar.remsi v1 c32_i32
  let c28_i32_2255 : BitVec 32 := 28#32
  let v2769 : BitVec 32 := Scalar.addi v2 c28_i32_2255
  let c32_i32_2256 : BitVec 32 := 32#32
  let v2770 : BitVec 32 := Scalar.remsi v2769 c32_i32_2256
  let c1_i32_2260 : BitVec 32 := 1#32
  let v2772 : BitVec 32 := Scalar.muli v2770 c1_i32_2260
  let v2773 : BitVec 32 := Scalar.addi c0_i32_2261 v2772
  v2773.toNat
def k0_dev92 (d0 : Dev nD) : Nat :=
  let c0_i32_2269 : BitVec 32 := 0#32
  let v0 : BitVec 32 := Dev.word d0
  let c1_i32 : BitVec 32 := 1#32
  let v1 : BitVec 32 := Scalar.divsi v0 c1_i32
  let c32_i32 : BitVec 32 := 32#32
  let v2 : BitVec 32 := Scalar.remsi v1 c32_i32
  let c29_i32_2263 : BitVec 32 := 29#32
  let v2779 : BitVec 32 := Scalar.addi v2 c29_i32_2263
  let c32_i32_2264 : BitVec 32 := 32#32
  let v2780 : BitVec 32 := Scalar.remsi v2779 c32_i32_2264
  let c1_i32_2268 : BitVec 32 := 1#32
  let v2782 : BitVec 32 := Scalar.muli v2780 c1_i32_2268
  let v2783 : BitVec 32 := Scalar.addi c0_i32_2269 v2782
  v2783.toNat
def k0_dev93 (d0 : Dev nD) : Nat :=
  let c0_i32_2277 : BitVec 32 := 0#32
  let v0 : BitVec 32 := Dev.word d0
  let c1_i32 : BitVec 32 := 1#32
  let v1 : BitVec 32 := Scalar.divsi v0 c1_i32
  let c32_i32 : BitVec 32 := 32#32
  let v2 : BitVec 32 := Scalar.remsi v1 c32_i32
  let c30_i32_2271 : BitVec 32 := 30#32
  let v2789 : BitVec 32 := Scalar.addi v2 c30_i32_2271
  let c32_i32_2272 : BitVec 32 := 32#32
  let v2790 : BitVec 32 := Scalar.remsi v2789 c32_i32_2272
  let c1_i32_2276 : BitVec 32 := 1#32
  let v2792 : BitVec 32 := Scalar.muli v2790 c1_i32_2276
  let v2793 : BitVec 32 := Scalar.addi c0_i32_2277 v2792
  v2793.toNat
def k0_dev94 (d0 : Dev nD) : Nat :=
  let c0_i32_2285 : BitVec 32 := 0#32
  let v0 : BitVec 32 := Dev.word d0
  let c1_i32 : BitVec 32 := 1#32
  let v1 : BitVec 32 := Scalar.divsi v0 c1_i32
  let c32_i32 : BitVec 32 := 32#32
  let v2 : BitVec 32 := Scalar.remsi v1 c32_i32
  let c31_i32_2279 : BitVec 32 := 31#32
  let v2799 : BitVec 32 := Scalar.addi v2 c31_i32_2279
  let c32_i32_2280 : BitVec 32 := 32#32
  let v2800 : BitVec 32 := Scalar.remsi v2799 c32_i32_2280
  let c1_i32_2284 : BitVec 32 := 1#32
  let v2802 : BitVec 32 := Scalar.muli v2800 c1_i32_2284
  let v2803 : BitVec 32 := Scalar.addi c0_i32_2285 v2802
  v2803.toNat
def k0_off67 (d0 : Dev nD) (c1_i32_2291 : BitVec 32) : Fin 2 → Nat :=
  let v0 : BitVec 32 := Dev.word d0
  let c1_i32 : BitVec 32 := 1#32
  let v1 : BitVec 32 := Scalar.divsi v0 c1_i32
  let c32_i32 : BitVec 32 := 32#32
  let v2 : BitVec 32 := Scalar.remsi v1 c32_i32
  let v2813 : BitVec 32 := Scalar.subi v2 c1_i32_2291
  let c32_i32_2292 : BitVec 32 := 32#32
  let v2814 : BitVec 32 := Scalar.addi v2813 c32_i32_2292
  let c32_i32_2293 : BitVec 32 := 32#32
  let v2815 : BitVec 32 := Scalar.remsi v2814 c32_i32_2293
  let c32_i32_2294 : BitVec 32 := 32#32
  let v2816 : BitVec 32 := Scalar.muli v2815 c32_i32_2294
  let c0_i32_2299 : BitVec 32 := 0#32
  ![v2816.toNat, 0]
abbrev stage0_0 : Fin 1 → Memref sig .tc .vmem S1x1024x1024 .bf16 := fun | 0 => Memref.whole cc0_stg0_0 | ⟨_ + 1, h⟩ => absurd h (Nat.not_lt.2 (Nat.le_add_left _ _))
abbrev sem0_0 : Fin 1 → DmaSem sig := fun | 0 => cc0_sem0_0 | ⟨_ + 1, h⟩ => absurd h (Nat.not_lt.2 (Nat.le_add_left _ _))

abbrev stage0_1 : Fin 1 → Memref sig .tc .vmem S1024x1024 .bf16 := fun | 0 => Memref.whole cc0_stg1_0 | ⟨_ + 1, h⟩ => absurd h (Nat.not_lt.2 (Nat.le_add_left _ _))
abbrev sem0_1 : Fin 1 → DmaSem sig := fun | 0 => cc0_sem1_0 | ⟨_ + 1, h⟩ => absurd h (Nat.not_lt.2 (Nat.le_add_left _ _))

abbrev stage0_2 : Fin 1 → Memref sig .tc .vmem S1024x1024 .bf16 := fun | 0 => Memref.whole cc0_stg2_0 | ⟨_ + 1, h⟩ => absurd h (Nat.not_lt.2 (Nat.le_add_left _ _))
abbrev sem0_2 : Fin 1 → DmaSem sig := fun | 0 => cc0_sem2_0 | ⟨_ + 1, h⟩ => absurd h (Nat.not_lt.2 (Nat.le_add_left _ _))

abbrev stage0_3 : Fin 1 → Memref sig .tc .vmem S1024x1024 .bf16 := fun | 0 => Memref.whole cc0_stg3_0 | ⟨_ + 1, h⟩ => absurd h (Nat.not_lt.2 (Nat.le_add_left _ _))
abbrev sem0_3 : Fin 1 → DmaSem sig := fun | 0 => cc0_sem3_0 | ⟨_ + 1, h⟩ => absurd h (Nat.not_lt.2 (Nat.le_add_left _ _))

abbrev stage0_4 : Fin 1 → Memref sig .tc .vmem S1024x1024 .bf16 := fun | 0 => Memref.whole cc0_stg4_0 | ⟨_ + 1, h⟩ => absurd h (Nat.not_lt.2 (Nat.le_add_left _ _))
abbrev sem0_4 : Fin 1 → DmaSem sig := fun | 0 => cc0_sem4_0 | ⟨_ + 1, h⟩ => absurd h (Nat.not_lt.2 (Nat.le_add_left _ _))

abbrev stage0_5 : Fin 1 → Memref sig .tc .vmem S1024x128 .bf16 := fun | 0 => Memref.whole cc0_stg5_0 | ⟨_ + 1, h⟩ => absurd h (Nat.not_lt.2 (Nat.le_add_left _ _))
abbrev sem0_5 : Fin 1 → DmaSem sig := fun | 0 => cc0_sem5_0 | ⟨_ + 1, h⟩ => absurd h (Nat.not_lt.2 (Nat.le_add_left _ _))

abbrev stage0_6 : Fin 1 → Memref sig .tc .vmem S1024x128 .bf16 := fun | 0 => Memref.whole cc0_stg6_0 | ⟨_ + 1, h⟩ => absurd h (Nat.not_lt.2 (Nat.le_add_left _ _))
abbrev sem0_6 : Fin 1 → DmaSem sig := fun | 0 => cc0_sem6_0 | ⟨_ + 1, h⟩ => absurd h (Nat.not_lt.2 (Nat.le_add_left _ _))

abbrev stage0_7 : Fin 1 → Memref sig .tc .vmem S1024x1024 .bf16 := fun | 0 => Memref.whole cc0_stg7_0 | ⟨_ + 1, h⟩ => absurd h (Nat.not_lt.2 (Nat.le_add_left _ _))
abbrev sem0_7 : Fin 1 → DmaSem sig := fun | 0 => cc0_sem7_0 | ⟨_ + 1, h⟩ => absurd h (Nat.not_lt.2 (Nat.le_add_left _ _))
-- ==== ReferenceIdeal.lean ====
abbrev S1x1024x1024 : Shape := ⟨3, ![1, 1024, 1024]⟩
abbrev S1024x32768 : Shape := ⟨2, ![1024, 32768]⟩
abbrev S32768x1024 : Shape := ⟨2, ![32768, 1024]⟩
abbrev S1024x128 : Shape := ⟨2, ![1024, 128]⟩
abbrev S1x1024x32768 : Shape := ⟨3, ![1, 1024, 32768]⟩
abbrev S1x1024x256x128 : Shape := ⟨4, ![1, 1024, 256, 128]⟩
abbrev S1x1024x256x64x2 : Shape := ⟨5, ![1, 1024, 256, 64, 2]⟩
abbrev S1x1024x256x64x1 : Shape := ⟨5, ![1, 1024, 256, 64, 1]⟩
abbrev S1x1024x256x64 : Shape := ⟨4, ![1, 1024, 256, 64]⟩
abbrev S1x1024x1x128 : Shape := ⟨4, ![1, 1024, 1, 128]⟩
abbrev S1x256x1024x1024 : Shape := ⟨4, ![1, 256, 1024, 1024]⟩
abbrev S_ : Shape := ⟨0, ![]⟩
abbrev S1x256x1024 : Shape := ⟨3, ![1, 256, 1024]⟩
abbrev S1x256x1024x1 : Shape := ⟨4, ![1, 256, 1024, 1]⟩
abbrev S1x256x128x1024 : Shape := ⟨4, ![1, 256, 128, 1024]⟩
abbrev S1024x1024 : Shape := ⟨2, ![1024, 1024]⟩

abbrev nBuf : Space → Nat
  | .hbm => 77
  | .vmem => 0
  | .smem => 0
  | _ => 0

abbrev bufTy : (tb : Table) → Fin (tcTables nBuf tb) → BufTy
  | .hbm, ⟨0, _⟩ => ⟨S1x1024x1024, .bf16⟩
  | .hbm, ⟨1, _⟩ => ⟨S1024x32768, .bf16⟩
  | .hbm, ⟨2, _⟩ => ⟨S1024x32768, .bf16⟩
  | .hbm, ⟨3, _⟩ => ⟨S1024x32768, .bf16⟩
  | .hbm, ⟨4, _⟩ => ⟨S32768x1024, .bf16⟩
  | .hbm, ⟨5, _⟩ => ⟨S1024x128, .bf16⟩
  | .hbm, ⟨6, _⟩ => ⟨S1024x128, .bf16⟩
  | .hbm, ⟨7, _⟩ => ⟨S1024x128, .f32⟩
  | .hbm, ⟨8, _⟩ => ⟨S1024x128, .f32⟩
  | .hbm, ⟨9, _⟩ => ⟨S1x1024x32768, .f32⟩
  | .hbm, ⟨10, _⟩ => ⟨S1x1024x32768, .bf16⟩
  | .hbm, ⟨11, _⟩ => ⟨S1x1024x32768, .f32⟩
  | .hbm, ⟨12, _⟩ => ⟨S1x1024x256x128, .f32⟩
  | .hbm, ⟨13, _⟩ => ⟨S1x1024x256x64x2, .f32⟩
  | .hbm, ⟨14, _⟩ => ⟨S1x1024x256x64x1, .f32⟩
  | .hbm, ⟨15, _⟩ => ⟨S1x1024x256x64, .f32⟩
  | .hbm, ⟨16, _⟩ => ⟨S1x1024x256x64, .f32⟩
  | .hbm, ⟨17, _⟩ => ⟨S1x1024x256x64x1, .f32⟩
  | .hbm, ⟨18, _⟩ => ⟨S1x1024x256x64, .f32⟩
  | .hbm, ⟨19, _⟩ => ⟨S1x1024x256x64x1, .f32⟩
  | .hbm, ⟨20, _⟩ => ⟨S1x1024x256x64x1, .f32⟩
  | .hbm, ⟨21, _⟩ => ⟨S1x1024x256x64x2, .f32⟩
  | .hbm, ⟨22, _⟩ => ⟨S1x1024x256x128, .f32⟩
  | .hbm, ⟨23, _⟩ => ⟨S1x1024x1x128, .f32⟩
  | .hbm, ⟨24, _⟩ => ⟨S1x1024x256x128, .f32⟩
  | .hbm, ⟨25, _⟩ => ⟨S1x1024x256x128, .f32⟩
  | .hbm, ⟨26, _⟩ => ⟨S1x1024x1x128, .f32⟩
  | .hbm, ⟨27, _⟩ => ⟨S1x1024x256x128, .f32⟩
  | .hbm, ⟨28, _⟩ => ⟨S1x1024x256x128, .f32⟩
  | .hbm, ⟨29, _⟩ => ⟨S1x1024x256x128, .f32⟩
  | .hbm, ⟨30, _⟩ => ⟨S1x1024x32768, .f32⟩
  | .hbm, ⟨31, _⟩ => ⟨S1x1024x32768, .bf16⟩
  | .hbm, ⟨32, _⟩ => ⟨S1x1024x32768, .f32⟩
  | .hbm, ⟨33, _⟩ => ⟨S1x1024x256x128, .f32⟩
  | .hbm, ⟨34, _⟩ => ⟨S1x1024x256x64x2, .f32⟩
  | .hbm, ⟨35, _⟩ => ⟨S1x1024x256x64x1, .f32⟩
  | .hbm, ⟨36, _⟩ => ⟨S1x1024x256x64, .f32⟩
  | .hbm, ⟨37, _⟩ => ⟨S1x1024x256x64, .f32⟩
  | .hbm, ⟨38, _⟩ => ⟨S1x1024x256x64x1, .f32⟩
  | .hbm, ⟨39, _⟩ => ⟨S1x1024x256x64, .f32⟩
  | .hbm, ⟨40, _⟩ => ⟨S1x1024x256x64x1, .f32⟩
  | .hbm, ⟨41, _⟩ => ⟨S1x1024x256x64x1, .f32⟩
  | .hbm, ⟨42, _⟩ => ⟨S1x1024x256x64x2, .f32⟩
  | .hbm, ⟨43, _⟩ => ⟨S1x1024x256x128, .f32⟩
  | .hbm, ⟨44, _⟩ => ⟨S1x1024x1x128, .f32⟩
  | .hbm, ⟨45, _⟩ => ⟨S1x1024x256x128, .f32⟩
  | .hbm, ⟨46, _⟩ => ⟨S1x1024x256x128, .f32⟩
  | .hbm, ⟨47, _⟩ => ⟨S1x1024x1x128, .f32⟩
  | .hbm, ⟨48, _⟩ => ⟨S1x1024x256x128, .f32⟩
  | .hbm, ⟨49, _⟩ => ⟨S1x1024x256x128, .f32⟩
  | .hbm, ⟨50, _⟩ => ⟨S1x1024x256x128, .f32⟩
  | .hbm, ⟨51, _⟩ => ⟨S1x1024x32768, .f32⟩
  | .hbm, ⟨52, _⟩ => ⟨S1x1024x32768, .bf16⟩
  | .hbm, ⟨53, _⟩ => ⟨S1x1024x32768, .f32⟩
  | .hbm, ⟨54, _⟩ => ⟨S1x1024x256x128, .f32⟩
  | .hbm, ⟨55, _⟩ => ⟨S1x256x1024x1024, .f32⟩
  | .hbm, ⟨56, _⟩ => ⟨S_, .f32⟩
  | .hbm, ⟨57, _⟩ => ⟨S1x256x1024x1024, .f32⟩
  | .hbm, ⟨58, _⟩ => ⟨S1x256x1024x1024, .f32⟩
  | .hbm, ⟨59, _⟩ => ⟨S_, .f32⟩
  | .hbm, ⟨60, _⟩ => ⟨S1x256x1024, .f32⟩
  | .hbm, ⟨61, _⟩ => ⟨S1x256x1024x1, .f32⟩
  | .hbm, ⟨62, _⟩ => ⟨S1x256x1024x1024, .f32⟩
  | .hbm, ⟨63, _⟩ => ⟨S1x256x1024x1024, .f32⟩
  | .hbm, ⟨64, _⟩ => ⟨S1x256x1024x1024, .f32⟩
  | .hbm, ⟨65, _⟩ => ⟨S_, .f32⟩
  | .hbm, ⟨66, _⟩ => ⟨S1x256x1024, .f32⟩
  | .hbm, ⟨67, _⟩ => ⟨S1x256x1024x1, .f32⟩
  | .hbm, ⟨68, _⟩ => ⟨S1x256x1024x1024, .f32⟩
  | .hbm, ⟨69, _⟩ => ⟨S1x256x1024x1024, .f32⟩
  | .hbm, ⟨70, _⟩ => ⟨S1x256x128x1024, .f32⟩
  | .hbm, ⟨71, _⟩ => ⟨S1x1024x256x128, .f32⟩
  | .hbm, ⟨72, _⟩ => ⟨S1x1024x32768, .f32⟩
  | .hbm, ⟨73, _⟩ => ⟨S32768x1024, .f32⟩
  | .hbm, ⟨74, _⟩ => ⟨S1x1024x1024, .f32⟩
  | .hbm, ⟨75, _⟩ => ⟨S1x1024x1024, .bf16⟩
  | .hbm, ⟨76, _⟩ => ⟨S1024x1024, .bf16⟩
  | _, _ => ⟨S1x1024x1024, .bf16⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_arg6 : Ref sig .tc := ⟨.hbm, 6, rfl⟩
abbrev main_v0 : Ref sig .tc := ⟨.hbm, 7, rfl⟩
abbrev main_v1 : Ref sig .tc := ⟨.hbm, 8, rfl⟩
abbrev main_v2 : Ref sig .tc := ⟨.hbm, 9, rfl⟩
abbrev main_v3 : Ref sig .tc := ⟨.hbm, 10, rfl⟩
abbrev main_v4 : Ref sig .tc := ⟨.hbm, 11, rfl⟩
abbrev main_v5 : Ref sig .tc := ⟨.hbm, 12, rfl⟩
abbrev main_v6 : Ref sig .tc := ⟨.hbm, 13, rfl⟩
abbrev main_v7 : Ref sig .tc := ⟨.hbm, 14, rfl⟩
abbrev main_v8 : Ref sig .tc := ⟨.hbm, 15, rfl⟩
abbrev main_v9 : Ref sig .tc := ⟨.hbm, 16, rfl⟩
abbrev main_v10 : Ref sig .tc := ⟨.hbm, 17, rfl⟩
abbrev main_v11 : Ref sig .tc := ⟨.hbm, 18, rfl⟩
abbrev main_v12 : Ref sig .tc := ⟨.hbm, 19, rfl⟩
abbrev main_v13 : Ref sig .tc := ⟨.hbm, 20, rfl⟩
abbrev main_v14 : Ref sig .tc := ⟨.hbm, 21, rfl⟩
abbrev main_v15 : Ref sig .tc := ⟨.hbm, 22, rfl⟩
abbrev main_v16 : Ref sig .tc := ⟨.hbm, 23, rfl⟩
abbrev main_v17 : Ref sig .tc := ⟨.hbm, 24, rfl⟩
abbrev main_v18 : Ref sig .tc := ⟨.hbm, 25, rfl⟩
abbrev main_v19 : Ref sig .tc := ⟨.hbm, 26, rfl⟩
abbrev main_v20 : Ref sig .tc := ⟨.hbm, 27, rfl⟩
abbrev main_v21 : Ref sig .tc := ⟨.hbm, 28, rfl⟩
abbrev main_v22 : Ref sig .tc := ⟨.hbm, 29, rfl⟩
abbrev main_v23 : Ref sig .tc := ⟨.hbm, 30, rfl⟩
abbrev main_v24 : Ref sig .tc := ⟨.hbm, 31, rfl⟩
abbrev main_v25 : Ref sig .tc := ⟨.hbm, 32, rfl⟩
abbrev main_v26 : Ref sig .tc := ⟨.hbm, 33, rfl⟩
abbrev main_v27 : Ref sig .tc := ⟨.hbm, 34, rfl⟩
abbrev main_v28 : Ref sig .tc := ⟨.hbm, 35, rfl⟩
abbrev main_v29 : Ref sig .tc := ⟨.hbm, 36, rfl⟩
abbrev main_v30 : Ref sig .tc := ⟨.hbm, 37, rfl⟩
abbrev main_v31 : Ref sig .tc := ⟨.hbm, 38, rfl⟩
abbrev main_v32 : Ref sig .tc := ⟨.hbm, 39, rfl⟩
abbrev main_v33 : Ref sig .tc := ⟨.hbm, 40, rfl⟩
abbrev main_v34 : Ref sig .tc := ⟨.hbm, 41, rfl⟩
abbrev main_v35 : Ref sig .tc := ⟨.hbm, 42, rfl⟩
abbrev main_v36 : Ref sig .tc := ⟨.hbm, 43, rfl⟩
abbrev main_v37 : Ref sig .tc := ⟨.hbm, 44, rfl⟩
abbrev main_v38 : Ref sig .tc := ⟨.hbm, 45, rfl⟩
abbrev main_v39 : Ref sig .tc := ⟨.hbm, 46, rfl⟩
abbrev main_v40 : Ref sig .tc := ⟨.hbm, 47, rfl⟩
abbrev main_v41 : Ref sig .tc := ⟨.hbm, 48, rfl⟩
abbrev main_v42 : Ref sig .tc := ⟨.hbm, 49, rfl⟩
abbrev main_v43 : Ref sig .tc := ⟨.hbm, 50, rfl⟩
abbrev main_v44 : Ref sig .tc := ⟨.hbm, 51, rfl⟩
abbrev main_v45 : Ref sig .tc := ⟨.hbm, 52, rfl⟩
abbrev main_v46 : Ref sig .tc := ⟨.hbm, 53, rfl⟩
abbrev main_v47 : Ref sig .tc := ⟨.hbm, 54, rfl⟩
abbrev main_v48 : Ref sig .tc := ⟨.hbm, 55, rfl⟩
abbrev main_cst : Ref sig .tc := ⟨.hbm, 56, rfl⟩
abbrev main_v49 : Ref sig .tc := ⟨.hbm, 57, rfl⟩
abbrev main_v50 : Ref sig .tc := ⟨.hbm, 58, rfl⟩
abbrev main_cst_0 : Ref sig .tc := ⟨.hbm, 59, rfl⟩
abbrev main_v51 : Ref sig .tc := ⟨.hbm, 60, rfl⟩
abbrev main_v52 : Ref sig .tc := ⟨.hbm, 61, rfl⟩
abbrev main_v53 : Ref sig .tc := ⟨.hbm, 62, rfl⟩
abbrev main_v54 : Ref sig .tc := ⟨.hbm, 63, rfl⟩
abbrev main_v55 : Ref sig .tc := ⟨.hbm, 64, rfl⟩
abbrev main_cst_1 : Ref sig .tc := ⟨.hbm, 65, rfl⟩
abbrev main_v56 : Ref sig .tc := ⟨.hbm, 66, rfl⟩
abbrev main_v57 : Ref sig .tc := ⟨.hbm, 67, rfl⟩
abbrev main_v58 : Ref sig .tc := ⟨.hbm, 68, rfl⟩
abbrev main_v59 : Ref sig .tc := ⟨.hbm, 69, rfl⟩
abbrev main_v60 : Ref sig .tc := ⟨.hbm, 70, rfl⟩
abbrev main_v61 : Ref sig .tc := ⟨.hbm, 71, rfl⟩
abbrev main_v62 : Ref sig .tc := ⟨.hbm, 72, rfl⟩
abbrev main_v63 : Ref sig .tc := ⟨.hbm, 73, rfl⟩
abbrev main_v64 : Ref sig .tc := ⟨.hbm, 74, rfl⟩
abbrev main_v65 : Ref sig .tc := ⟨.hbm, 75, rfl⟩
abbrev main_v66 : Ref sig .tc := ⟨.hbm, 76, rfl⟩

abbrev nD : Nat := 1
abbrev τ : Topo := Topo.v7x

variable {F : FTy → Type} [FloatOps F]
-- ==== Proof.Contents.lean ====
/-
# What each buffer holds

The contents of every scratch buffer of the kernel as a closed function of the inputs of all devices: the three
head projections, the partial product of the device, the landing buffer of the exchange, the running sum, the
rounded sum and the result. They are stated over any number format, in the order of the operations of the kernel.
-/
module

public import proofs.«01_k».proof.Proof.Gen.KernelIdeal.Frame
public import proofs.«01_k».proof.Proof.Gen.KernelIdeal.Skeleton

@[expose] public section

noncomputable section

namespace Cert.KernelIdeal.Fused

open Cert.KernelIdeal Cert.KernelIdeal.Gen
open Idealize.ShloMosaic Idealize.ShloMosaic.TcCoe
open Idealize.SL Idealize.SL.Sem

variable {F : FTy → Type} [FloatOps F]

/-- The inputs of every device, as the staging buffers hold them. -/
structure Inp (F : FTy → Type) where
  x : Dev nD → Vec F S1x1024x1024 .bf16
  wq : Dev nD → Vec F S1024x1024 .bf16
  wk : Dev nD → Vec F S1024x1024 .bf16
  wv : Dev nD → Vec F S1024x1024 .bf16
  wo : Dev nD → Vec F S1024x1024 .bf16
  cos : Dev nD → Vec F S1024x128 .bf16
  sin : Dev nD → Vec F S1024x128 .bf16

/-! ## The memrefs the body is given -/

abbrev xM : Memref sig .tc .vmem S1x1024x1024 .bf16 := Memref.whole cc0_stg0_0
abbrev wqM : Memref sig .tc .vmem S1024x1024 .bf16 := Memref.whole cc0_stg1_0
abbrev wkM : Memref sig .tc .vmem S1024x1024 .bf16 := Memref.whole cc0_stg2_0
abbrev wvM : Memref sig .tc .vmem S1024x1024 .bf16 := Memref.whole cc0_stg3_0
abbrev woM : Memref sig .tc .vmem S1024x1024 .bf16 := Memref.whole cc0_stg4_0
abbrev cosM : Memref sig .tc .vmem S1024x128 .bf16 := Memref.whole cc0_stg5_0
abbrev sinM : Memref sig .tc .vmem S1024x128 .bf16 := Memref.whole cc0_stg6_0
abbrev oM : Memref sig .tc .vmem S1024x1024 .bf16 := Memref.whole cc0_stg7_0
abbrev qM : Memref sig .tc .vmem S8x1024x128 .bf16 := Memref.whole cc0_scratch0
abbrev kM : Memref sig .tc .vmem S8x1024x128 .bf16 := Memref.whole cc0_scratch1
abbrev vM : Memref sig .tc .vmem S8x1024x128 .bf16 := Memref.whole cc0_scratch2
abbrev pM : Memref sig .tc .vmem S1024x1024 .bf16 := Memref.whole cc0_scratch3
abbrev rM : Memref sig .tc .vmem S32x32x1024 .bf16 := Memref.whole cc0_scratch4
abbrev aM : Memref sig .tc .vmem S32x1024 .f32 := Memref.whole cc0_scratch5
abbrev dM : Memref sig .tc .vmem S32x1024 .bf16 := Memref.whole cc0_scratch6

/-! ## The rectangles the body reads and writes -/

/-- The columns of one head of a weight. -/
theorem colR_inb (h : Fin 8) : ∀ a, (![0, h.val * 128] : Fin 2 → ℕ) a + S1024x128.size a ≤ S1024x1024.size a := by
  revert h; decide
abbrev colR (h : Fin 8) : Rect S1024x1024 := Rect.unit (s := S1024x1024) ![0, h.val * 128] S1024x128.size (colR_inb h)
/-- The rows of one head of the output weight, and the rows of one block of the partial product. -/
theorem rowR_inb (h : Fin 8) : ∀ a, (![h.val * 128, 0] : Fin 2 → ℕ) a + S128x1024.size a ≤ S1024x1024.size a := by
  revert h; decide
abbrev rowR (h : Fin 8) : Rect S1024x1024 := Rect.unit (s := S1024x1024) ![h.val * 128, 0] S128x1024.size (rowR_inb h)
/-- One head of a projection. -/
theorem headR_inb (h : Fin 8) : ∀ a, (![h.val, 0, 0] : Fin 3 → ℕ) a + S1x1024x128.size a ≤ S8x1024x128.size a := by
  revert h; decide
abbrev headR (h : Fin 8) : Rect S8x1024x128 := Rect.unit (s := S8x1024x128) ![h.val, 0, 0] S1x1024x128.size (headR_inb h)
/-- One block of rows of one head of a projection. -/
theorem blkR_inb (h b : Fin 8) : ∀ a, (![h.val, b.val * 128, 0] : Fin 3 → ℕ) a + S1x128x128.size a ≤ S8x1024x128.size a := by
  revert h b; decide
abbrev blkR (h b : Fin 8) : Rect S8x1024x128 :=
  Rect.unit (s := S8x1024x128) ![h.val, b.val * 128, 0] S1x128x128.size (blkR_inb h b)
/-- The rows of one device. -/
theorem devR_inb (d : Fin 32) : ∀ a, (![d.val * 32, 0] : Fin 2 → ℕ) a + S32x1024.size a ≤ S1024x1024.size a := by
  revert d; decide
abbrev devR (d : Fin 32) : Rect S1024x1024 := Rect.unit (s := S1024x1024) ![d.val * 32, 0] S32x1024.size (devR_inb d)
/-- One slot of the landing buffer. -/
theorem slotR_inb (k : Fin 32) : ∀ a, (![k.val, 0, 0] : Fin 3 → ℕ) a + S1x32x1024.size a ≤ S32x32x1024.size a := by
  revert k; decide
abbrev slotR (k : Fin 32) : Rect S32x32x1024 := Rect.unit (s := S32x32x1024) ![k.val, 0, 0] S1x32x1024.size (slotR_inb k)

abbrev wholeX : Rect S1x1024x1024 := Rect.unit (s := S1x1024x1024) ![0, 0, 0] S1x1024x1024.size inb_S1x1024x1024_S1x1024x1024_0_0_0
abbrev wholeT : Rect S1024x128 := Rect.unit (s := S1024x128) ![0, 0] S1024x128.size inb_S1024x128_S1024x128_0_0
abbrev wholeA : Rect S32x1024 := Rect.unit (s := S32x1024) ![0, 0] S32x1024.size inb_S32x1024_S32x1024_0_0

/-! ## Loads of the inputs -/

variable (I : Inp F) (c : Dev nD)

def xL : FVec F S1024x1024 .bf16 :=
  shapeCast S1024x1024 (xM.view.readAt (Elt F) wholeX.toLoadRect (I.x c)) shapeCasts_S1x1024x1024_S1024x1024
def cosL : FVec F S1024x128 .bf16 :=
  shapeCast S1024x128 (cosM.view.readAt (Elt F) wholeT.toLoadRect (I.cos c)) shapeCasts_S1024x128_S1024x128
def sinL : FVec F S1024x128 .bf16 :=
  shapeCast S1024x128 (sinM.view.readAt (Elt F) wholeT.toLoadRect (I.sin c)) shapeCasts_S1024x128_S1024x128
/-- A rotary table times the score scale, rounded. -/
def scaled (t : FVec F S1024x128 .bf16) : FVec F S1024x128 .bf16 :=
  truncf .bf16 (mulf (extf .f32 t bitsLt_bf16_f32) (broadcast S1024x128 (Scalar.ofBits .f32 0x3DB504F3#32 : F .f32))) bitsLt_bf16_f32
/-- The signed permutation that swaps the two coordinates of each pair. -/
def rotV : FVec F S128x128 .bf16 := k0_pay6 (iota .tc S128x128 32 [1] iota_S128x128_d1_w32) k0_pay4 k0_pay5

def wqL (h : Fin 8) : FVec F S1024x128 .bf16 :=
  shapeCast S1024x128 (wqM.view.readAt (Elt F) (colR h).toLoadRect (I.wq c)) shapeCasts_S1024x128_S1024x128
def wkL (h : Fin 8) : FVec F S1024x128 .bf16 :=
  shapeCast S1024x128 (wkM.view.readAt (Elt F) (colR h).toLoadRect (I.wk c)) shapeCasts_S1024x128_S1024x128
def wvL (h : Fin 8) : FVec F S1024x128 .bf16 :=
  shapeCast S1024x128 (wvM.view.readAt (Elt F) (colR h).toLoadRect (I.wv c)) shapeCasts_S1024x128_S1024x128
def woL (h : Fin 8) : FVec F S128x1024 .bf16 :=
  shapeCast S128x1024 (woM.view.readAt (Elt F) (rowR h).toLoadRect (I.wo c)) shapeCasts_S128x1024_S128x1024

/-! ## The projections -/

/-- A projection of the activations, rounded. -/
def proj (w : FVec F S1024x128 .bf16) : FVec F S1024x128 .bf16 :=
  truncf .bf16 (matmul dot_S1024x1024_S1024x128_S1024x128_1_0_0_1_n_n none (xL I c) w
    (constant S1024x128 .f32 0x00000000#32)) bitsLt_bf16_f32
/-- The rotary rotation of a projection, by the two tables. -/
def rotary (p tc ts : FVec F S1024x128 .bf16) : FVec F S1024x128 .bf16 :=
  addf (mulf p tc) (mulf (truncf .bf16 (matmul dot_S1024x128_S128x128_S1024x128_1_0_0_1_n_n none p rotV
    (constant S1024x128 .f32 0x00000000#32)) bitsLt_bf16_f32) ts)

def qV (h : Fin 8) : FVec F S1024x128 .bf16 := rotary (proj I c (wqL I c h)) (scaled (cosL I c)) (scaled (sinL I c))
def kV (h : Fin 8) : FVec F S1024x128 .bf16 := rotary (proj I c (wkL I c h)) (cosL I c) (sinL I c)
def vV (h : Fin 8) : FVec F S1024x128 .bf16 := proj I c (wvL I c h)

def qS (h : Fin 8) : FVec F S1x1024x128 .bf16 := shapeCast S1x1024x128 (qV I c h) shapeCasts_S1024x128_S1x1024x128
def kS (h : Fin 8) : FVec F S1x1024x128 .bf16 := shapeCast S1x1024x128 (kV I c h) shapeCasts_S1024x128_S1x1024x128
def vS (h : Fin 8) : FVec F S1x1024x128 .bf16 := shapeCast S1x1024x128 (vV I c h) shapeCasts_S1024x128_S1x1024x128

/-- Eight head blocks, stacked. -/
def stack (f : Fin 8 → FVec F S1x1024x128 .bf16) : Vec F S8x1024x128 .bf16 :=
  fun i => f (i 0) (fun | 0 => (0 : Fin 1) | 1 => i 1 | 2 => i 2)

def Q3 : Vec F S8x1024x128 .bf16 := stack (qS I c)
def K3 : Vec F S8x1024x128 .bf16 := stack (kS I c)
def V3 : Vec F S8x1024x128 .bf16 := stack (vS I c)

/-! ## The partial product -/

/-- The exponentials of the scores of one block of rows and one head. -/
def expS (b h : Fin 8) : FVec F S128x1024 .f32 :=
  exp (matmul dot_S128x128_S1024x128_S128x1024_1_1_0_0_n_n none
    (shapeCast S128x128 (qM.view.readAt (Elt F) (blkR h b).toLoadRect (Q3 I c)) shapeCasts_S1x128x128_S128x128)
    (shapeCast S1024x128 (kM.view.readAt (Elt F) (headR h).toLoadRect (K3 I c)) shapeCasts_S1x1024x128_S1024x128)
    (constant S128x1024 .f32 0x00000000#32))
/-- The attention of one block of rows and one head, rounded. -/
def ctxS (b h : Fin 8) : FVec F S128x128 .bf16 :=
  truncf .bf16 (mulf (matmul dot_S128x1024_S1024x128_S128x128_1_0_0_1_n_n none
      (truncf .bf16 (expS I c b h) bitsLt_bf16_f32)
      (shapeCast S1024x128 (vM.view.readAt (Elt F) (headR h).toLoadRect (V3 I c)) shapeCasts_S1x1024x128_S1024x128)
      (constant S128x128 .f32 0x00000000#32))
    (broadcastTo S128x128 (divf (broadcast S128x1 (Scalar.ofBits .f32 0x3F800000#32 : F .f32))
      (shapeCast S128x1 (multiReduction .add [1] S128 (expS I c b h) 0x00000000#32 reduces_S128x1024_S128 (.inl rfl) rfl)
        shapeCasts_S128_S128x1)) broadcasts_S128x1_S128x128)) bitsLt_bf16_f32
/-- Its part of the output projection. -/
def outS (b h : Fin 8) : FVec F S128x1024 .f32 :=
  matmul dot_S128x128_S128x1024_S128x1024_1_0_0_1_n_n none (ctxS I c b h) (woL I c h) (constant S128x1024 .f32 0x00000000#32)
/-- The eight heads of a block of rows, added up. -/
def sumS (b : Fin 8) : FVec F S128x1024 .f32 :=
  addf (addf (addf (addf (addf (addf (addf (addf (broadcast S128x1024 (Scalar.ofBits .f32 0x00000000#32 : F .f32))
    (outS I c b 0)) (outS I c b 1)) (outS I c b 2)) (outS I c b 3)) (outS I c b 4)) (outS I c b 5)) (outS I c b 6)) (outS I c b 7)
def blkS (b : Fin 8) : FVec F S128x1024 .bf16 :=
  shapeCast S128x1024 (truncf .bf16 (sumS I c b) bitsLt_bf16_f32) shapeCasts_S128x1024_S128x1024

theorem blk_lt (i : Fin 1024) : i.val / 128 < 8 := by have := i.isLt; omega
theorem blk_mod (i : Fin 1024) : i.val % 128 < 128 := Nat.mod_lt _ (by decide)

/-- The whole partial product of a device. -/
def PV : Vec F S1024x1024 .bf16 :=
  fun i => blkS I c ⟨(i 0).val / 128, blk_lt (i 0)⟩ (fun | 0 => (⟨(i 0).val % 128, blk_mod (i 0)⟩ : Fin 128) | 1 => i 1)

/-! ## The exchange -/

/-- The device `k` places before `c`. -/
def devSub (c k : Fin 32) : Fin 32 := c - k
/-- The device `k` places after `c`. -/
def devAdd (c k : Fin 32) : Fin 32 := c + k

theorem row_lt (d : Fin 32) (i : Fin 32) : d.val * 32 + i.val < 1024 := by have := d.isLt; have := i.isLt; omega

/-- The landing buffer: slot `k` holds the rows of this device of the partial product of the device `k` before it. -/
def RV : Vec F S32x32x1024 .bf16 :=
  fun i => PV I (devSub c (i 0)) (fun | 0 => (⟨c.val * 32 + (i 1).val, row_lt c (i 1)⟩ : Fin 1024) | 1 => i 2)

/-- The running sum after the first `n` slots. -/
def accV : ℕ → FVec F S32x1024 .f32
  | 0 => shapeCast S32x1024 (extf .f32 (pM.view.readAt (Elt F) (devR c).toLoadRect (PV I c)) bitsLt_bf16_f32) shapeCasts_S32x1024_S32x1024
  | n + 1 => shapeCast S32x1024 (addf (accV n) (extf .f32
      (shapeCast S32x1024 (rM.view.readAt (Elt F) (slotR (Fin.ofNat 32 (n + 1))).toLoadRect (RV I c)) shapeCasts_S1x32x1024_S32x1024)
        bitsLt_bf16_f32)) shapeCasts_S32x1024_S32x1024

/-- The rounded sum. -/
def redV : FVec F S32x1024 .bf16 :=
  shapeCast S32x1024 (truncf .bf16 (accV I c 31) bitsLt_bf16_f32) shapeCasts_S32x1024_S32x1024

theorem dev_lt (i : Fin 1024) : i.val / 32 < 32 := by have := i.isLt; omega
theorem dev_mod (i : Fin 1024) : i.val % 32 < 32 := Nat.mod_lt _ (by decide)

/-- The result, the same on every device. -/
def OV : Vec F S1024x1024 .bf16 :=
  fun i => redV I ⟨(i 0).val / 32, dev_lt (i 0)⟩ (fun | 0 => (⟨(i 0).val % 32, dev_mod (i 0)⟩ : Fin 32) | 1 => i 1)

end Cert.KernelIdeal.Fused

end

end
-- ==== Proof.Protocol.lean ====
/-
# The exchange's protocol

Every device signals every other device's barrier semaphore, handing over with the signal the landing slot and the
rows of its result that the other will write. After the barrier a device sends the rows of its partial product to
their owners, adds up the landed slots, and sends the rounded sum of its rows to everyone.

The schedule has one round. A barrier cell has a duty of one unit per other device; every copy's send and receive cell
has one duty of the credit of a block of 32 rows. Cells of place 0 (a device's copy to itself) have none.
-/
module

public import proofs.«01_k».proof.Proof.Contents
public import Idealize.ShloMosaic.Lib.Pipeline.Launch
public import Idealize.ShloMosaic.Lib.Pipeline.Kit
public import Idealize.ShloMosaic.Lib.Transfers
public import Idealize.ShloMosaic.Lib.Tactic

@[expose] public section

noncomputable section

namespace Cert.KernelIdeal.Fused

open Cert.KernelIdeal Cert.KernelIdeal.Gen
open Idealize.ShloMosaic Idealize.ShloMosaic.TcCoe
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

abbrev UB : Type := URounds (GSem nD τ sig) (Fin 32)
abbrev UU : Type := UR sig nD τ × UB

local notation "𝕄" => MT nD τ sig Unit (Elt F) ℕ UU ℕ

abbrev EP : Emb (UR sig nD τ) (MT nD τ sig Unit (Elt F) ℕ UU ℕ) := embL
abbrev ER : Emb UB (MT nD τ sig Unit (Elt F) ℕ UU ℕ) := embR

/-! ## Arithmetic of places -/

theorem devSub_val (c d : Fin 32) : (devSub c d).val = (32 - d.val + c.val) % 32 := rfl
theorem devAdd_val (c d : Fin 32) : (devAdd c d).val = (c.val + d.val) % 32 := rfl
theorem devSub_self (c : Fin 32) : devSub c c = 0 := Fin.ext (by
  rw [devSub_val]; show _ = 0; have := c.isLt; omega)
theorem devAdd_sub (c k : Fin 32) : devSub (devAdd c k) c = k := Fin.ext (by
  rw [devSub_val, devAdd_val]; have := c.isLt; have := k.isLt; omega)
theorem devSub_add (c d : Fin 32) : devAdd c (devSub d c) = d := Fin.ext (by
  rw [devAdd_val, devSub_val]; have := c.isLt; have := d.isLt; omega)
theorem devSub_devSub (c d : Fin 32) : devSub d (devSub d c) = c := Fin.ext (by
  rw [devSub_val, devSub_val]; have := c.isLt; have := d.isLt; omega)
theorem devSub_devAdd (c k : Fin 32) : devSub (devAdd c k) k = c := Fin.ext (by
  rw [devSub_val, devAdd_val]; have := c.isLt; have := k.isLt; omega)
theorem devAdd_zero (c : Fin 32) : devAdd c 0 = c := Fin.ext (by
  rw [devAdd_val]; show (c.val + 0) % 32 = _; have := c.isLt; omega)
theorem devSub_ne {c d : Fin 32} (h : d ≠ c) : devSub d c ≠ 0 := fun e => h (by
  have := devSub_add c d; rw [e, devAdd_zero] at this; exact this.symm)
theorem devAdd_ne {c k : Fin 32} (h : k ≠ 0) : devAdd c k ≠ c := fun e => h (by
  have := devAdd_sub c k; rw [e, devSub_self] at this; exact this.symm)
theorem devAdd_inj {c k k' : Fin 32} (h : devAdd c k = devAdd c k') : k = k' := by
  rw [← devAdd_sub c k, h, devAdd_sub]

/-! ## The cells -/

/-- The runtime's barrier semaphore. -/
abbrev barS : Sem sig := (SemArray.scalar (sig.barrier 0 rfl) : Sems sig S_).sem

/-- The semaphore `k` of the array `a`: sends and receives of the first exchange, then of the second. -/
theorem semOf_lt (a : Fin 4) (k : Fin 32) : 8 + (32 * a.val + k.val) < sig.nDmaSem := by
  show 8 + (32 * a.val + k.val) < 136
  have := a.isLt; have := k.isLt; omega
def semOf (a : Fin 4) (k : Fin 32) : DmaSem sig := ⟨8 + (32 * a.val + k.val), semOf_lt a k⟩

/-- The semaphores of the exchange: the barrier's, then the arrays'. -/
abbrev Pl : Type := Option (Fin 4 × Fin 32)
def csem : Pl → SemLoc sig
  | none => .reg barS
  | some (a, k) => .dma (semOf a k)
abbrev kcell (ck : Dev nD × Pl) : GSem nD τ sig := ((ck.1 : Thread nD τ), csem ck.2)
abbrev barCell (c : Dev nD) : GSem nD τ sig := kcell (c, none)
abbrev dmaCell (c : Dev nD) (a : Fin 4) (k : Fin 32) : GSem nD τ sig := kcell (c, some (a, k))

/-- Which of them a semaphore is, if any. -/
def place : SemLoc sig → Option Pl
  | .reg s => if s = barS then some none else none
  | .dma q => if h : 8 ≤ q.val then
      some (some (⟨(q.val - 8) / 32, by have : q.val < 136 := q.isLt; omega⟩, ⟨(q.val - 8) % 32, by omega⟩)) else none

theorem place_csem (p : Pl) : place (csem p) = some p := by
  rcases p with _ | ⟨a, k⟩
  · show (if barS = barS then some none else none) = _; exact if_pos rfl
  · have hv : (semOf a k).val = 8 + (32 * a.val + k.val) := rfl
    unfold csem place
    simp only
    rw [dif_pos (by rw [hv]; omega)]
    refine congrArg (fun z => some (some z)) (Prod.ext (Fin.ext ?_) (Fin.ext ?_))
    · show ((semOf a k).val - 8) / 32 = a.val; rw [hv]; have := k.isLt; omega
    · show ((semOf a k).val - 8) % 32 = k.val; rw [hv]; have := k.isLt; omega

theorem csem_injective : Function.Injective csem := fun p q h => Option.some.inj (by rw [← place_csem p, ← place_csem q, h])
theorem kcell_injective : Function.Injective kcell := fun p q h => by
  have h1 : p.1 = q.1 := congrArg (fun g : GSem nD τ sig => g.1.1) h
  have h2 : csem p.2 = csem q.2 := congrArg (fun g : GSem nD τ sig => g.2) h
  exact Prod.ext h1 (csem_injective h2)

/-- What a copy of 32 rows adds to its semaphores. -/
abbrev N : ℕ := dM.view.dmaCredit
theorem N_pos : 0 < N := View.dmaCredit_pos _ (by decide)

/-! ## Payloads -/

abbrev at' (c : Dev nD) (b : Ref sig .tc) : Loc nD τ sig := (c : Thread nD τ).loc b

/-- The rows of device `d` in a 1024-row buffer; slot `k` of the landing buffer. -/
abbrev rowsS (d : Fin 32) : Finset S1024x1024.Idx := (devR d).set
abbrev slotS (k : Fin 32) : Finset S32x32x1024.Idx := (slotR k).set

variable (I : Inp F)

/-- What device `d` hands device `c` with its signal: the slot `c`'s rows land in and `c`'s rows of its result. -/
def barPay (c d : Dev nD) : sProp 𝕄 :=
  iprop((∃ f : Buf (Elt F) (at' d cc0_scratch4), at' d cc0_scratch4 ↦[slotS (devSub d c)]{fullShare} f)
    ∗ (∃ f : Buf (Elt F) (at' d cc0_stg7_0), at' d cc0_stg7_0 ↦[rowsS c]{fullShare} f))
/-- The rows of device `d` of the partial product of `c`. -/
def partPts (c d : Dev nD) : sProp 𝕄 := iprop(at' c cc0_scratch3 ↦[rowsS d]{fullShare} PV I c)
/-- Slot `k` of the landing buffer of `c`, landed. -/
def slotPts (c : Dev nD) (k : Fin 32) : sProp 𝕄 := iprop(at' c cc0_scratch4 ↦[slotS k]{fullShare} RV I c)
/-- One share of the rounded sum of `c`. -/
def redTok (c : Dev nD) (k : Fin 32) : sProp 𝕄 := iprop(at' c cc0_scratch6 ↦[Finset.univ]{Transfers.shareTok fullShare 32 k} redV I c)
/-- The rows of device `d` of the result on `c`. -/
def outPts (c d : Dev nD) : sProp 𝕄 := iprop(at' c cc0_stg7_0 ↦[rowsS d]{fullShare} OV I)

def dmaPay (c : Dev nD) (a : Fin 4) (k : Fin 32) : sProp 𝕄 :=
  match a with
  | 0 => partPts I c (devAdd c k)
  | 1 => slotPts I c k
  | 2 => redTok I c k
  | 3 => outPts I c (devSub c k)

instance barPay_storable (c d : Dev nD) : BI.Storable (upEmb : UEmb _ 𝕄) (barPay (F := F) c d) := by unfold barPay; infer_instance
instance dmaPay_storable (c : Dev nD) (a : Fin 4) (k : Fin 32) : BI.Storable (upEmb : UEmb _ 𝕄) (dmaPay I c a k) := by
  unfold dmaPay partPts slotPts redTok outPts; split <;> infer_instance

/-! ## The schedule -/

def fusedRd : Rounds.Schedule (GSem nD τ sig) (Fin 32) 𝕄 where
  duties g r := if r = 0 ∧ g.1.2 = .tc then
      (match place g.2 with
      | some none => Finset.univ.erase g.1.1
      | some (some (_, k)) => if k = 0 then ∅ else {0}
      | none => ∅) else ∅
  unitless _ := False
  amount g _ _ := match place g.2 with
    | some none => 1
    | _ => N
  payload g _ d := match place g.2 with
    | some none => barPay g.1.1 d
    | some (some (a, k)) => dmaPay I g.1.1 a k
    | none => iprop(emp)
  amount_pos g _ _ _ := by
    show 0 < (match place g.2 with | some none => 1 | _ => N)
    split
    · exact Nat.one_pos
    · exact N_pos

instance fusedRd_payload_storable (g : GSem nD τ sig) (r : ℕ) (d : Fin 32) :
    BI.Storable (upEmb : UEmb _ 𝕄) ((fusedRd I).payload g r d) := by
  dsimp only [fusedRd]
  split <;> infer_instance

theorem duties_bar (c : Dev nD) : (fusedRd I).duties (barCell c) 0 = Finset.univ.erase c := by
  dsimp only [fusedRd]; rw [if_pos ⟨rfl, rfl⟩, place_csem]
theorem duties_dma (c : Dev nD) (a : Fin 4) {k : Fin 32} (hk : k ≠ 0) : (fusedRd I).duties (dmaCell c a k) 0 = {0} := by
  dsimp only [fusedRd]; rw [if_pos ⟨rfl, rfl⟩, place_csem]; exact if_neg hk
theorem duties_dma0 (c : Dev nD) (a : Fin 4) : ∀ r, 0 ≤ r → (fusedRd I).duties (dmaCell c a 0) r = ∅ := by
  intro r _
  dsimp only [fusedRd]; rw [place_csem]; split
  · exact if_pos rfl
  · rfl
theorem duties_later (g : GSem nD τ sig) : ∀ r, 0 + 1 ≤ r → (fusedRd I).duties g r = ∅ :=
  fun r hr => by dsimp only [fusedRd]; rw [if_neg fun h => by omega]

theorem amount_bar (c : Dev nD) (d : Fin 32) : (fusedRd I).amount (barCell c) 0 d = 1 := by
  dsimp only [fusedRd]; rw [place_csem]
theorem amount_dma (c : Dev nD) (a : Fin 4) (k d : Fin 32) : (fusedRd I).amount (dmaCell c a k) 0 d = N := by
  dsimp only [fusedRd]; rw [place_csem]

theorem expect_bar (c : Dev nD) : (fusedRd I).expect (barCell c) 0 = 31 := by
  unfold Schedule.expect Schedule.amountOf
  rw [duties_bar, Finset.sum_congr rfl fun d _ => amount_bar I c d, Finset.sum_const, Finset.card_erase_of_mem (Finset.mem_univ _),
    Finset.card_univ, Fintype.card_fin]
  rfl
theorem expect_dma (c : Dev nD) (a : Fin 4) {k : Fin 32} (hk : k ≠ 0) : (fusedRd I).expect (dmaCell c a k) 0 = N := by
  unfold Schedule.expect Schedule.amountOf; rw [duties_dma I c a hk, Finset.sum_singleton, amount_dma]

theorem payload_bar (c : Dev nD) (d : Fin 32) : (fusedRd I).payload (barCell c) 0 d = barPay c d := by
  dsimp only [fusedRd]; rw [place_csem]
theorem payload_dma (c : Dev nD) (a : Fin 4) (k d : Fin 32) : (fusedRd I).payload (dmaCell c a k) 0 d = dmaPay I c a k := by
  dsimp only [fusedRd]; rw [place_csem]

theorem rest_bar (c : Dev nD) : bigSep ((fusedRd I).duties (barCell c) 0 \ ∅) (fun d => (fusedRd I).payload (barCell c) 0 d)
    = bigSep (Finset.univ.erase c) (fun d => barPay (F := F) c d) := by
  rw [Finset.sdiff_empty, duties_bar]; exact bigSep_congr fun d _ => payload_bar I c d
theorem rest_dma (c : Dev nD) (a : Fin 4) {k : Fin 32} (hk : k ≠ 0) :
    bigSep ((fusedRd I).duties (dmaCell c a k) 0 \ ∅) (fun d => (fusedRd I).payload (dmaCell c a k) 0 d) = dmaPay I c a k := by
  rw [Finset.sdiff_empty, duties_dma I c a hk, bigSep_singleton, payload_dma]

/-! ## Sets that count up -/

/-- The places from `n` on, and those of `1, …, n - 1`. -/
def rem (n : ℕ) : Finset (Fin 32) := Finset.univ.filter fun k => n ≤ k.val
def done (n : ℕ) : Finset (Fin 32) := Finset.univ.filter fun k => 1 ≤ k.val ∧ k.val < n
/-- The devices from `n` on, and those below `n`, without `c`. -/
def remD (c : Fin 32) (n : ℕ) : Finset (Fin 32) := Finset.univ.filter fun k => n ≤ k.val ∧ k ≠ c
def doneD (c : Fin 32) (n : ℕ) : Finset (Fin 32) := Finset.univ.filter fun k => k.val < n ∧ k ≠ c

theorem rem_succ (n : ℕ) (h : n < 32) : rem n = insert ⟨n, h⟩ (rem (n + 1)) := by
  ext k; simp only [rem, Finset.mem_filter, Finset.mem_univ, true_and, Finset.mem_insert, Fin.ext_iff]; omega
theorem rem_not (n : ℕ) (h : n < 32) : (⟨n, h⟩ : Fin 32) ∉ rem (n + 1) := by
  simp [rem]
theorem rem_end : rem 32 = ∅ := by decide
theorem done_succ (n : ℕ) (h : n < 32) (h1 : 1 ≤ n) : done (n + 1) = insert ⟨n, h⟩ (done n) := by
  ext k; simp only [done, Finset.mem_filter, Finset.mem_univ, true_and, Finset.mem_insert, Fin.ext_iff]; omega
theorem done_not (n : ℕ) (h : n < 32) : (⟨n, h⟩ : Fin 32) ∉ done n := by
  simp [done]
theorem done_one : done 1 = ∅ := by decide
theorem done_end : done 32 = rem 1 := by decide
theorem remD_succ (c : Fin 32) (n : ℕ) (h : n < 32) (hc : (⟨n, h⟩ : Fin 32) ≠ c) : remD c n = insert ⟨n, h⟩ (remD c (n + 1)) := by
  ext k; simp only [remD, Finset.mem_filter, Finset.mem_univ, true_and, Finset.mem_insert]
  constructor
  · rintro ⟨h1, h2⟩
    by_cases e : k = ⟨n, h⟩
    · exact .inl e
    · exact .inr ⟨Nat.lt_of_le_of_ne h1 fun e' => e (Fin.ext e'.symm), h2⟩
  · rintro (e | ⟨h1, h2⟩)
    · rw [e]; exact ⟨le_refl _, hc⟩
    · exact ⟨Nat.le_of_succ_le h1, h2⟩
theorem remD_same (c : Fin 32) (n : ℕ) (h : n < 32) (hc : (⟨n, h⟩ : Fin 32) = c) : remD c n = remD c (n + 1) := by
  ext k; simp only [remD, Finset.mem_filter, Finset.mem_univ, true_and]
  constructor
  · rintro ⟨h1, h2⟩
    exact ⟨Nat.lt_of_le_of_ne h1 fun e' => h2 (by rw [← hc]; exact Fin.ext e'.symm), h2⟩
  · rintro ⟨h1, h2⟩; exact ⟨Nat.le_of_succ_le h1, h2⟩
theorem remD_not (c : Fin 32) (n : ℕ) (h : n < 32) : (⟨n, h⟩ : Fin 32) ∉ remD c (n + 1) := by simp [remD]
theorem remD_end (c : Fin 32) : remD c 32 = ∅ := by revert c; decide
theorem remD_zero (c : Fin 32) : remD c 0 = Finset.univ.erase c := by revert c; decide
theorem doneD_succ (c : Fin 32) (n : ℕ) (h : n < 32) (hc : (⟨n, h⟩ : Fin 32) ≠ c) : doneD c (n + 1) = insert ⟨n, h⟩ (doneD c n) := by
  ext k; simp only [doneD, Finset.mem_filter, Finset.mem_univ, true_and, Finset.mem_insert]
  constructor
  · rintro ⟨h1, h2⟩
    by_cases e : k = ⟨n, h⟩
    · exact .inl e
    · exact .inr ⟨Nat.lt_of_le_of_ne (Nat.le_of_lt_succ h1) fun e' => e (Fin.ext e'), h2⟩
  · rintro (e | ⟨h1, h2⟩)
    · rw [e]; exact ⟨Nat.lt_succ_self _, hc⟩
    · exact ⟨Nat.lt_succ_of_lt h1, h2⟩
theorem doneD_same (c : Fin 32) (n : ℕ) (h : n < 32) (hc : (⟨n, h⟩ : Fin 32) = c) : doneD c (n + 1) = doneD c n := by
  ext k; simp only [doneD, Finset.mem_filter, Finset.mem_univ, true_and]
  constructor
  · rintro ⟨h1, h2⟩
    exact ⟨Nat.lt_of_le_of_ne (Nat.le_of_lt_succ h1) fun e' => h2 (by rw [← hc]; exact Fin.ext e'), h2⟩
  · rintro ⟨h1, h2⟩; exact ⟨Nat.lt_succ_of_lt h1, h2⟩
theorem doneD_not (c : Fin 32) (n : ℕ) (h : n < 32) : (⟨n, h⟩ : Fin 32) ∉ doneD c n := by simp [doneD]
theorem doneD_zero (c : Fin 32) : doneD c 0 = ∅ := by revert c; decide
theorem doneD_end (c : Fin 32) : doneD c 32 = Finset.univ.erase c := by revert c; decide
theorem univ_rem : (Finset.univ : Finset (Fin 32)) = insert 0 (rem 1) := by decide
theorem zero_not_rem : (0 : Fin 32) ∉ rem 1 := by decide
theorem ne_zero_of_rem {k : Fin 32} (h : k ∈ rem 1) : k ≠ 0 := fun e => zero_not_rem (e ▸ h)

/-! ## What each device owes -/

def Obar (c : Dev nD) (n : ℕ) : CellTallies nD τ sig Unit := ∑ k ∈ rem n, tallyAt (barCell (devAdd c k)) () 1
def Ors (c : Dev nD) (n : ℕ) : CellTallies nD τ sig Unit := ∑ d ∈ remD c n, tallyAt (dmaCell d 1 (devSub d c)) () N
def Oag (c : Dev nD) (n : ℕ) : CellTallies nD τ sig Unit := ∑ k ∈ rem n, tallyAt (dmaCell (devAdd c k) 3 k) () N
/-- What device `c` owes when the kernel starts. -/
def O₀ (c : Dev nD) : CellTallies nD τ sig Unit := Obar c 1 + (Ors c 0 + Oag c 1)

theorem Obar_succ (c : Dev nD) (n : ℕ) (h : n < 32) : Obar c n = Obar c (n + 1) + tallyAt (barCell (devAdd c ⟨n, h⟩)) () 1 := by
  unfold Obar; rw [rem_succ n h, Finset.sum_insert (rem_not n h), add_comm]
theorem Obar_end (c : Dev nD) : Obar c 32 = 0 := by unfold Obar; rw [rem_end, Finset.sum_empty]
theorem Oag_succ (c : Dev nD) (n : ℕ) (h : n < 32) : Oag c n = Oag c (n + 1) + tallyAt (dmaCell (devAdd c ⟨n, h⟩) 3 ⟨n, h⟩) () N := by
  unfold Oag; rw [rem_succ n h, Finset.sum_insert (rem_not n h), add_comm]
theorem Oag_end (c : Dev nD) : Oag c 32 = 0 := by unfold Oag; rw [rem_end, Finset.sum_empty]
theorem Ors_succ (c : Dev nD) (n : ℕ) (h : n < 32) (hc : (⟨n, h⟩ : Fin 32) ≠ c) :
    Ors c n = Ors c (n + 1) + tallyAt (dmaCell ⟨n, h⟩ 1 (devSub ⟨n, h⟩ c)) () N := by
  unfold Ors; rw [remD_succ c n h hc, Finset.sum_insert (remD_not c n h), add_comm]
theorem Ors_same (c : Dev nD) (n : ℕ) (h : n < 32) (hc : (⟨n, h⟩ : Fin 32) = c) : Ors c n = Ors c (n + 1) := by
  unfold Ors; rw [remD_same c n h hc]
theorem Ors_end (c : Dev nD) : Ors c 32 = 0 := by unfold Ors; rw [remD_end, Finset.sum_empty]

/-! ## Levels -/

def L (g : GSem nD τ sig) : Finset Unit := if g.1.2 = .tc then {()} else ∅
/-- The barrier's cells lie at 1, the receive cells of the two exchanges at 2 and 3, all others at 0. -/
def lv (g : GSem nD τ sig) (_ : Unit) : ℕ := match place g.2 with
  | some none => 1
  | some (some (a, _)) => if a = 1 then 2 else if a = 3 then 3 else 0
  | none => 0

theorem L_of_ne (g : GSem nD τ sig) (h : g.1.2 ≠ .tc) : L g = ∅ := if_neg h
theorem L_tc (c : Dev nD) (sm : SemLoc sig) : L ((c : Thread nD τ), sm) = {()} := if_pos rfl
theorem lv_bar (c : Dev nD) : lv (barCell c) () = 1 := by unfold lv; rw [place_csem]
theorem lv_dma (c : Dev nD) (a : Fin 4) (k : Fin 32) : lv (dmaCell c a k) () = if a = 1 then 2 else if a = 3 then 3 else 0 := by
  unfold lv; rw [place_csem]

theorem sum_pos {ι : Type} (s : Finset ι) (cell : ι → GSem nD τ sig) (n : ℕ) {g : GSem nD τ sig} {u : Unit}
    (h : 0 < (∑ k ∈ s, tallyAt (cell k) () n : CellTallies nD τ sig Unit) g u) : ∃ k ∈ s, g = cell k := by
  classical
  induction s using Finset.induction with
  | empty => exact absurd h (Nat.lt_irrefl 0)
  | insert a s ha ih =>
    rw [Finset.sum_insert ha, Pi.add_apply, Finsupp.add_apply, tallyAt_apply] at h
    by_cases e : g = cell a ∧ u = ()
    · exact ⟨a, Finset.mem_insert_self _ _, e.1⟩
    · rw [if_neg e, Nat.zero_add] at h
      obtain ⟨k, hk, e⟩ := ih h
      exact ⟨k, Finset.mem_insert_of_mem hk, e⟩

theorem Obar_pos {c : Dev nD} {n : ℕ} {g : GSem nD τ sig} {u : Unit} (h : 0 < Obar c n g u) : ∃ d, g = barCell d :=
  let ⟨k, _, e⟩ := sum_pos _ (fun k => barCell (devAdd c k)) 1 h; ⟨_, e⟩
theorem Ors_pos {c : Dev nD} {n : ℕ} {g : GSem nD τ sig} {u : Unit} (h : 0 < Ors c n g u) : ∃ d k, g = dmaCell d 1 k :=
  let ⟨k, _, e⟩ := sum_pos _ (fun d => dmaCell d 1 (devSub d c)) N h; ⟨_, _, e⟩
theorem Oag_pos {c : Dev nD} {n : ℕ} {g : GSem nD τ sig} {u : Unit} (h : 0 < Oag c n g u) : ∃ d k, g = dmaCell d 3 k :=
  let ⟨k, _, e⟩ := sum_pos _ (fun k => dmaCell (devAdd c k) 3 k) N h; ⟨_, _, e⟩

/-- A wait at a cell of level `l` is allowed while every cell owed to lies higher. -/
theorem mayWait_of (c : Dev nD) (sm : SemLoc sig) (l : ℕ) (hl : lv ((c : Thread nD τ), sm) () = l) (O : CellTallies nD τ sig Unit)
    (hO : ∀ g u, 0 < O g u → g.1.2 = .tc ∧ l < lv g ()) :
    (levAts L lv : sProp 𝕄) ⊢ MayWait (c : Thread nD τ) sm () O :=
  MayOwe.of_cut (L := L) (lev := lv) l (fun p hp => by rw [Finset.mem_singleton.mp hp, L_tc]; exact Finset.mem_singleton_self _)
    (fun g u hg => by unfold L; rw [if_pos (hO g u hg).1]; exact Finset.mem_singleton_self _)
    (fun p hp => by rw [Finset.mem_singleton.mp hp]; exact le_of_eq hl)
    (fun g u hg => (hO g u hg).2)

theorem O₀_cases {c : Dev nD} {g : GSem nD τ sig} {u : Unit} (h : 0 < O₀ c g u) :
    0 < Obar c 1 g u ∨ 0 < Ors c 0 g u ∨ 0 < Oag c 1 g u := by
  unfold O₀ at h
  rw [Pi.add_apply, Finsupp.add_apply, Pi.add_apply, Finsupp.add_apply] at h
  omega
theorem rsag_cases {c : Dev nD} {n n' : ℕ} {g : GSem nD τ sig} {u : Unit} (h : 0 < (Ors c n + Oag c n') g u) :
    0 < Ors c n g u ∨ 0 < Oag c n' g u := by
  rw [Pi.add_apply, Finsupp.add_apply] at h
  omega

theorem mayWait_stage (c : Dev nD) (q : DmaSem sig) (hq : q.val < 8) (O : CellTallies nD τ sig Unit) (hO : O = O₀ c ∨ O = 0) :
    (levAts L lv : sProp 𝕄) ⊢ MayWait (c : Thread nD τ) (.dma q) () O := by
  refine mayWait_of c (.dma q) 0 ?_ O ?_
  · have h : place (.dma q) = none := by unfold place; exact dif_neg (by omega)
    unfold lv; rw [h]
  · intro g u hg
    rcases hO with rfl | rfl
    · rcases O₀_cases hg with h | h | h
      · obtain ⟨d, rfl⟩ := Obar_pos h; exact ⟨rfl, by rw [lv_bar]; decide⟩
      · obtain ⟨d, k, rfl⟩ := Ors_pos h; exact ⟨rfl, by rw [lv_dma]; decide⟩
      · obtain ⟨d, k, rfl⟩ := Oag_pos h; exact ⟨rfl, by rw [lv_dma]; decide⟩
    · exact absurd hg (Nat.lt_irrefl 0)

theorem mayWait_bar (c : Dev nD) :
    (levAts L lv : sProp 𝕄) ⊢ MayWait (c : Thread nD τ) (csem none) () (Ors c 0 + Oag c 1) := by
  refine mayWait_of c _ 1 (lv_bar c) _ fun g u hg => ?_
  rcases rsag_cases hg with h | h
  · obtain ⟨d, k, rfl⟩ := Ors_pos h; exact ⟨rfl, by rw [lv_dma]; decide⟩
  · obtain ⟨d, k, rfl⟩ := Oag_pos h; exact ⟨rfl, by rw [lv_dma]; decide⟩

theorem mayWait_rs (c : Dev nD) (k : Fin 32) :
    (levAts L lv : sProp 𝕄) ⊢ MayWait (c : Thread nD τ) (csem (some (1, k))) () (Oag c 1) := by
  refine mayWait_of c _ 2 (lv_dma c 1 k) _ fun g u hg => ?_
  obtain ⟨d, k, rfl⟩ := Oag_pos hg; exact ⟨rfl, by rw [lv_dma]; decide⟩

theorem mayWait_zero (c : Dev nD) (sm : SemLoc sig) : (levAts L lv : sProp 𝕄) ⊢ MayWait (c : Thread nD τ) sm () 0 := by
  rw [MayWait_zero]; iintro -; iempintro

/-! ## The records -/

/-- Every cell's invariant, and that every cell is at round 0. -/
def records (K : Dev nD × Pl → ℕ) : sProp 𝕄 :=
  iprop((bigSep Finset.univ fun ck => cellInv ER (fusedRd I) (K ck) (kcell ck)) ∗ (bigSep Finset.univ fun ck => reached ER (kcell ck) 0) ∗ levAts L lv)

instance records_persistent (K : Dev nD × Pl → ℕ) : BI.Persistent (records I K) := by unfold records; infer_instance

theorem records_inv (K : Dev nD × Pl → ℕ) (ck : Dev nD × Pl) : records I K ⊢ cellInv ER (fusedRd I) (K ck) (kcell ck) := by
  have h : (bigSep Finset.univ fun ck => cellInv ER (fusedRd I) (K ck) (kcell ck)) ⊢ (cellInv ER (fusedRd I) (K ck) (kcell ck) : sProp 𝕄) :=
    bigSep_elim (Finset.mem_univ ck)
  unfold records; iintro ⟨H, -, -⟩
  iapply h; iexact H
theorem records_reached (K : Dev nD × Pl → ℕ) (ck : Dev nD × Pl) : records I K ⊢ reached ER (kcell ck) 0 := by
  have h : (bigSep Finset.univ fun ck => reached ER (kcell ck) 0) ⊢ (reached ER (kcell ck) 0 : sProp 𝕄) :=
    bigSep_elim (Finset.mem_univ ck)
  unfold records; iintro ⟨-, H, -⟩
  iapply h; iexact H
theorem records_lev (K : Dev nD × Pl → ℕ) : records I K ⊢ levAts L lv := by
  unfold records; iintro ⟨-, -, H⟩; iexact H

/-- A wait is allowed by the levels on record. -/
theorem records_mayWait (K : Dev nD × Pl → ℕ) (c : Dev nD) (sm : SemLoc sig) (O : CellTallies nD τ sig Unit)
    (h : (levAts L lv : sProp 𝕄) ⊢ MayWait (c : Thread nD τ) sm () O) : records I K ⊢ MayWait (c : Thread nD τ) sm () O := by
  refine BIBase.Entails.trans ?_ h
  unfold records; iintro ⟨-, -, H⟩; iexact H

end Cert.KernelIdeal.Fused

end

end
-- ==== Proof.Steps.lean ====
/-
# Steps of the body

One lemma for each kind of operation of the body, in the form the phases use them: from the state before it, to the
state after it, and on with the rest of the program.
-/
module

public import proofs.«01_k».proof.Proof.Protocol

@[expose] public section

noncomputable section

namespace Cert.KernelIdeal.Fused

open Cert.KernelIdeal Cert.KernelIdeal.Gen
open Idealize.ShloMosaic Idealize.ShloMosaic.TcCoe
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ UU ℕ

abbrev 𝒱₀ : Variants := Variants.none

/-- A program of the body and its weakest precondition on device `c`. -/
abbrev P (F : FTy → Type) (α : Type) : Type 1 := Prog (TpuEff nD τ sig (Elt F) Λ₀ .tc) α
def WP (c : Dev nD) {α : Type} (p : P F α) (Q : α → sProp 𝕄) : sProp 𝕄 :=
  wp frame (wpE (defs₀ (F := F)) 𝒱₀ (c : Thread nD τ) none) Set.univ p Q

theorem lift_bind {α β : Type} (e : TpuEff nD τ sig (Elt F) Λ₀ .tc β) (k : β → P F α) : Prog.lift e >>= k = .op e k := rfl
theorem op_bind {α β γ : Type} (e : TpuEff nD τ sig (Elt F) Λ₀ .tc γ) (p : γ → P F β) (k : β → P F α) :
    Prog.op e p >>= k = .op e fun x => p x >>= k := rfl
theorem ret_bind {α β : Type} (b : β) (k : β → P F α) : (Prog.ret b : P F β) >>= k = k b := rfl

/-- A family over a set with one element singled out. -/
theorem bigSep_ins {ι : Type} [DecidableEq ι] {a : ι} {s : Finset ι} (h : a ∉ s) (Φ : ι → sProp (MT nD τ sig Unit (Elt F) ℕ UU ℕ)) :
    bigSep (insert a s) Φ = iprop(Φ a ∗ bigSep s Φ) := bigSep_insert h

/-- A store through a rectangle of a whole buffer, at an element inside and at one outside. -/
theorem access_write_in (b : Ref sig .tc) (r : Rect b.ty.shape) (f : b.ty.Contents (Elt F)) (w : r.shape.Idx → Elt F b.ty.elt) (j : r.shape.Idx) :
    ((Memref.whole b).access r : View sig .tc _ _ _).write (Elt F) f w Finset.univ (r.emb j) = w j :=
  View.write_emb_of_mem (v := ((Memref.whole b).access r : View sig .tc _ _ _)) (Val := Elt F) f w (Finset.mem_univ j)
theorem access_write_out (b : Ref sig .tc) (r : Rect b.ty.shape) (f : b.ty.Contents (Elt F)) (w : r.shape.Idx → Elt F b.ty.elt)
    {i : b.ty.shape.Idx} (h : i ∉ r.set) : ((Memref.whole b).access r : View sig .tc _ _ _).write (Elt F) f w Finset.univ i = f i :=
  View.write_of_not_mem (v := ((Memref.whole b).access r : View sig .tc _ _ _)) (Val := Elt F) f w Finset.univ (by
    rw [View.setOn_univ]
    have e : ((Memref.whole b).access r : View sig .tc _ _ _).set = r.set := View.set_slice_whole b r
    intro hi; exact h (by rw [← e]; exact hi))

theorem exists_emb {s : Shape} {r : Rect s} {i : s.Idx} (h : i ∈ r.set) : ∃ j, r.emb j = i := by
  rw [← Rect.map_emb_univ] at h
  obtain ⟨j, -, e⟩ := Finset.mem_map.mp h
  exact ⟨j, e⟩

/-! ## One component of a state -/

section Access

variable {X Y Z : sProp (MT nD τ sig Unit (Elt F) ℕ UU ℕ)}

/-- The first component, and the way back. -/
theorem acc_hd : iprop(X ∗ Y) ⊢ iprop(X ∗ (X -∗ (X ∗ Y))) := by
  iintro ⟨H, H'⟩; isplitl [H]; · iexact H
  iintro H; isplitl [H] <;> iassumption
theorem acc_all : X ⊢ iprop(X ∗ (X -∗ X)) := by
  iintro H; isplitl [H]; · iexact H
  iintro H; iexact H
/-- A component of the first component, or of the rest. -/
theorem acc_fst (h : X ⊢ iprop(Z ∗ (Z -∗ X))) : iprop(X ∗ Y) ⊢ iprop(Z ∗ (Z -∗ (X ∗ Y))) := by
  iintro ⟨H, H'⟩
  ihave H := h $$ H
  icases H with ⟨H, Hb⟩
  isplitl [H]; · iexact H
  iintro H; isplitr [H']
  · iapply Hb; iexact H
  · iexact H'
theorem acc_snd (h : Y ⊢ iprop(Z ∗ (Z -∗ Y))) : iprop(X ∗ Y) ⊢ iprop(Z ∗ (Z -∗ (X ∗ Y))) := by
  iintro ⟨H', H⟩
  ihave H := h $$ H
  icases H with ⟨H, Hb⟩
  isplitl [H]; · iexact H
  iintro H; isplitl [H']
  · iexact H'
  · iapply Hb; iexact H

end Access

section Steps

variable {c : Dev nD} {α β : Type} {Q : α → sProp (MT nD τ sig Unit (Elt F) ℕ UU ℕ)} {St : sProp (MT nD τ sig Unit (Elt F) ℕ UU ℕ)}

theorem step_ret {a : α} (h : St ⊢ Q a) : St ⊢ WP c (.ret a) Q := by
  unfold WP; rw [wp_ret]; iintro H; imodintro; iapply h; iexact H
theorem step_pure {a : α} (h : St ⊢ Q a) : St ⊢ WP c (pure a) Q := step_ret h
/-- A part of the program: its own steps, then the rest's. -/
theorem step_bind {p : P F β} {k : β → P F α} (h : St ⊢ WP c p fun b => WP c (k b) Q) : St ⊢ WP c (p >>= k) Q := by
  unfold WP at *; rw [wp_bind]; exact h
theorem step_bind' {p : P F β} {k : β → P F α} (h : St ⊢ WP c p fun b => WP c (k b) Q) : St ⊢ WP c (Prog.bind p k) Q :=
  step_bind h
theorem step_device {k : Dev nD → P F α} (h : St ⊢ WP c (k c) Q) : St ⊢ WP c (Prog.lift .deviceId >>= k) Q := by
  rw [lift_bind]
  unfold WP at *; rw [wp_deviceId]; exact h

theorem step_load {s : Shape} {e : EltTy} {cs : CoreSpace} {m : Memref sig .tc cs s e} {r : LoadRect s} {hl : m.view.LoadsAt r}
    {k : (r.shape.Idx → Elt F e) → P F α} {S : Finset (Idx (m.view.loc (c : Thread nD τ)))} {q : PosShare TreeShare}
    {f : Buf (Elt F) (m.view.loc (c : Thread nD τ))}
    (hacc : St ⊢ iprop((m.view.loc (c : Thread nD τ) ↦[S]{q} f) ∗ ((m.view.loc (c : Thread nD τ) ↦[S]{q} f) -∗ St)))
    (hS : m.view.setOn r.set ⊆ S) (h : St ⊢ WP c (k (m.view.readAt (Elt F) r f)) Q) :
    St ⊢ WP c (Prog.lift (.load m r hl) >>= k) Q := by
  rw [lift_bind]
  unfold WP at *
  iintro H
  ihave H := hacc $$ H
  icases H with ⟨H, Hb⟩
  iapply (wp_load 𝒱₀ (c : Thread nD τ) none Set.univ hS) $$ H
  iintro H
  ihave H := Hb $$ H
  iapply h; iexact H

/-- A load of contents not fully known. -/
theorem step_load_any {s : Shape} {e : EltTy} {cs : CoreSpace} {m : Memref sig .tc cs s e} {r : LoadRect s} {hl : m.view.LoadsAt r}
    {k : (r.shape.Idx → Elt F e) → P F α} {S : Finset (Idx (m.view.loc (c : Thread nD τ)))} {q : PosShare TreeShare}
    (hacc : St ⊢ iprop(∃ f : Buf (Elt F) (m.view.loc (c : Thread nD τ)),
      (m.view.loc (c : Thread nD τ) ↦[S]{q} f) ∗ ((m.view.loc (c : Thread nD τ) ↦[S]{q} f) -∗ St)))
    (hS : m.view.setOn r.set ⊆ S) (h : ∀ v, St ⊢ WP c (k v) Q) :
    St ⊢ WP c (Prog.lift (.load m r hl) >>= k) Q := by
  rw [lift_bind]
  unfold WP at *
  iintro H
  ihave H := hacc $$ H
  icases H with ⟨%f, H, Hb⟩
  iapply (wp_load 𝒱₀ (c : Thread nD τ) none Set.univ hS) $$ H
  iintro H
  ihave H := Hb $$ H
  iapply (h _); iexact H

theorem step_store {s : Shape} {e : EltTy} {cs : CoreSpace} {m : Memref sig .tc cs s e} {r : Rect s} {w : r.shape.Idx → Elt F e}
    {Mk : Finset r.shape.Idx} {hx : (m.access r).Stores Mk} {hm : Mk = Finset.univ ∨ ∀ a, r.stride a = 1}
    {k : PUnit → P F α} {S : Finset (Idx ((m.access r).loc (c : Thread nD τ)))} {St' : sProp 𝕄}
    (hacc : St ⊢ iprop(∃ f, ((m.access r).loc (c : Thread nD τ) ↦[S]{fullShare} f)
      ∗ (((m.access r).loc (c : Thread nD τ) ↦[S]{fullShare} ((m.access r).write (Elt F) f w Mk)) -∗ St')))
    (hS : (m.access r).setOn Mk ⊆ S) (h : St' ⊢ WP c (k ⟨⟩) Q) :
    St ⊢ WP c (Prog.lift (.store m r w Mk hx hm) >>= k) Q := by
  rw [lift_bind]
  unfold WP at *
  iintro H
  ihave H := hacc $$ H
  icases H with ⟨%f, H, Hb⟩
  iapply (wp_store 𝒱₀ (c : Thread nD τ) none Set.univ hS) $$ H
  iintro H
  ihave H := Hb $$ H
  iapply h; iexact H

end Steps

end Cert.KernelIdeal.Fused

end

end
-- ==== Proof.Signals.lean ====
/-
# The barrier

The signals of a device to every other device, each with what the other will write here, and the wait for all the
others' signals.
-/
module

public import proofs.«01_k».proof.Proof.Steps

@[expose] public section

noncomputable section

namespace Cert.KernelIdeal.Fused

open Cert.KernelIdeal Cert.KernelIdeal.Gen
open Idealize.ShloMosaic Idealize.ShloMosaic.TcCoe
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ UU ℕ

section

variable (I : Inp F) (K : Dev nD × Pl → ℕ) (c : Dev nD)

/-- Before the signal to the device `j` places after `c`; `R` is what the barrier leaves alone. -/
def SigSt (j : ℕ) (R : sProp (MT nD τ sig Unit (Elt F) ℕ UU ℕ)) : sProp (MT nD τ sig Unit (Elt F) ℕ UU ℕ) :=
  iprop(records I K ∗ (∃ W, owes (c : Thread nD τ) (Obar c j + (Ors c 0 + Oag c 1)) W)
    ∗ (bigSep (rem j) fun k => dutyTok ER (barCell (devAdd c k)) 0 c)
    ∗ (bigSep (rem j) fun k => barPay (F := F) (devAdd c k) c) ∗ R)

theorem payload_sig (d : Dev nD) : (fusedRd I).payload ((c : Thread nD τ), SemLoc.reg barS) 0 d = barPay c d := payload_bar I c d
theorem expect_sig : (fusedRd I).expect ((c : Thread nD τ), SemLoc.reg barS) 0 = 31 := expect_bar I c

theorem rest_sig : bigSep ((fusedRd I).duties ((c : Thread nD τ), SemLoc.reg barS) 0 \ ∅)
    (fun d => (fusedRd I).payload ((c : Thread nD τ), SemLoc.reg barS) 0 d) = bigSep (Finset.univ.erase c) (fun d => barPay (F := F) c d) :=
  rest_bar I c

variable {I K c}
variable {α : Type} {Q : α → sProp (MT nD τ sig Unit (Elt F) ℕ UU ℕ)} {R : sProp (MT nD τ sig Unit (Elt F) ℕ UU ℕ)}

theorem step_signal (j : ℕ) (hj : j < 32) (hj1 : 1 ≤ j) {n : ℕ} {hn : n < nD} (hd : n = (c.val + j) % 32) {k : PUnit → P F α}
    (h : SigSt I K c (j + 1) R ⊢ WP c (k ⟨⟩) Q) :
    SigSt I K c j R ⊢ WP c (semSignalWord (⟨n, hn⟩ : Dev nD) barS 1#32 >>= k) Q := by
  have hd' : (⟨n, hn⟩ : Dev nD) = devAdd c ⟨j, hj⟩ := Fin.ext hd
  rw [hd']
  unfold semSignalWord; rw [op_bind]; simp only [ret_bind]
  have hne : c ≠ devAdd c ⟨j, hj⟩ := fun e => devAdd_ne (c := c) (k := ⟨j, hj⟩) (fun e' => by
    have := congrArg Fin.val e'; simp at this; omega) e.symm
  unfold WP at *
  unfold SigSt
  rw [Obar_succ c j hj, rem_succ j hj, bigSep_ins (rem_not j hj), bigSep_ins (rem_not j hj)]
  iintro ⟨#Hrec, ⟨%W, HO⟩, ⟨Ht, Hts⟩, ⟨Hp, Hps⟩, HR⟩
  ihave #HI := (records_inv I K (devAdd c ⟨j, hj⟩, none)) $$ Hrec
  ihave #Hr := (records_reached I K (devAdd c ⟨j, hj⟩, none)) $$ Hrec
  iapply (Rounds.wp_signal 𝒱₀ ER (fusedRd I) (c : Thread nD τ) none (dst := ((devAdd c ⟨j, hj⟩ : Dev nD) : Thread nD τ))
      (κ := K (devAdd c ⟨j, hj⟩, none)) (d := c) (by show c ∈ (fusedRd I).duties (barCell (devAdd c ⟨j, hj⟩)) 0; rw [duties_bar]; exact Finset.mem_erase.mpr ⟨hne, Finset.mem_univ _⟩)
      ((amount_bar I (devAdd c ⟨j, hj⟩) c).trans (by decide)) () (Obar c (j + 1) + (Ors c 0 + Oag c 1)) (add_right_comm _ _ _)) $$ [HO Ht Hp]
  · isplitr; · iexact HI
    isplitl [HO]; · iexact HO
    isplitl [Ht]; · iexact Ht
    isplitl [Hp]; · rw [payload_sig]; iexact Hp
    iexact Hr
  iintro HO
  iapply h
  unfold SigSt
  isplitr; · iexact Hrec
  isplitl [HO]; · iexists W; iexact HO
  isplitl [Hts]; · iexact Hts
  isplitl [Hps]; · iexact Hps
  iexact HR

/-- After the wait: every other device has handed over what `c` writes there, and the barrier's semaphore is closed. -/
def BarSt (I : Inp F) (K : Dev nD × Pl → ℕ) (c : Dev nD) (R : sProp (MT nD τ sig Unit (Elt F) ℕ UU ℕ)) :
    sProp (MT nD τ sig Unit (Elt F) ℕ UU ℕ) :=
  iprop(records I K ∗ (∃ W, owes (c : Thread nD τ) (Ors c 0 + Oag c 1) W) ∗ semVal (barCell c) 0
    ∗ (bigSep (Finset.univ.erase c) fun d => barPay (F := F) c d) ∗ R)

theorem step_barrier {k : PUnit → P F α} (h : BarSt I K c R ⊢ WP c (k ⟨⟩) Q) :
    SigSt I K c 32 iprop(cred (tallyAt (barCell c) () 31) ∗ atPos ER (barCell c) 0 ∅ 0 ∗ R) ⊢ WP c (semWaitWord barS 31#32 >>= k) Q := by
  unfold semWaitWord; rw [op_bind]; simp only [ret_bind]
  unfold WP at *
  unfold SigSt
  rw [Obar_end, rem_end, bigSep_empty, bigSep_empty, zero_add]
  iintro ⟨#Hrec, ⟨%W, HO⟩, -, -, Hc, Hat, HR⟩
  ihave #HI := (records_inv I K (c, none)) $$ Hrec
  iapply (Rounds.wp_wait_rest_token 𝒱₀ ER (fusedRd I) (c : Thread nD τ) none (κ := K (c, none))
      (wpE_semWait_eq 𝒱₀ (c : Thread nD τ) none Set.univ) (Set.mem_univ _) () (O := Ors c 0 + Oag c 1) (W := W) (R := 0) (m := 0) (T := ∅)
      (by rw [expect_sig]; decide)) $$ [Hc HO Hat]
  · isplitr; · iexact HI
    isplitl [Hc]; · iexact Hc
    isplitl [HO]; · iexact HO
    isplitr; · iapply (records_mayWait I K c (.reg barS) _ (mayWait_bar c)); iexact Hrec
    iexact Hat
  iintro ⟨HO, Hat, -, Hpay⟩
  ihave Hp := (Entails.of_eq (rest_sig I c)) $$ Hpay
  iapply (fupd_wp (M := MT nD τ sig Unit (Elt F) ℕ UU ℕ))
  imod (Rounds.cell_close ER (fusedRd I) (Set.mem_univ (K (c, none))) (fun h => h) (R := 0 + 1) (duties_later I (barCell c))) $$ [Hat] with Hz
  · isplitr; · iexact HI
    iexact Hat
  imodintro
  iapply h
  unfold BarSt
  isplitr; · iexact Hrec
  isplitl [HO]; · iexists _; iexact HO
  isplitl [Hz]; · iexact Hz
  isplitl [Hp]; · iexact Hp
  iexact HR

end

end Cert.KernelIdeal.Fused

end

end
-- ==== Proof.Heads.lean ====
/-
# The head projections

Per head the body projects the activations by three weights, rotates the first two projections, and stores the three
results, one head after the other.
-/
module

public import proofs.«01_k».proof.Proof.Signals

@[expose] public section

noncomputable section

namespace Cert.KernelIdeal.Fused

open Cert.KernelIdeal Cert.KernelIdeal.Gen
open Idealize.ShloMosaic Idealize.ShloMosaic.TcCoe
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ UU ℕ

/-! ## One head of a stack -/

theorem stack_emb (f : Fin 8 → FVec F S1x1024x128 .bf16) (h : Fin 8) (j : (headR h).shape.Idx) : stack f ((headR h).emb j) = f h j := by
  have h0 : ((headR h).emb j) 0 = h := Fin.ext (by
    have : (j 0).val < 1 := (j 0).isLt
    show h.val + 1 * (j 0).val = h.val; omega)
  unfold stack
  rw [h0]
  refine congrArg (f h) (funext fun a => Fin.ext ?_)
  have : (j 0).val < 1 := (j 0).isLt
  match a with
  | 0 => show 0 = (j 0).val; omega
  | 1 => show 0 + 1 * (j 1).val = (j 1).val; omega
  | 2 => show 0 + 1 * (j 2).val = (j 2).val; omega

/-- The first `n` heads of the buffer hold those of the stack. -/
def AgreeH (n : ℕ) (f g : Vec F S8x1024x128 .bf16) : Prop := ∀ i : S8x1024x128.Idx, (i 0).val < n → f i = g i

theorem mem_headR {n : ℕ} (hn : n < 8) {i : S8x1024x128.Idx} (hi : (i 0).val = n) : i ∈ (headR ⟨n, hn⟩).set :=
  Rect.mem_set_unit.mpr fun a => by
    match a with
    | 0 => exact ⟨by show n ≤ (i 0).val; omega, by show (i 0).val < n + 1; omega⟩
    | 1 => exact ⟨Nat.zero_le _, by have : (i 1).val < 1024 := (i 1).isLt; show (i 1).val < 0 + 1024; omega⟩
    | 2 => exact ⟨Nat.zero_le _, by have : (i 2).val < 128 := (i 2).isLt; show (i 2).val < 0 + 128; omega⟩

/-- Storing head `n` of a stack behind the first `n`: any write that puts it on the head's elements and keeps the others. -/
theorem agreeH_write {n : ℕ} (hn : n < 8) {f f' : Vec F S8x1024x128 .bf16} {g : Fin 8 → FVec F S1x1024x128 .bf16}
    (hf : AgreeH n f (stack g)) (hin : ∀ j, f' ((headR ⟨n, hn⟩).emb j) = g ⟨n, hn⟩ j)
    (hout : ∀ i, i ∉ (headR ⟨n, hn⟩).set → f' i = f i) : AgreeH (n + 1) f' (stack g) := fun i hi => by
  by_cases h : i ∈ (headR ⟨n, hn⟩).set
  · obtain ⟨j, rfl⟩ := exists_emb h
    rw [hin, stack_emb]
  · rw [hout i h]
    refine hf i (Nat.lt_of_le_of_ne (Nat.le_of_lt_succ hi) fun e => h (mem_headR hn e))

/-! ## The state -/

section

variable (I : Inp F) (c : Dev nD)

/-- The inputs in their staging buffers. -/
def Ins : sProp (MT nD τ sig Unit (Elt F) ℕ UU ℕ) :=
  iprop((at' c cc0_stg0_0 ↦[Finset.univ]{fullShare} I.x c) ∗ (at' c cc0_stg1_0 ↦[Finset.univ]{fullShare} I.wq c)
    ∗ (at' c cc0_stg2_0 ↦[Finset.univ]{fullShare} I.wk c) ∗ (at' c cc0_stg3_0 ↦[Finset.univ]{fullShare} I.wv c)
    ∗ (at' c cc0_stg4_0 ↦[Finset.univ]{fullShare} I.wo c) ∗ (at' c cc0_stg5_0 ↦[Finset.univ]{fullShare} I.cos c)
    ∗ (at' c cc0_stg6_0 ↦[Finset.univ]{fullShare} I.sin c))

def QSt (n : ℕ) : sProp (MT nD τ sig Unit (Elt F) ℕ UU ℕ) :=
  iprop(∃ f : Buf (Elt F) (at' c cc0_scratch0), ⌜AgreeH n f (Q3 I c)⌝ ∗ (at' c cc0_scratch0 ↦[Finset.univ]{fullShare} f))
def KSt (n : ℕ) : sProp (MT nD τ sig Unit (Elt F) ℕ UU ℕ) :=
  iprop(∃ f : Buf (Elt F) (at' c cc0_scratch1), ⌜AgreeH n f (K3 I c)⌝ ∗ (at' c cc0_scratch1 ↦[Finset.univ]{fullShare} f))
def VSt (n : ℕ) : sProp (MT nD τ sig Unit (Elt F) ℕ UU ℕ) :=
  iprop(∃ f : Buf (Elt F) (at' c cc0_scratch2), ⌜AgreeH n f (V3 I c)⌝ ∗ (at' c cc0_scratch2 ↦[Finset.univ]{fullShare} f))

/-- With `nq`, `nk` and `nv` heads of the three projections stored. -/
def HeadSt (nq nk nv : ℕ) (R : sProp (MT nD τ sig Unit (Elt F) ℕ UU ℕ)) : sProp (MT nD τ sig Unit (Elt F) ℕ UU ℕ) :=
  iprop(Ins I c ∗ QSt I c nq ∗ KSt I c nk ∗ VSt I c nv ∗ R)

variable {I c}
variable {α : Type} {Q : α → sProp (MT nD τ sig Unit (Elt F) ℕ UU ℕ)} {R : sProp (MT nD τ sig Unit (Elt F) ℕ UU ℕ)} {nq nk nv : ℕ}

theorem ld_x {r : LoadRect S1x1024x1024} {hl : xM.view.LoadsAt r} {k : (r.shape.Idx → Elt F .bf16) → P F α}
    (h : HeadSt I c nq nk nv R ⊢ WP c (k (xM.view.readAt (Elt F) r (I.x c))) Q) :
    HeadSt I c nq nk nv R ⊢ WP c (Prog.lift (.load xM r hl) >>= k) Q :=
  step_load (acc_fst acc_hd) (Finset.subset_univ _) h
theorem ld_wq {r : LoadRect S1024x1024} {hl : wqM.view.LoadsAt r} {k : (r.shape.Idx → Elt F .bf16) → P F α}
    (h : HeadSt I c nq nk nv R ⊢ WP c (k (wqM.view.readAt (Elt F) r (I.wq c))) Q) :
    HeadSt I c nq nk nv R ⊢ WP c (Prog.lift (.load wqM r hl) >>= k) Q :=
  step_load (acc_fst (acc_snd acc_hd)) (Finset.subset_univ _) h
theorem ld_wk {r : LoadRect S1024x1024} {hl : wkM.view.LoadsAt r} {k : (r.shape.Idx → Elt F .bf16) → P F α}
    (h : HeadSt I c nq nk nv R ⊢ WP c (k (wkM.view.readAt (Elt F) r (I.wk c))) Q) :
    HeadSt I c nq nk nv R ⊢ WP c (Prog.lift (.load wkM r hl) >>= k) Q :=
  step_load (acc_fst (acc_snd (acc_snd acc_hd))) (Finset.subset_univ _) h
theorem ld_wv {r : LoadRect S1024x1024} {hl : wvM.view.LoadsAt r} {k : (r.shape.Idx → Elt F .bf16) → P F α}
    (h : HeadSt I c nq nk nv R ⊢ WP c (k (wvM.view.readAt (Elt F) r (I.wv c))) Q) :
    HeadSt I c nq nk nv R ⊢ WP c (Prog.lift (.load wvM r hl) >>= k) Q :=
  step_load (acc_fst (acc_snd (acc_snd (acc_snd acc_hd)))) (Finset.subset_univ _) h
theorem ld_cos {r : LoadRect S1024x128} {hl : cosM.view.LoadsAt r} {k : (r.shape.Idx → Elt F .bf16) → P F α}
    (h : HeadSt I c nq nk nv R ⊢ WP c (k (cosM.view.readAt (Elt F) r (I.cos c))) Q) :
    HeadSt I c nq nk nv R ⊢ WP c (Prog.lift (.load cosM r hl) >>= k) Q :=
  step_load (acc_fst (acc_snd (acc_snd (acc_snd (acc_snd (acc_snd acc_hd)))))) (Finset.subset_univ _) h
theorem ld_sin {r : LoadRect S1024x128} {hl : sinM.view.LoadsAt r} {k : (r.shape.Idx → Elt F .bf16) → P F α}
    (h : HeadSt I c nq nk nv R ⊢ WP c (k (sinM.view.readAt (Elt F) r (I.sin c))) Q) :
    HeadSt I c nq nk nv R ⊢ WP c (Prog.lift (.load sinM r hl) >>= k) Q :=
  step_load (acc_fst (acc_snd (acc_snd (acc_snd (acc_snd (acc_snd (acc_snd acc_all))))))) (Finset.subset_univ _) h

theorem ld_q {r : LoadRect S8x1024x128} {hl : qM.view.LoadsAt r} {k : (r.shape.Idx → Elt F .bf16) → P F α}
    (h : ∀ v, HeadSt I c nq nk nv R ⊢ WP c (k v) Q) : HeadSt I c nq nk nv R ⊢ WP c (Prog.lift (.load qM r hl) >>= k) Q :=
  step_load_any (S := Finset.univ) (q := fullShare) (by
    unfold HeadSt QSt
    iintro ⟨Hi, ⟨%f, %hf, H⟩, Hr⟩
    iexists f; isplitl [H]; · iexact H
    iintro H; isplitl [Hi]; · iexact Hi
    isplitl [H]
    · iexists f; isplitr; · (ipureintro; exact hf)
      iexact H
    iexact Hr) (Finset.subset_univ _) h
theorem ld_k {r : LoadRect S8x1024x128} {hl : kM.view.LoadsAt r} {k : (r.shape.Idx → Elt F .bf16) → P F α}
    (h : ∀ v, HeadSt I c nq nk nv R ⊢ WP c (k v) Q) : HeadSt I c nq nk nv R ⊢ WP c (Prog.lift (.load kM r hl) >>= k) Q :=
  step_load_any (S := Finset.univ) (q := fullShare) (by
    unfold HeadSt KSt
    iintro ⟨Hi, Hq, ⟨%f, %hf, H⟩, Hr⟩
    iexists f; isplitl [H]; · iexact H
    iintro H; isplitl [Hi]; · iexact Hi
    isplitl [Hq]; · iexact Hq
    isplitl [H]
    · iexists f; isplitr; · (ipureintro; exact hf)
      iexact H
    iexact Hr) (Finset.subset_univ _) h
theorem ld_v {r : LoadRect S8x1024x128} {hl : vM.view.LoadsAt r} {k : (r.shape.Idx → Elt F .bf16) → P F α}
    (h : ∀ v, HeadSt I c nq nk nv R ⊢ WP c (k v) Q) : HeadSt I c nq nk nv R ⊢ WP c (Prog.lift (.load vM r hl) >>= k) Q :=
  step_load_any (S := Finset.univ) (q := fullShare) (by
    unfold HeadSt VSt
    iintro ⟨Hi, Hq, Hk, ⟨%f, %hf, H⟩, Hr⟩
    iexists f; isplitl [H]; · iexact H
    iintro H; isplitl [Hi]; · iexact Hi
    isplitl [Hq]; · iexact Hq
    isplitl [Hk]; · iexact Hk
    isplitl [H]
    · iexists f; isplitr; · (ipureintro; exact hf)
      iexact H
    iexact Hr) (Finset.subset_univ _) h

theorem st_q (n : ℕ) (hn : n < 8) {w : FVec F S1x1024x128 .bf16} {off : Fin 3 → ℕ} {inb}
    {hx : (qM.access (Rect.unit (s := S8x1024x128) off S1x1024x128.size inb)).Stores Finset.univ} {hm} (hoff : off = ![n, 0, 0])
    (hw : w = qS I c ⟨n, hn⟩) {k : PUnit → P F α} (h : HeadSt I c (n + 1) nk nv R ⊢ WP c (k ⟨⟩) Q) :
    HeadSt I c n nk nv R ⊢ WP c (Prog.lift (.store qM (Rect.unit (s := S8x1024x128) off S1x1024x128.size inb) w Finset.univ hx hm) >>= k) Q := by
  subst hoff
  exact step_store (S := Finset.univ) (by
    unfold HeadSt QSt
    iintro ⟨Hi, ⟨%f, %hf, H⟩, Hr⟩
    iexists f; isplitl [H]; · iexact H
    iintro H; isplitl [Hi]; · iexact Hi
    isplitl [H]
    · iexists _; isplitr; swap; · iexact H
      ipureintro
      refine agreeH_write hn hf (fun j => ?_) (fun i hi => ?_)
      · rw [← hw]; exact access_write_in cc0_scratch0 (headR ⟨n, hn⟩) f w j
      · exact access_write_out cc0_scratch0 (headR ⟨n, hn⟩) f w hi
    iexact Hr) (Finset.subset_univ _) h
theorem st_k (n : ℕ) (hn : n < 8) {w : FVec F S1x1024x128 .bf16} {off : Fin 3 → ℕ} {inb}
    {hx : (kM.access (Rect.unit (s := S8x1024x128) off S1x1024x128.size inb)).Stores Finset.univ} {hm} (hoff : off = ![n, 0, 0])
    (hw : w = kS I c ⟨n, hn⟩) {k : PUnit → P F α} (h : HeadSt I c nq (n + 1) nv R ⊢ WP c (k ⟨⟩) Q) :
    HeadSt I c nq n nv R ⊢ WP c (Prog.lift (.store kM (Rect.unit (s := S8x1024x128) off S1x1024x128.size inb) w Finset.univ hx hm) >>= k) Q := by
  subst hoff
  exact step_store (S := Finset.univ) (by
    unfold HeadSt KSt
    iintro ⟨Hi, Hq, ⟨%f, %hf, H⟩, Hr⟩
    iexists f; isplitl [H]; · iexact H
    iintro H; isplitl [Hi]; · iexact Hi
    isplitl [Hq]; · iexact Hq
    isplitl [H]
    · iexists _; isplitr; swap; · iexact H
      ipureintro
      refine agreeH_write hn hf (fun j => ?_) (fun i hi => ?_)
      · rw [← hw]; exact access_write_in cc0_scratch1 (headR ⟨n, hn⟩) f w j
      · exact access_write_out cc0_scratch1 (headR ⟨n, hn⟩) f w hi
    iexact Hr) (Finset.subset_univ _) h
theorem st_v (n : ℕ) (hn : n < 8) {w : FVec F S1x1024x128 .bf16} {off : Fin 3 → ℕ} {inb}
    {hx : (vM.access (Rect.unit (s := S8x1024x128) off S1x1024x128.size inb)).Stores Finset.univ} {hm} (hoff : off = ![n, 0, 0])
    (hw : w = vS I c ⟨n, hn⟩) {k : PUnit → P F α} (h : HeadSt I c nq nk (n + 1) R ⊢ WP c (k ⟨⟩) Q) :
    HeadSt I c nq nk n R ⊢ WP c (Prog.lift (.store vM (Rect.unit (s := S8x1024x128) off S1x1024x128.size inb) w Finset.univ hx hm) >>= k) Q := by
  subst hoff
  exact step_store (S := Finset.univ) (by
    unfold HeadSt VSt
    iintro ⟨Hi, Hq, Hk, ⟨%f, %hf, H⟩, Hr⟩
    iexists f; isplitl [H]; · iexact H
    iintro H; isplitl [Hi]; · iexact Hi
    isplitl [Hq]; · iexact Hq
    isplitl [Hk]; · iexact Hk
    isplitl [H]
    · iexists _; isplitr; swap; · iexact H
      ipureintro
      refine agreeH_write hn hf (fun j => ?_) (fun i hi => ?_)
      · rw [← hw]; exact access_write_in cc0_scratch2 (headR ⟨n, hn⟩) f w j
      · exact access_write_out cc0_scratch2 (headR ⟨n, hn⟩) f w hi
    iexact Hr) (Finset.subset_univ _) h

end

end Cert.KernelIdeal.Fused

end

end
-- ==== Proof.Blocks.lean ====
/-
# The blocks of rows and the first exchange

Per block of rows the body reads the stored projections head by head, stores the block of the partial product, and
sends the rows of four devices to them.
-/
module

public import proofs.«01_k».proof.Proof.Heads

@[expose] public section

noncomputable section

namespace Cert.KernelIdeal.Fused

open Cert.KernelIdeal Cert.KernelIdeal.Gen
open Idealize.ShloMosaic Idealize.ShloMosaic.TcCoe
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ UU ℕ

/-! ## Semaphores of an array, and rectangles -/

theorem sem_at {a : Fin 4} {b : ℕ} (hb : b = 8 + 32 * a.val) {hcon : b + S32.numel ≤ 136} {off : Fin 1 → ℕ}
    {inb : ∀ i, off i + S1.size i ≤ S32.size i} (k : Fin 32) (ho : off = ![k.val]) :
    (((SemArray.consecutive (n := 136) b S32 hcon).slice (Rect.unit (s := S32) off S1.size inb)).squeeze S_ squeezes_S1_S_).sem = semOf a k := by
  subst ho; subst hb
  refine Fin.ext ?_
  show 8 + 32 * a.val + _ = 8 + (32 * a.val + k.val)
  rw [Nat.add_assoc]
  refine congrArg (8 + ·) (congrArg (32 * a.val + ·) ?_)
  revert k; decide

theorem rowsS_mem {d : Fin 32} {i : S1024x1024.Idx} : i ∈ rowsS d ↔ d.val * 32 ≤ (i 0).val ∧ (i 0).val < d.val * 32 + 32 := by
  refine Rect.mem_set_unit.trans ⟨fun h => h 0, fun h a => ?_⟩
  match a with
  | 0 => exact h
  | 1 => exact ⟨Nat.zero_le _, by have : (i 1).val < 1024 := (i 1).isLt; show (i 1).val < 0 + 1024; omega⟩

theorem rowR_mem {b : Fin 8} {i : S1024x1024.Idx} : i ∈ (rowR b).set ↔ b.val * 128 ≤ (i 0).val ∧ (i 0).val < b.val * 128 + 128 := by
  refine Rect.mem_set_unit.trans ⟨fun h => h 0, fun h a => ?_⟩
  match a with
  | 0 => exact h
  | 1 => exact ⟨Nat.zero_le _, by have : (i 1).val < 1024 := (i 1).isLt; show (i 1).val < 0 + 1024; omega⟩

/-- The rows of the devices from `d` on. -/
def tailS (d : ℕ) : Finset S1024x1024.Idx := Finset.univ.filter fun i => 32 * d ≤ (i 0).val

theorem tailS_mem {d : ℕ} {i : S1024x1024.Idx} : i ∈ tailS d ↔ 32 * d ≤ (i 0).val := by simp [tailS]
theorem tailS_zero : tailS 0 = Finset.univ := by ext i; simp [tailS]
theorem tailS_end : tailS 32 = ∅ := by
  ext i; have : (i 0).val < 1024 := (i 0).isLt
  simp only [tailS, Finset.mem_filter, Finset.mem_univ, true_and, Finset.notMem_empty, iff_false]; omega
theorem rows_sub_tail {d : ℕ} (hd : d < 32) : rowsS ⟨d, hd⟩ ⊆ tailS d := fun i hi => by
  rw [rowsS_mem] at hi; rw [tailS_mem]; have := hi.1; simp only at this; omega
theorem tail_sdiff {d : ℕ} (hd : d < 32) : tailS d \ rowsS ⟨d, hd⟩ = tailS (d + 1) := by
  ext i; rw [Finset.mem_sdiff, tailS_mem, tailS_mem, rowsS_mem]; simp only; omega
theorem row_sub_tail {b d : ℕ} (hb : b < 8) (h : 32 * d ≤ 128 * b) : (rowR ⟨b, hb⟩).set ⊆ tailS d := fun i hi => by
  rw [rowR_mem] at hi; rw [tailS_mem]; have := hi.1; simp only at this; omega

section

variable (I : Inp F) (K : Dev nD × Pl → ℕ) (c : Dev nD)

/-! ## The state -/

/-- The inputs and the three projections. -/
def ComSt : sProp (MT nD τ sig Unit (Elt F) ℕ UU ℕ) :=
  iprop(Ins I c ∗ (at' c cc0_scratch0 ↦[Finset.univ]{fullShare} Q3 I c) ∗ (at' c cc0_scratch1 ↦[Finset.univ]{fullShare} K3 I c)
    ∗ (at' c cc0_scratch2 ↦[Finset.univ]{fullShare} V3 I c))
/-- The partial product with `b` blocks stored and the rows of the devices below `d` gone. -/
def PSt (b d : ℕ) : sProp (MT nD τ sig Unit (Elt F) ℕ UU ℕ) :=
  iprop(∃ f : Buf (Elt F) (at' c cc0_scratch3), ⌜∀ i : S1024x1024.Idx, 32 * d ≤ (i 0).val → (i 0).val < 128 * b → f i = PV I c i⌝
    ∗ (at' c cc0_scratch3 ↦[tailS d]{fullShare} f))
/-- The rows `c` keeps, once the turn of `c` is over. -/
def ownRow (d : ℕ) : sProp (MT nD τ sig Unit (Elt F) ℕ UU ℕ) := if c.val < d then partPts I c c else iprop(emp)
/-- What the send to `x` needs besides the rows. -/
def RsIn (x : Dev nD) : sProp (MT nD τ sig Unit (Elt F) ℕ UU ℕ) :=
  iprop((∃ f : Buf (Elt F) (at' x cc0_scratch4), at' x cc0_scratch4 ↦[slotS (devSub x c)]{fullShare} f)
    ∗ dutyTok ER (dmaCell c 0 (devSub x c)) 0 0 ∗ dutyTok ER (dmaCell x 1 (devSub x c)) 0 0)
/-- The exchange with the sends to the devices below `d` issued. -/
def RsSt (d : ℕ) (R : sProp (MT nD τ sig Unit (Elt F) ℕ UU ℕ)) : sProp (MT nD τ sig Unit (Elt F) ℕ UU ℕ) :=
  iprop(records I K ∗ (∃ W, owes (c : Thread nD τ) (Ors c d + Oag c 1) W) ∗ ownRow I c d ∗ (bigSep (remD c d) fun x => RsIn (F := F) c x)
    ∗ (bigSep (doneD c d) fun x => cred (tallyAt (dmaCell c 0 (devSub x c)) () N)) ∗ R)
def BlkSt (b d : ℕ) (R : sProp (MT nD τ sig Unit (Elt F) ℕ UU ℕ)) : sProp (MT nD τ sig Unit (Elt F) ℕ UU ℕ) :=
  iprop(ComSt I c ∗ PSt I c b d ∗ RsSt I K c d R)

variable {I K c}
variable {α : Type} {Q : α → sProp (MT nD τ sig Unit (Elt F) ℕ UU ℕ)} {R : sProp (MT nD τ sig Unit (Elt F) ℕ UU ℕ)} {b d : ℕ}

theorem ld_wo {r : LoadRect S1024x1024} {hl : woM.view.LoadsAt r} {k : (r.shape.Idx → Elt F .bf16) → P F α}
    (h : BlkSt I K c b d R ⊢ WP c (k (woM.view.readAt (Elt F) r (I.wo c))) Q) :
    BlkSt I K c b d R ⊢ WP c (Prog.lift (.load woM r hl) >>= k) Q :=
  step_load (acc_fst (acc_fst (acc_snd (acc_snd (acc_snd (acc_snd acc_hd)))))) (Finset.subset_univ _) h
theorem ld_q3 {r : LoadRect S8x1024x128} {hl : qM.view.LoadsAt r} {k : (r.shape.Idx → Elt F .bf16) → P F α}
    (h : BlkSt I K c b d R ⊢ WP c (k (qM.view.readAt (Elt F) r (Q3 I c))) Q) :
    BlkSt I K c b d R ⊢ WP c (Prog.lift (.load qM r hl) >>= k) Q :=
  step_load (acc_fst (acc_snd acc_hd)) (Finset.subset_univ _) h
theorem ld_k3 {r : LoadRect S8x1024x128} {hl : kM.view.LoadsAt r} {k : (r.shape.Idx → Elt F .bf16) → P F α}
    (h : BlkSt I K c b d R ⊢ WP c (k (kM.view.readAt (Elt F) r (K3 I c))) Q) :
    BlkSt I K c b d R ⊢ WP c (Prog.lift (.load kM r hl) >>= k) Q :=
  step_load (acc_fst (acc_snd (acc_snd acc_hd))) (Finset.subset_univ _) h
theorem ld_v3 {r : LoadRect S8x1024x128} {hl : vM.view.LoadsAt r} {k : (r.shape.Idx → Elt F .bf16) → P F α}
    (h : BlkSt I K c b d R ⊢ WP c (k (vM.view.readAt (Elt F) r (V3 I c))) Q) :
    BlkSt I K c b d R ⊢ WP c (Prog.lift (.load vM r hl) >>= k) Q :=
  step_load (acc_fst (acc_snd (acc_snd (acc_snd acc_all)))) (Finset.subset_univ _) h

theorem ld_p (b : ℕ) (hb : b < 8) {off : Fin 2 → ℕ} {inb} {hl} (hoff : off = ![b * 128, 0]) (hd : 32 * d ≤ 128 * b) {k : _ → P F α}
    (h : ∀ v, BlkSt I K c b d R ⊢ WP c (k v) Q) :
    BlkSt I K c b d R ⊢ WP c (Prog.lift (.load pM (Rect.unit (s := S1024x1024) off S128x1024.size inb).toLoadRect hl) >>= k) Q := by
  subst hoff
  exact step_load_any (S := tailS d) (q := fullShare) (by
    unfold BlkSt PSt
    iintro ⟨Hi, ⟨%f, %hf, H⟩, Hr⟩
    iexists f; isplitl [H]; · iexact H
    iintro H; isplitl [Hi]; · iexact Hi
    isplitl [H]
    · iexists f; isplitr; · (ipureintro; exact hf)
      iexact H
    iexact Hr) (by
      refine Finset.Subset.trans ?_ (row_sub_tail hb hd)
      intro i hi
      obtain ⟨j, hj, e⟩ := Finset.mem_map.mp hi
      rw [← e]; exact hj) h

theorem PV_emb (b : Fin 8) (j : (rowR b).shape.Idx) : PV I c ((rowR b).emb j) = blkS I c b j := by
  have hj : (j 0).val < 128 := (j 0).isLt
  have e : (((rowR b).emb j) 0).val = b.val * 128 + (j 0).val := by
    show b.val * 128 + 1 * (j 0).val = _; omega
  have e0 : (⟨(((rowR b).emb j) 0).val / 128, blk_lt _⟩ : Fin 8) = b := Fin.ext (by show _ / 128 = _; rw [e]; omega)
  unfold PV
  rw [e0]
  refine congrArg (blkS I c b) (funext fun a => Fin.ext ?_)
  match a with
  | 0 => show _ % 128 = _; rw [e]; omega
  | 1 => show 0 + 1 * (j 1).val = (j 1).val; omega

theorem st_p (b : ℕ) (hb : b < 8) {w : FVec F S128x1024 .bf16} {off : Fin 2 → ℕ} {inb}
    {hx : (pM.access (Rect.unit (s := S1024x1024) off S128x1024.size inb)).Stores Finset.univ} {hm} (hoff : off = ![b * 128, 0])
    (hd : 32 * d ≤ 128 * b) (hw : w = blkS I c ⟨b, hb⟩) {k : PUnit → P F α} (h : BlkSt I K c (b + 1) d R ⊢ WP c (k ⟨⟩) Q) :
    BlkSt I K c b d R ⊢ WP c (Prog.lift (.store pM (Rect.unit (s := S1024x1024) off S128x1024.size inb) w Finset.univ hx hm) >>= k) Q := by
  subst hoff
  exact step_store (S := tailS d) (by
    unfold BlkSt PSt
    iintro ⟨Hi, ⟨%f, %hf, H⟩, Hr⟩
    iexists f; isplitl [H]; · iexact H
    iintro H; isplitl [Hi]; · iexact Hi
    isplitl [H]
    · iexists _; isplitr; swap; · iexact H
      ipureintro
      intro i h1 h2
      by_cases hi : i ∈ (rowR ⟨b, hb⟩).set
      · obtain ⟨j, rfl⟩ := exists_emb hi
        refine (access_write_in cc0_scratch3 (rowR ⟨b, hb⟩) f w j).trans ?_
        rw [PV_emb, hw]
      · refine (access_write_out cc0_scratch3 (rowR ⟨b, hb⟩) f w hi).trans (hf i h1 ?_)
        rw [rowR_mem] at hi; simp only at hi; omega
    iexact Hr) (by
      rw [View.setOn_univ]
      exact Finset.Subset.trans (Finset.Subset.trans (subset_of_eq (View.set_slice_whole cc0_scratch3 (rowR ⟨b, hb⟩))) (row_sub_tail hb hd)) subset_rfl) h

/-- The rows of device `d` split off. -/
theorem PSt_split (hd : d < 32) (hb : 32 * (d + 1) ≤ 128 * b) :
    PSt I c b d ⊢ iprop(partPts I c ⟨d, hd⟩ ∗ PSt I c b (d + 1)) := by
  unfold PSt partPts
  iintro ⟨%f, %hf, H⟩
  have h : (at' c cc0_scratch3 ↦[tailS d]{fullShare} f)
      ⊢ (iprop((at' c cc0_scratch3 ↦[rowsS ⟨d, hd⟩]{fullShare} PV I c) ∗ (at' c cc0_scratch3 ↦[tailS (d + 1)]{fullShare} f)) : sProp 𝕄) := by
    refine (pointsTo_split_subset (rows_sub_tail hd)).1.trans (Entails.of_eq ?_)
    rw [tail_sdiff hd]
    congr 1
    refine pointsTo_congr fun i hi => ?_
    rw [rowsS_mem] at hi
    simp only at hi
    exact hf i (by omega) (by omega)
  ihave H := h $$ H
  icases H with ⟨Ha, Hb⟩
  isplitl [Ha]; · iexact Ha
  iexists f; isplitr
  · ipureintro; intro i h1 h2; exact hf i (by omega) h2
  iexact Hb

/-! ## One send of the first exchange -/

theorem src_set (d : Fin 32) {off : Fin 2 → ℕ} {inb} (ho : off = ![d.val * 32, 0]) {h} :
    ((pM.slice (Rect.unit (s := S1024x1024) off S32x1024.size inb) h).view : View sig .tc .vmem S32x1024 .bf16).set = rowsS d := by
  subst ho; exact View.set_slice_whole cc0_scratch3 (devR d)

theorem dst_set (k : Fin 32) {off : Fin 3 → ℕ} {inb} (ho : off = ![k.val, 0, 0]) {h} :
    (((rM.slice (Rect.unit (s := S32x32x1024) off S1x32x1024.size inb) h).squeeze S32x1024 squeezes_S1x32x1024_S32x1024).view :
      View sig .tc .vmem S32x1024 .bf16).set = slotS k := by
  subst ho
  exact (View.set_reshape _ _).trans (View.set_slice_whole cc0_scratch4 (slotR k))

/-- The value one send lands: slot `devSub d c` of device `d` holds the rows of `d` of the partial product of `c`. -/
theorem land_rs (d : Fin 32) {off2 : Fin 2 → ℕ} {inb2} {off3 : Fin 3 → ℕ} {inb3} (ho2 : off2 = ![d.val * 32, 0])
    (ho3 : off3 = ![(devSub d c).val, 0, 0]) {h2 h3} (fd : Buf (Elt F) (at' d cc0_scratch4)) (i : S32x32x1024.Idx)
    (hi : i ∈ slotS (devSub d c)) :
    ((rM.slice (Rect.unit (s := S32x32x1024) off3 S1x32x1024.size inb3) h3).squeeze S32x1024 squeezes_S1x32x1024_S32x1024).view.write (Elt F) fd
      ((pM.slice (Rect.unit (s := S1024x1024) off2 S32x1024.size inb2) h2).view.read (Elt F) (PV I c)) Finset.univ i = RV I d i := by
  subst ho2; subst ho3
  rw [← dst_set (devSub d c) rfl (inb := inb3) (h := h3)] at hi
  obtain ⟨y, -, rfl⟩ := Finset.mem_map.mp hi
  refine (View.write_emb_of_mem (v := ((rM.slice (slotR (devSub d c)) h3).squeeze S32x1024 squeezes_S1x32x1024_S32x1024).view)
    (Val := Elt F) fd _ (Finset.mem_univ y)).trans ?_
  show PV I c ((devR d).emb y) = RV I d ((slotR (devSub d c)).emb (Shape.reshapeEquiv _ y))
  have e : (Shape.reshapeEquiv (squeezes_S1x32x1024_S32x1024).numel_eq y : S1x32x1024.Idx) = Fin.cons ⟨0, Nat.one_pos⟩ y :=
    Shape.reshapeEquiv_cons_one _ y
  rw [e]
  have h0 : ((slotR (devSub d c)).emb (Fin.cons ⟨0, Nat.one_pos⟩ y : S1x32x1024.Idx)) 0 = devSub d c := Fin.ext (by
    show (devSub d c).val + 1 * 0 = _; omega)
  unfold RV
  rw [h0, devSub_devSub]
  refine congrArg (PV I c) (funext fun a => Fin.ext ?_)
  match a with
  | 0 => show d.val * 32 + 1 * (y 0).val = d.val * 32 + (0 + 1 * (y 0).val); omega
  | 1 => show 0 + 1 * (y 1).val = 0 + 1 * (y 1).val; rfl

theorem credit_slot {off : Fin 3 → ℕ} {inb} {h} :
    ((rM.slice (Rect.unit (s := S32x32x1024) off S1x32x1024.size inb) h).squeeze S32x1024 squeezes_S1x32x1024_S32x1024).view.dmaCredit = N := rfl

theorem duty_at (I : Inp F) (d : Dev nD) (a : Fin 4) {k : Fin 32} (hk : k ≠ 0) : (0 : Fin 32) ∈ (fusedRd I).duties ((d : Thread nD τ), SemLoc.dma (semOf a k)) 0 := by
  show _ ∈ (fusedRd I).duties (dmaCell d a k) 0
  rw [duties_dma I d a hk]; exact Finset.mem_singleton_self 0
theorem pay_sem (d : Dev nD) (a : Fin 4) (k : Fin 32) : (fusedRd I).payload ((d : Thread nD τ), SemLoc.dma (semOf a k)) 0 0 = dmaPay I d a k :=
  payload_dma I d a k 0

/-- The send to `d`: slot `devSub d c` of `d` gets the rows of `d`. -/
theorem step_send (d : ℕ) (hd : d < 32) {n : ℕ} {hn : n < nD} {off2 : Fin 2 → ℕ} {inb2} {off3 : Fin 3 → ℕ}
    {inb3} {h2} {h3} {s1 s2 : SemLoc sig} {hsc} {hsrc} {hdst} {hsem} {k : PUnit → P F α}
    (hne : c.val ≠ d) (hdev : n = d) (ho2 : off2 = ![d * 32, 0]) (ho3 : off3 = ![(devSub ⟨d, hd⟩ c).val, 0, 0])
    (hs1 : s1 = .dma (semOf 0 (devSub ⟨d, hd⟩ c))) (hs2 : s2 = .dma (semOf 1 (devSub ⟨d, hd⟩ c)))
    (hb : 32 * (d + 1) ≤ 128 * b) (h : BlkSt I K c b (d + 1) R ⊢ WP c (k ⟨⟩) Q) :
    BlkSt I K c b d R ⊢ WP c
        (Prog.lift (.enqueueDma (pM.slice (Rect.unit (s := S1024x1024) off2 S32x1024.size inb2) h2)
          (.remote (Dev.tc (⟨n, hn⟩ : Dev nD))
            ((rM.slice (Rect.unit (s := S32x32x1024) off3 S1x32x1024.size inb3) h3).squeeze S32x1024 squeezes_S1x32x1024_S32x1024)
            s1 hsc) s2 hsrc hdst hsem) >>= k) Q := by
  subst hdev hs1 hs2
  have hdc : (⟨n, hd⟩ : Fin 32) ≠ c := fun e => hne (by rw [← e])
  rw [lift_bind]
  unfold WP at *
  unfold BlkSt RsSt at *
  have ho : ownRow I c (n + 1) = ownRow I c n := by
    unfold ownRow
    by_cases e : c.val < n
    · rw [if_pos e, if_pos (by omega)]
    · rw [if_neg e, if_neg (by omega)]
  rw [doneD_succ c n hd hdc, bigSep_ins (doneD_not c n hd), ho] at h
  rw [remD_succ c n hd hdc, bigSep_ins (remD_not c n hd), Ors_succ c n hd hdc]
  iintro ⟨Hcom, HP, #Hrec, ⟨%W, HO⟩, Hown, ⟨Hin, Hins⟩, Hcr, HR⟩
  ihave HP := (PSt_split hd hb) $$ HP
  icases HP with ⟨Hsrc, HP⟩
  unfold RsIn
  icases Hin with ⟨⟨%fd, Hdst⟩, Ht1, Ht2⟩
  ihave #HI1 := (records_inv I K (c, some (0, devSub ⟨n, hd⟩ c))) $$ Hrec
  ihave #HI2 := (records_inv I K (⟨n, hd⟩, some (1, devSub ⟨n, hd⟩ c))) $$ Hrec
  ihave #Hr1 := (records_reached I K (c, some (0, devSub ⟨n, hd⟩ c))) $$ Hrec
  ihave #Hr2 := (records_reached I K (⟨n, hd⟩, some (1, devSub ⟨n, hd⟩ c))) $$ Hrec
  iapply (Rounds.wp_send_pointsTo 𝒱₀ ER (fusedRd I) (c : Thread nD τ) none (c' := ((⟨n, hd⟩ : Dev nD) : Thread nD τ))
      (κ₁ := K (c, some (0, devSub ⟨n, hd⟩ c))) (κ₂ := K (⟨n, hd⟩, some (1, devSub ⟨n, hd⟩ c)))
      (q := fullShare) (fs := PV I c) (fd := fd) (r₁ := 0) (r₂ := 0) (d₁ := (0 : Fin 32)) (d₂ := (0 : Fin 32))
      (duty_at I c 0 (devSub_ne hdc)) (duty_at I ⟨n, hd⟩ 1 (devSub_ne hdc)) () () N credit_slot
      (amount_dma I c 0 _ 0) (amount_dma I ⟨n, hd⟩ 1 _ 0) (Ors c (n + 1) + Oag c 1) (add_right_comm _ _ _)
      (by
        rw [pay_sem]
        show _ ⊢ partPts I c (devAdd c (devSub ⟨n, hd⟩ c))
        rw [devSub_add, src_set ⟨n, hd⟩ ho2]
        exact Entails.of_eq rfl)
      (by
        rw [pay_sem]
        show _ ⊢ slotPts I ⟨n, hd⟩ (devSub ⟨n, hd⟩ c)
        rw [dst_set _ ho3]
        exact Entails.of_eq (pointsTo_congr fun i hi => land_rs ⟨n, hd⟩ ho2 ho3 fd i hi))) $$ [HO Hsrc Hdst Ht1 Ht2]
  · isplitr; · iexact HI1
    isplitr; · iexact HI2
    isplitl [Hsrc]; · unfold partPts; rw [src_set ⟨n, hd⟩ ho2]; iexact Hsrc
    isplitl [Hdst]; · rw [dst_set _ ho3]; iexact Hdst
    isplitl [HO]; · iexact HO
    isplitl [Ht1]; · iexact Ht1
    isplitr; · iexact Hr1
    isplitl [Ht2]; · iexact Ht2
    iexact Hr2
  iintro ⟨Hc, HO⟩
  iapply h
  isplitl [Hcom]; · iexact Hcom
  isplitl [HP]; · iexact HP
  isplitr; · iexact Hrec
  isplitl [HO]; · iexists W; iexact HO
  isplitl [Hown]; · iexact Hown
  isplitl [Hins]; · iexact Hins
  isplitl [Hc Hcr]
  · isplitl [Hc]; · iexact Hc
    iexact Hcr
  iexact HR

/-- The turn of `d`: `c` sends, or it is `d` itself and keeps its rows. -/
theorem step_rs (d : ℕ) (hd : d < 32) {cond : Prop} [Decidable cond] {A : cond → P F α} {B : P F α} (hcond : cond ↔ c.val ≠ d)
    (hb : 32 * (d + 1) ≤ 128 * b) (hA : ∀ hh, c.val ≠ d → (BlkSt I K c b (d + 1) R ⊢ WP c B Q) → BlkSt I K c b d R ⊢ WP c (A hh) Q)
    (h : BlkSt I K c b (d + 1) R ⊢ WP c B Q) : BlkSt I K c b d R ⊢ WP c (if hh : cond then A hh else B) Q := by
  by_cases hh : cond
  · rw [dif_pos hh]; exact hA hh (hcond.mp hh) h
  · rw [dif_neg hh]
    have hc : c.val = d := by by_contra e; exact hh (hcond.mpr e)
    have hc' : (⟨d, hd⟩ : Fin 32) = c := Fin.ext hc.symm
    refine BIBase.Entails.trans ?_ h
    unfold BlkSt RsSt
    rw [remD_same c d hd hc', Ors_same c d hd hc', doneD_same c d hd hc']
    iintro ⟨Hcom, HP, Hrec, HO, -, Hins, Hcr, HR⟩
    ihave HP := (PSt_split hd hb) $$ HP
    icases HP with ⟨Hsrc, HP⟩
    isplitl [Hcom]; · iexact Hcom
    isplitl [HP]; · iexact HP
    isplitl [Hrec]; · iexact Hrec
    isplitl [HO]; · iexact HO
    isplitl [Hsrc]
    · unfold ownRow
      rw [if_pos (by omega), hc']; iexact Hsrc
    isplitl [Hins]; · iexact Hins
    isplitl [Hcr]; · iexact Hcr
    iexact HR

/-! ## From the barrier and the heads to the blocks -/

theorem erase_eq_map (c : Fin 32) : Finset.univ.erase c = (rem 1).map ⟨devAdd c, fun _ _ h => devAdd_inj h⟩ := by
  ext d
  rw [Finset.mem_erase, Finset.mem_map]
  constructor
  · rintro ⟨h, -⟩
    refine ⟨devSub d c, ?_, devSub_add c d⟩
    have h0 := devSub_ne h
    simp only [rem, Finset.mem_filter, Finset.mem_univ, true_and]
    exact Nat.pos_of_ne_zero fun e => h0 (Fin.ext e)
  · rintro ⟨k, hk, rfl⟩
    exact ⟨devAdd_ne (ne_zero_of_rem hk), Finset.mem_univ _⟩
/-- The other devices, by how many places after `c` they are. -/
theorem bigSep_around (c : Fin 32) (Φ : Fin 32 → sProp (MT nD τ sig Unit (Elt F) ℕ UU ℕ)) :
    bigSep (Finset.univ.erase c) Φ = bigSep (rem 1) fun k => Φ (devAdd c k) := by
  rw [erase_eq_map, bigSep_map]; rfl

/-- What the send of the second exchange to the device `k` places after `c` needs besides the sum. -/
def AgIn (c : Dev nD) (k : Fin 32) : sProp (MT nD τ sig Unit (Elt F) ℕ UU ℕ) :=
  iprop((∃ f : Buf (Elt F) (at' (devAdd c k) cc0_stg7_0), at' (devAdd c k) cc0_stg7_0 ↦[rowsS c]{fullShare} f)
    ∗ dutyTok ER (dmaCell c 2 k) 0 0 ∗ dutyTok ER (dmaCell (devAdd c k) 3 k) 0 0)

/-- What the blocks and the sends take over besides the barrier's yield. -/
def BlkIn (c : Dev nD) (R : sProp (MT nD τ sig Unit (Elt F) ℕ UU ℕ)) : sProp (MT nD τ sig Unit (Elt F) ℕ UU ℕ) :=
  iprop((∃ f : Buf (Elt F) (at' c cc0_scratch3), at' c cc0_scratch3 ↦[Finset.univ]{fullShare} f)
    ∗ (bigSep (Finset.univ.erase c) fun x => iprop(dutyTok ER (dmaCell c 0 (devSub x c)) 0 0 ∗ dutyTok ER (dmaCell x 1 (devSub x c)) 0 0))
    ∗ (bigSep (rem 1) fun k => iprop(dutyTok ER (dmaCell c 2 k) 0 0 ∗ dutyTok ER (dmaCell (devAdd c k) 3 k) 0 0)) ∗ R)

theorem agreeH_all {f g : Vec F S8x1024x128 .bf16} (h : AgreeH 8 f g) : f = g := funext fun i => h i (i 0).isLt

theorem blk_start : HeadSt I c 8 8 8 iprop(BarSt I K c (BlkIn c R))
    ⊢ BlkSt I K c 0 0 iprop((bigSep (rem 1) fun k => AgIn (F := F) c k) ∗ semVal (barCell c) 0 ∗ R) := by
  unfold HeadSt QSt KSt VSt BarSt BlkIn BlkSt ComSt PSt RsSt ownRow
  rw [if_neg (Nat.not_lt_zero _), doneD_zero, bigSep_empty, remD_zero, tailS_zero]
  have hp : (bigSep (Finset.univ.erase c) fun d => barPay (F := F) c d)
      ⊢ (iprop((bigSep (Finset.univ.erase c) fun d => iprop(∃ f : Buf (Elt F) (at' d cc0_scratch4), at' d cc0_scratch4 ↦[slotS (devSub d c)]{fullShare} f))
        ∗ (bigSep (rem 1) fun k => iprop(∃ f : Buf (Elt F) (at' (devAdd c k) cc0_stg7_0), at' (devAdd c k) cc0_stg7_0 ↦[rowsS c]{fullShare} f))) : sProp 𝕄) := by
    rw [← bigSep_around c fun d => iprop(∃ f : Buf (Elt F) (at' d cc0_stg7_0), at' d cc0_stg7_0 ↦[rowsS c]{fullShare} f)]
    exact Entails.of_eq (bigSep_sep _ _ _)
  have hr : iprop((bigSep (Finset.univ.erase c) fun d => iprop(∃ f : Buf (Elt F) (at' d cc0_scratch4), at' d cc0_scratch4 ↦[slotS (devSub d c)]{fullShare} f))
        ∗ (bigSep (Finset.univ.erase c) fun x => iprop(dutyTok ER (dmaCell c 0 (devSub x c)) 0 0 ∗ dutyTok ER (dmaCell x 1 (devSub x c)) 0 0)))
      ⊢ ((bigSep (Finset.univ.erase c) fun x => RsIn (F := F) c x) : sProp 𝕄) := Entails.of_eq (bigSep_sep _ _ _).symm
  have ha : iprop((bigSep (rem 1) fun k => iprop(∃ f : Buf (Elt F) (at' (devAdd c k) cc0_stg7_0), at' (devAdd c k) cc0_stg7_0 ↦[rowsS c]{fullShare} f))
        ∗ (bigSep (rem 1) fun k => iprop(dutyTok ER (dmaCell c 2 k) 0 0 ∗ dutyTok ER (dmaCell (devAdd c k) 3 k) 0 0)))
      ⊢ ((bigSep (rem 1) fun k => AgIn (F := F) c k) : sProp 𝕄) := Entails.of_eq (bigSep_sep _ _ _).symm
  iintro ⟨Hi, ⟨%fq, %hq, Hq⟩, ⟨%fk, %hk, Hk⟩, ⟨%fv, %hv, Hv⟩, #Hrec, HO, Hz, Hpay, ⟨%fp, Hp⟩, Htr, Hta, HR⟩
  ihave H := hp $$ Hpay
  icases H with ⟨Hs, Ho⟩
  ihave Hrs := hr $$ [Hs Htr]
  · isplitl [Hs]; · iexact Hs
    iexact Htr
  ihave Hag := ha $$ [Ho Hta]
  · isplitl [Ho]; · iexact Ho
    iexact Hta
  isplitl [Hi Hq Hk Hv]
  · isplitl [Hi]; · iexact Hi
    isplitl [Hq]; · rw [← agreeH_all hq]; iexact Hq
    isplitl [Hk]; · rw [← agreeH_all hk]; iexact Hk
    rw [← agreeH_all hv]; iexact Hv
  isplitl [Hp]
  · iexists fp; isplitr
    · ipureintro; intro i _ h2; omega
    iexact Hp
  isplitr; · iexact Hrec
  isplitl [HO]; · iexact HO
  isplitr; · iempintro
  isplitl [Hrs]; · iexact Hrs
  isplitr; · iempintro
  isplitl [Hag]; · iexact Hag
  isplitl [Hz]; · iexact Hz
  iexact HR

end

end Cert.KernelIdeal.Fused

end

end
-- ==== Proof.First.lean ====
/-
# The first part of the body

The signals, the barrier, the heads and the first seven blocks with their sends, stepped in the order of the program.
-/
module

public import proofs.«01_k».proof.Proof.Blocks

@[expose] public section

noncomputable section

namespace Cert.KernelIdeal.Fused

open Cert.KernelIdeal Cert.KernelIdeal.Gen
open Idealize.ShloMosaic Idealize.ShloMosaic.TcCoe
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ UU ℕ

/-- Six heads of the last block of rows, added up, and the rows of the seventh head's projection. -/
def sum6 (I : Inp F) (c : Dev nD) : FVec F S128x1024 .f32 :=
  addf (addf (addf (addf (addf (addf (broadcast S128x1024 (Scalar.ofBits .f32 0x00000000#32 : F .f32))
    (outS I c 7 0)) (outS I c 7 1)) (outS I c 7 2)) (outS I c 7 3)) (outS I c 7 4)) (outS I c 7 5)
def q6 (I : Inp F) (c : Dev nD) : FVec F S128x128 .bf16 :=
  shapeCast S128x128 (qM.view.readAt (Elt F) (blkR 6 7).toLoadRect (Q3 I c)) shapeCasts_S1x128x128_S128x128

section
variable {I : Inp F} {K : Dev nD × Pl → ℕ} {c : Dev nD}
variable {Q : (Σ' (d0 : Dev nD) (v2 : BitVec 32) (v1951 : FVec F S128x1024 .f32), FVec F S128x128 .bf16) → sProp (MT nD τ sig Unit (Elt F) ℕ UU ℕ)} {R : sProp (MT nD τ sig Unit (Elt F) ℕ UU ℕ)}

theorem bar_heads : BarSt I K c iprop(HeadSt I c 0 0 0 R) ⊢ HeadSt I c 0 0 0 iprop(BarSt I K c R) := by
  unfold BarSt HeadSt
  iintro ⟨Ha, Hb, Hc, Hd, Hi, Hq, Hk, Hv, HR⟩
  isplitl [Hi]; · iexact Hi
  isplitl [Hq]; · iexact Hq
  isplitl [Hk]; · iexact Hk
  isplitl [Hv]; · iexact Hv
  isplitl [Ha]; · iexact Ha
  isplitl [Hb]; · iexact Hb
  isplitl [Hc]; · iexact Hc
  isplitl [Hd]; · iexact Hd
  iexact HR

set_option maxRecDepth 8000 in
set_option maxHeartbeats 4000000 in
theorem run_first (h : ∀ v2, BlkSt I K c 7 28 iprop((bigSep (rem 1) fun k => AgIn (F := F) c k) ∗ semVal (barCell c) 0 ∗ R) ⊢ Q ⟨c, v2, sum6 I c, q6 I c⟩) :
    SigSt I K c 1 iprop(cred (tallyAt (barCell c) () 31) ∗ atPos ER (barCell c) 0 ∅ 0 ∗ HeadSt I c 0 0 0 (BlkIn c R))
      ⊢ WP c (k0_part111 xM (Memref.isWhole_whole _) wqM (Memref.isWhole_whole _) wkM (Memref.isWhole_whole _) wvM (Memref.isWhole_whole _)
        woM (Memref.isWhole_whole _) cosM (Memref.isWhole_whole _) sinM (Memref.isWhole_whole _) oM (Memref.isWhole_whole _)
        qM (Memref.isWhole_whole _) kM (Memref.isWhole_whole _) vM (Memref.isWhole_whole _) pM (Memref.isWhole_whole _)
        rM (Memref.isWhole_whole _) aM (Memref.isWhole_whole _) dM (Memref.isWhole_whole _)
        cc0_scratch7 cc0_scratch8 cc0_scratch9 cc0_scratch10) Q := by
  rw [k0_part111_eq_skeleton]; unfold k0_part111_skel
  -- the signals
  repeat first
    | with_reducible refine step_pure ?_
    | with_reducible refine step_device ?_
    | (with_reducible refine step_signal _ ?_ ?_ ?_ ?_) <;> [decide; decide; (clear h; revert c; decide +kernel); skip]
    | refine step_bind ?_; first
    | rw [k0_part1_eq_skeleton]; unfold k0_part1_skel
    | rw [k0_part2_eq_skeleton]; unfold k0_part2_skel
    | rw [k0_part3_eq_skeleton]; unfold k0_part3_skel
    | rw [k0_part4_eq_skeleton]; unfold k0_part4_skel
    | rw [k0_part5_eq_skeleton]; unfold k0_part5_skel
    | rw [k0_part6_eq_skeleton]; unfold k0_part6_skel
  -- the barrier and the heads
  refine step_barrier (bar_heads.trans ?_)
  repeat first
    | with_reducible refine ld_x ?_
    | with_reducible refine ld_cos ?_ | with_reducible refine ld_sin ?_ | with_reducible refine ld_wq ?_
    | with_reducible refine ld_wk ?_ | with_reducible refine ld_wv ?_
    | with_reducible refine ld_q fun _ => ?_ | with_reducible refine ld_k fun _ => ?_ | with_reducible refine ld_v fun _ => ?_
    | (with_reducible refine st_q _ ?_ ?_ ?_ ?_) <;> [decide; rfl; rfl; skip]
    | (with_reducible refine st_k _ ?_ ?_ ?_ ?_) <;> [decide; rfl; rfl; skip]
    | (with_reducible refine st_v _ ?_ ?_ ?_ ?_) <;> [decide; rfl; rfl; (try with_reducible refine blk_start.trans ?_)]
    | with_reducible refine step_pure ?_
    | refine step_bind ?_; first
    | rw [k0_part7_eq_skeleton]; unfold k0_part7_skel
    | rw [k0_part8_eq_skeleton]; unfold k0_part8_skel
    | rw [k0_part9_eq_skeleton]; unfold k0_part9_skel
    | rw [k0_part10_eq_skeleton]; unfold k0_part10_skel
    | rw [k0_part11_eq_skeleton]; unfold k0_part11_skel
    | rw [k0_part12_eq_skeleton]; unfold k0_part12_skel
    | rw [k0_part13_eq_skeleton]; unfold k0_part13_skel
    | rw [k0_part14_eq_skeleton]; unfold k0_part14_skel
    | rw [k0_part15_eq_skeleton]; unfold k0_part15_skel
  -- the blocks and their sends
  repeat first
    | with_reducible refine ld_q3 ?_ | with_reducible refine ld_k3 ?_ | with_reducible refine ld_v3 ?_ | with_reducible refine ld_wo ?_
    | (with_reducible refine ld_p _ ?_ ?_ ?_ fun _ => ?_) <;> [decide; rfl; decide; skip]
    | (with_reducible refine st_p _ ?_ ?_ ?_ ?_ ?_) <;> [decide; rfl; decide; rfl; skip]
    | (with_reducible refine step_rs _ ?_ ?_ ?_ (fun hh hne hB => ?_) ?_) <;>
        [decide; (clear h; revert c; decide +kernel); decide;
          (refine step_send _ ?_ hne ?_ rfl ?_ (congrArg SemLoc.dma (sem_at (a := 0) rfl _ ?_)) (congrArg SemLoc.dma (sem_at (a := 1) rfl _ ?_)) ?_ hB <;>
            [decide; (clear hh hne hB h; revert c; decide +kernel); (clear hh hne hB h; revert c; decide +kernel); (clear hh hne hB h; revert c; decide +kernel); (clear hh hne hB h; revert c; decide +kernel); decide]); skip]
    | with_reducible refine step_pure ?_
    | refine step_bind ?_; first
    | rw [k0_part16_eq_skeleton]; unfold k0_part16_skel
    | rw [k0_part17_eq_skeleton]; unfold k0_part17_skel
    | rw [k0_part18_eq_skeleton]; unfold k0_part18_skel
    | rw [k0_part19_eq_skeleton]; unfold k0_part19_skel
    | rw [k0_part20_eq_skeleton]; unfold k0_part20_skel
    | rw [k0_part21_eq_skeleton]; unfold k0_part21_skel
    | rw [k0_part22_eq_skeleton]; unfold k0_part22_skel
    | rw [k0_part23_eq_skeleton]; unfold k0_part23_skel
    | rw [k0_part24_eq_skeleton]; unfold k0_part24_skel
    | rw [k0_part25_eq_skeleton]; unfold k0_part25_skel
    | rw [k0_part26_eq_skeleton]; unfold k0_part26_skel
    | rw [k0_part27_eq_skeleton]; unfold k0_part27_skel
    | rw [k0_part28_eq_skeleton]; unfold k0_part28_skel
    | rw [k0_part29_eq_skeleton]; unfold k0_part29_skel
    | rw [k0_part30_eq_skeleton]; unfold k0_part30_skel
    | rw [k0_part31_eq_skeleton]; unfold k0_part31_skel
    | rw [k0_part32_eq_skeleton]; unfold k0_part32_skel
    | rw [k0_part33_eq_skeleton]; unfold k0_part33_skel
    | rw [k0_part34_eq_skeleton]; unfold k0_part34_skel
    | rw [k0_part35_eq_skeleton]; unfold k0_part35_skel
    | rw [k0_part36_eq_skeleton]; unfold k0_part36_skel
    | rw [k0_part37_eq_skeleton]; unfold k0_part37_skel
    | rw [k0_part38_eq_skeleton]; unfold k0_part38_skel
    | rw [k0_part39_eq_skeleton]; unfold k0_part39_skel
    | rw [k0_part40_eq_skeleton]; unfold k0_part40_skel
    | rw [k0_part41_eq_skeleton]; unfold k0_part41_skel
    | rw [k0_part42_eq_skeleton]; unfold k0_part42_skel
    | rw [k0_part43_eq_skeleton]; unfold k0_part43_skel
    | rw [k0_part44_eq_skeleton]; unfold k0_part44_skel
    | rw [k0_part45_eq_skeleton]; unfold k0_part45_skel
    | rw [k0_part46_eq_skeleton]; unfold k0_part46_skel
    | rw [k0_part47_eq_skeleton]; unfold k0_part47_skel
    | rw [k0_part48_eq_skeleton]; unfold k0_part48_skel
    | rw [k0_part49_eq_skeleton]; unfold k0_part49_skel
    | rw [k0_part50_eq_skeleton]; unfold k0_part50_skel
    | rw [k0_part51_eq_skeleton]; unfold k0_part51_skel
    | rw [k0_part52_eq_skeleton]; unfold k0_part52_skel
    | rw [k0_part53_eq_skeleton]; unfold k0_part53_skel
    | rw [k0_part54_eq_skeleton]; unfold k0_part54_skel
    | rw [k0_part55_eq_skeleton]; unfold k0_part55_skel
    | rw [k0_part56_eq_skeleton]; unfold k0_part56_skel
    | rw [k0_part57_eq_skeleton]; unfold k0_part57_skel
    | rw [k0_part58_eq_skeleton]; unfold k0_part58_skel
    | rw [k0_part59_eq_skeleton]; unfold k0_part59_skel
    | rw [k0_part60_eq_skeleton]; unfold k0_part60_skel
  exact h _

end

end Cert.KernelIdeal.Fused

end

end
-- ==== Proof.Tail.lean ====
/-
# The waits and the second exchange

The waits of the first exchange and the running sum, the sends of the rounded sum, and the remaining waits.
-/
module

public import proofs.«01_k».proof.Proof.Blocks

@[expose] public section

noncomputable section

namespace Cert.KernelIdeal.Fused

open Cert.KernelIdeal Cert.KernelIdeal.Gen
open Idealize.ShloMosaic Idealize.ShloMosaic.TcCoe
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ UU ℕ

section

variable (I : Inp F) (K : Dev nD × Pl → ℕ) (c : Dev nD)

/-! ## Waiting on an array of semaphores, one after the other -/

/-- What a wait on semaphore `k` of array `a` spends, and what it leaves. -/
def WtIn (a : Fin 4) (k : Fin 32) : sProp (MT nD τ sig Unit (Elt F) ℕ UU ℕ) :=
  iprop(cred (tallyAt (dmaCell c a k) () N) ∗ atPos ER (dmaCell c a k) 0 ∅ 0)
def Dn (a : Fin 4) (k : Fin 32) : sProp (MT nD τ sig Unit (Elt F) ℕ UU ℕ) := iprop(semVal (dmaCell c a k) 0 ∗ dmaPay I c a k)
/-- The waits below `n` are over. -/
def Wt (a : Fin 4) (n : ℕ) : sProp (MT nD τ sig Unit (Elt F) ℕ UU ℕ) :=
  iprop((bigSep (rem n) fun k => WtIn (F := F) c a k) ∗ (bigSep (done n) fun k => Dn I c a k))

variable {I K c}
variable {α : Type} {Q : α → sProp (MT nD τ sig Unit (Elt F) ℕ UU ℕ)} {R St St' : sProp (MT nD τ sig Unit (Elt F) ℕ UU ℕ)}

theorem Wt_start (a : Fin 4) : (bigSep (rem 1) fun k => WtIn (F := F) c a k) ⊢ (Wt I c a 1 : sProp 𝕄) := by
  unfold Wt
  rw [done_one, bigSep_empty]
  iintro H; isplitl [H]; · iexact H
  iempintro

theorem expect_at (a : Fin 4) {k : Fin 32} (hk : k ≠ 0) : (fusedRd I).expect ((c : Thread nD τ), SemLoc.dma (semOf a k)) 0 = N :=
  expect_dma I c a hk
theorem rest_at (a : Fin 4) {k : Fin 32} (hk : k ≠ 0) : bigSep ((fusedRd I).duties ((c : Thread nD τ), SemLoc.dma (semOf a k)) 0 \ ∅)
    (fun d => (fusedRd I).payload ((c : Thread nD τ), SemLoc.dma (semOf a k)) 0 d) = dmaPay I c a k := rest_dma I c a hk

theorem step_wait (a : Fin 4) (n : ℕ) (hn : n < 32) (h1 : 1 ≤ n) {O : CellTallies nD τ sig Unit}
    {s : DmaSem sig} {sp' sp : Space} {s' s'' : Shape} {e' e : EltTy} {src : Memref sig .tc sp' s' e'} {dst : Memref sig .tc sp s'' e} {hsrc hdst}
    {k : PUnit → P F α}
    (hacc : St ⊢ iprop(records I K ∗ (∃ W, owes (c : Thread nD τ) O W) ∗ Wt I c a n
      ∗ ((∃ W, owes (c : Thread nD τ) O W) -∗ Wt I c a (n + 1) -∗ St')))
    (hs : s = semOf a ⟨n, hn⟩) (hN : dst.view.dmaCredit = N)
    (hmay : (levAts L lv : sProp 𝕄) ⊢ MayWait (c : Thread nD τ) (.dma (semOf a ⟨n, hn⟩)) () O)
    (h : St' ⊢ WP c (k ⟨⟩) Q) : St ⊢ WP c (Prog.lift (.waitDma2 s src dst hsrc hdst) >>= k) Q := by
  subst hs
  have hk : (⟨n, hn⟩ : Fin 32) ≠ 0 := fun e => by have := congrArg Fin.val e; simp at this; omega
  rw [lift_bind]
  unfold WP at *
  refine hacc.trans ?_
  unfold Wt
  rw [rem_succ n hn, bigSep_ins (rem_not n hn), done_succ n hn h1, bigSep_ins (done_not n hn)]
  unfold WtIn Dn
  iintro ⟨#Hrec, ⟨%W, HO⟩, ⟨⟨⟨Hc, Hat⟩, Hrem⟩, Hdone⟩, Hback⟩
  ihave #HI := (records_inv I K (c, some (a, ⟨n, hn⟩))) $$ Hrec
  iapply (Rounds.wp_wait_rest_token 𝒱₀ ER (fusedRd I) (c : Thread nD τ) none (κ := K (c, some (a, ⟨n, hn⟩)))
      (wpE_waitDma2_eq 𝒱₀ (c : Thread nD τ) none Set.univ) (Set.mem_univ _) () (O := O) (W := W) (R := 0) (m := 0) (T := ∅)
      (by rw [expect_at a hk, Nat.zero_add]; exact hN)) $$ [Hc HO Hat]
  · isplitr; · iexact HI
    isplitl [Hc]; · rw [hN]; iexact Hc
    isplitl [HO]; · iexact HO
    isplitr; · iapply (records_mayWait I K c (.dma (semOf a ⟨n, hn⟩)) _ hmay); iexact Hrec
    iexact Hat
  iintro ⟨HO, Hat, -, Hpay⟩
  ihave Hp := (Entails.of_eq (rest_at a hk)) $$ Hpay
  iapply (fupd_wp (M := MT nD τ sig Unit (Elt F) ℕ UU ℕ))
  imod (Rounds.cell_close ER (fusedRd I) (Set.mem_univ (K (c, some (a, ⟨n, hn⟩)))) (fun h => h) (R := 0 + 1)
    (duties_later I (dmaCell c a ⟨n, hn⟩))) $$ [Hat] with Hz
  · isplitr; · iexact HI
    iexact Hat
  imodintro
  iapply h
  iapply Hback $$ [HO]
  · iexists _; iexact HO
  isplitl [Hrem]; · iexact Hrem
  isplitl [Hz Hp]
  · isplitl [Hz]; · iexact Hz
    iexact Hp
  iexact Hdone

/-! ## Gathering the sum -/

section

variable (I K c)

/-- The running sum: with `m` stores done it is the sum of the first `m - 1` slots and the device's own rows. -/
def ASt (m : ℕ) : sProp (MT nD τ sig Unit (Elt F) ℕ UU ℕ) :=
  iprop(∃ f : Buf (Elt F) (at' c cc0_scratch5), ⌜1 ≤ m → f = accV I c (m - 1)⌝ ∗ (at' c cc0_scratch5 ↦[Finset.univ]{fullShare} f))
/-- With the waits below `n` over and `m` stores of the running sum done. -/
def RwSt (n m : ℕ) (R : sProp (MT nD τ sig Unit (Elt F) ℕ UU ℕ)) : sProp (MT nD τ sig Unit (Elt F) ℕ UU ℕ) :=
  iprop(records I K ∗ (∃ W, owes (c : Thread nD τ) (Oag c 1) W) ∗ Wt I c 1 n ∗ ASt I c m ∗ partPts I c c ∗ R)

end

variable {n m : ℕ}

theorem step_rw (n : ℕ) (hn : n < 32) (h1 : 1 ≤ n) {s : DmaSem sig} {sp' sp : Space} {s' s'' : Shape} {e' e : EltTy}
    {src : Memref sig .tc sp' s' e'} {dst : Memref sig .tc sp s'' e} {hsrc hdst} {k : PUnit → P F α}
    (hs : s = semOf 1 ⟨n, hn⟩) (hN : dst.view.dmaCredit = N)
    (h : RwSt I K c (n + 1) m R ⊢ WP c (k ⟨⟩) Q) : RwSt I K c n m R ⊢ WP c (Prog.lift (.waitDma2 s src dst hsrc hdst) >>= k) Q :=
  step_wait 1 n hn h1 (O := Oag c 1) (St' := RwSt I K c (n + 1) m R) (by
    unfold RwSt
    iintro ⟨#Hrec, HO, HW, HR⟩
    isplitr; · iexact Hrec
    isplitl [HO]; · iexact HO
    isplitl [HW]; · iexact HW
    iintro HO HW
    isplitr; · iexact Hrec
    isplitl [HO]; · iexact HO
    isplitl [HW]; · iexact HW
    iexact HR) hs hN (mayWait_rs c _) h

theorem hz2 : (![0, 0] : Fin 2 → ℕ) = fun _ => 0 := by decide

theorem ld_a_any {r : LoadRect S32x1024} {hl : aM.view.LoadsAt r} {k : (r.shape.Idx → Elt F .f32) → P F α}
    (h : ∀ v, RwSt I K c n m R ⊢ WP c (k v) Q) : RwSt I K c n m R ⊢ WP c (Prog.lift (.load aM r hl) >>= k) Q :=
  step_load_any (S := Finset.univ) (q := fullShare) (by
    unfold RwSt ASt
    iintro ⟨Hrec, HO, HW, ⟨%f, %hf, H⟩, HR⟩
    iexists f; isplitl [H]; · iexact H
    iintro H
    isplitl [Hrec]; · iexact Hrec
    isplitl [HO]; · iexact HO
    isplitl [HW]; · iexact HW
    isplitl [H]
    · iexists f; isplitr; · (ipureintro; exact hf)
      iexact H
    iexact HR) (Finset.subset_univ _) h

theorem ld_a {inb} {hl : aM.view.LoadsAt (Rect.unit (s := S32x1024) ![0, 0] S32x1024.size inb).toLoadRect}
    {k : ((Rect.unit (s := S32x1024) ![0, 0] S32x1024.size inb).toLoadRect.shape.Idx → Elt F .f32) → P F α}
    (h : RwSt I K c n (m + 1) R ⊢ WP c (k (accV I c m)) Q) :
    RwSt I K c n (m + 1) R ⊢ WP c (Prog.lift (.load aM (Rect.unit (s := S32x1024) ![0, 0] S32x1024.size inb).toLoadRect hl) >>= k) Q := by
  refine step_load (S := Finset.univ) (q := fullShare) (f := accV I c m) ?_ (Finset.subset_univ _) ?_
  · unfold RwSt ASt
    iintro ⟨Hrec, HO, HW, ⟨%f, %hf, H⟩, HR⟩
    obtain rfl : f = accV I c m := hf (Nat.succ_le_succ (Nat.zero_le _))
    isplitl [H]; · iexact H
    iintro H
    isplitl [Hrec]; · iexact Hrec
    isplitl [HO]; · iexact HO
    isplitl [HW]; · iexact HW
    isplitl [H]
    · iexists _; isplitr; swap; · iexact H
      ipureintro; exact fun _ => rfl
    iexact HR
  · have e : aM.view.readAt (Elt F) (Rect.unit (s := S32x1024) ![0, 0] S32x1024.size inb).toLoadRect (accV I c m) = accV I c m :=
      Memref.readAt_unit_zero (Elt F) cc0_scratch5 hz2 inb (accV I c m)
    rw [e]; exact h

theorem st_a (m : ℕ) {w : FVec F S32x1024 .f32} {inb} {hx : (aM.access (Rect.unit (s := S32x1024) ![0, 0] S32x1024.size inb)).Stores Finset.univ} {hm}
    (hw : w = accV I c m) {k : PUnit → P F α} (h : RwSt I K c n (m + 1) R ⊢ WP c (k ⟨⟩) Q) :
    RwSt I K c n m R ⊢ WP c (Prog.lift (.store aM (Rect.unit (s := S32x1024) ![0, 0] S32x1024.size inb) w Finset.univ hx hm) >>= k) Q :=
  step_store (S := Finset.univ) (by
    unfold RwSt ASt
    iintro ⟨Hrec, HO, HW, ⟨%f, %hf, H⟩, HR⟩
    iexists f; isplitl [H]; · iexact H
    iintro H
    isplitl [Hrec]; · iexact Hrec
    isplitl [HO]; · iexact HO
    isplitl [HW]; · iexact HW
    isplitl [H]
    · iexists _; isplitr; swap; · iexact H
      ipureintro; intro _
      exact (Memref.write_access_unit_zero_univ (Elt F) cc0_scratch5 hz2 inb f w).trans hw
    iexact HR) (Finset.subset_univ _) h

theorem ld_own {off : Fin 2 → ℕ} {inb} (ho : off = ![c.val * 32, 0])
    {hl : pM.view.LoadsAt (Rect.unit (s := S1024x1024) off S32x1024.size inb).toLoadRect} {k : _ → P F α}
    (h : RwSt I K c n m R ⊢ WP c (k (pM.view.readAt (Elt F) (devR c).toLoadRect (PV I c))) Q) :
    RwSt I K c n m R ⊢ WP c (Prog.lift (.load pM (Rect.unit (s := S1024x1024) off S32x1024.size inb).toLoadRect hl) >>= k) Q := by
  subst ho
  exact step_load (S := rowsS c) (q := fullShare) (f := PV I c) (acc_snd (acc_snd (acc_snd (acc_snd acc_hd)))) (by
    intro i hi; obtain ⟨j, hj, e⟩ := Finset.mem_map.mp hi; rw [← e]; exact hj) h

theorem ld_slot (n : ℕ) (hn : n < 32) (h1 : 1 ≤ n) {off : Fin 3 → ℕ} {inb} (ho : off = ![n, 0, 0])
    {hl : rM.view.LoadsAt (Rect.unit (s := S32x32x1024) off S1x32x1024.size inb).toLoadRect} {k : _ → P F α}
    (h : RwSt I K c (n + 1) m R ⊢ WP c (k (rM.view.readAt (Elt F) (slotR ⟨n, hn⟩).toLoadRect (RV I c))) Q) :
    RwSt I K c (n + 1) m R ⊢ WP c (Prog.lift (.load rM (Rect.unit (s := S32x32x1024) off S1x32x1024.size inb).toLoadRect hl) >>= k) Q := by
  subst ho
  refine step_load (S := slotS ⟨n, hn⟩) (q := fullShare) (f := RV I c) ?_ (by
    intro i hi; obtain ⟨j, hj, e⟩ := Finset.mem_map.mp hi; rw [← e]; exact hj) h
  unfold RwSt Wt
  rw [done_succ n hn h1, bigSep_ins (done_not n hn)]
  exact acc_snd (acc_snd (acc_fst (acc_snd (acc_fst (acc_snd acc_all)))))

/-! ## The rounded sum, and its sends -/

/-- The buffer of the rounded sum, before it is stored. -/
def DSt (c : Dev nD) : sProp (MT nD τ sig Unit (Elt F) ℕ UU ℕ) :=
  iprop(∃ f : Buf (Elt F) (at' c cc0_scratch6), at' c cc0_scratch6 ↦[Finset.univ]{fullShare} f)
/-- The share of it that stays with the body while the sends run. -/
def dKeep (I : Inp F) (c : Dev nD) : sProp (MT nD τ sig Unit (Elt F) ℕ UU ℕ) :=
  iprop(at' c cc0_scratch6 ↦[Finset.univ]{Transfers.shareDrop fullShare 32} redV I c)

/-- With the sends below `k` issued. -/
def AgSt (I : Inp F) (K : Dev nD × Pl → ℕ) (c : Dev nD) (k : ℕ) (R : sProp (MT nD τ sig Unit (Elt F) ℕ UU ℕ)) :
    sProp (MT nD τ sig Unit (Elt F) ℕ UU ℕ) :=
  iprop(records I K ∗ (∃ W, owes (c : Thread nD τ) (Oag c k) W) ∗ (bigSep (rem k) fun k => iprop(AgIn (F := F) c k ∗ redTok I c k))
    ∗ (bigSep (done k) fun k => cred (tallyAt (dmaCell c 2 k) () N)) ∗ dKeep I c ∗ R)

theorem ld_d {r : LoadRect S32x1024} {hl : dM.view.LoadsAt r} {k : (r.shape.Idx → Elt F .bf16) → P F α}
    (h : ∀ v, RwSt I K c n m iprop(DSt c ∗ R) ⊢ WP c (k v) Q) : RwSt I K c n m iprop(DSt c ∗ R) ⊢ WP c (Prog.lift (.load dM r hl) >>= k) Q :=
  step_load_any (S := Finset.univ) (q := fullShare) (by
    unfold RwSt DSt
    iintro ⟨Hrec, HO, HW, Ha, Hp, ⟨%f, H⟩, HR⟩
    iexists f; isplitl [H]; · iexact H
    iintro H
    isplitl [Hrec]; · iexact Hrec
    isplitl [HO]; · iexact HO
    isplitl [HW]; · iexact HW
    isplitl [Ha]; · iexact Ha
    isplitl [Hp]; · iexact Hp
    isplitl [H]
    · iexists f; iexact H
    iexact HR) (Finset.subset_univ _) h

theorem st_d {A B : sProp (MT nD τ sig Unit (Elt F) ℕ UU ℕ)} {w : FVec F S32x1024 .bf16} {inb} {hx : (dM.access (Rect.unit (s := S32x1024) ![0, 0] S32x1024.size inb)).Stores Finset.univ} {hm}
    (hw : w = redV I c) {k : PUnit → P F α}
    (h : AgSt I K c 1 iprop(A ∗ B ∗ R ∗ redTok I c 0 ∗ Wt I c 1 n ∗ ASt I c m ∗ partPts I c c) ⊢ WP c (k ⟨⟩) Q) :
    RwSt I K c n m iprop(DSt c ∗ (bigSep (rem 1) fun k => AgIn (F := F) c k) ∗ A ∗ B ∗ R)
      ⊢ WP c (Prog.lift (.store dM (Rect.unit (s := S32x1024) ![0, 0] S32x1024.size inb) w Finset.univ hx hm) >>= k) Q :=
  step_store (S := Finset.univ) (by
    unfold RwSt DSt AgSt
    iintro ⟨Hrec, HO, HW, Ha, Hp, ⟨%f, H⟩, Hin, HA, HB, HR⟩
    iexists f; isplitl [H]; · iexact H
    iintro H
    have e : (dM.access (Rect.unit (s := S32x1024) ![0, 0] S32x1024.size inb)).write (Elt F) f w Finset.univ = redV I c :=
      (Memref.write_access_unit_zero_univ (Elt F) cc0_scratch6 hz2 inb f w).trans hw
    rw [e]
    have hs : (at' c cc0_scratch6 ↦[Finset.univ]{fullShare} redV I c)
        ⊢ (iprop(dKeep I c ∗ redTok I c 0 ∗ bigSep (rem 1) fun k => redTok I c k) : sProp 𝕄) := by
      refine (Transfers.pointsTo_toks fullShare 32).1.trans (Entails.of_eq ?_)
      rw [univ_rem, bigSep_insert zero_not_rem]
      rfl
    ihave H := hs $$ H
    icases H with ⟨Hk, H0, Ht⟩
    have hj : iprop((bigSep (rem 1) fun k => AgIn (F := F) c k) ∗ (bigSep (rem 1) fun k => redTok I c k))
        ⊢ (bigSep (rem 1) (fun k => iprop(AgIn (F := F) c k ∗ redTok I c k)) : sProp 𝕄) := Entails.of_eq (bigSep_sep _ _ _).symm
    ihave Hj := hj $$ [Hin Ht]
    · isplitl [Hin]; · iexact Hin
      iexact Ht
    isplitl [Hrec]; · iexact Hrec
    isplitl [HO]; · iexact HO
    isplitl [Hj]; · iexact Hj
    isplitr
    · rw [done_one, bigSep_empty]; iempintro
    isplitl [Hk]; · iexact Hk
    isplitl [HA]; · iexact HA
    isplitl [HB]; · iexact HB
    isplitl [HR]; · iexact HR
    isplitl [H0]; · iexact H0
    isplitl [HW]; · iexact HW
    isplitl [Ha]; · iexact Ha
    iexact Hp) (Finset.subset_univ _) h

theorem out_set (d : Fin 32) {off : Fin 2 → ℕ} {inb} (ho : off = ![d.val * 32, 0]) {h} :
    ((oM.slice (Rect.unit (s := S1024x1024) off S32x1024.size inb) h).view : View sig .tc .vmem S32x1024 .bf16).set = rowsS d := by
  subst ho; exact View.set_slice_whole cc0_stg7_0 (devR d)
theorem credit_out {off : Fin 2 → ℕ} {inb} {h} : (oM.slice (Rect.unit (s := S1024x1024) off S32x1024.size inb) h).view.dmaCredit = N := rfl
theorem credit_part {off : Fin 2 → ℕ} {inb} {h} : (pM.slice (Rect.unit (s := S1024x1024) off S32x1024.size inb) h).view.dmaCredit = N := rfl

theorem OV_emb (d : Fin 32) (j : (devR d).shape.Idx) : OV I ((devR d).emb j) = redV I d j := by
  have hj : (j 0).val < 32 := (j 0).isLt
  have e : (((devR d).emb j) 0).val = d.val * 32 + (j 0).val := by
    show d.val * 32 + 1 * (j 0).val = _; omega
  have e0 : (⟨(((devR d).emb j) 0).val / 32, dev_lt _⟩ : Fin 32) = d := Fin.ext (by show _ / 32 = _; rw [e]; omega)
  unfold OV
  rw [e0]
  refine congrArg (redV I d) (funext fun a => Fin.ext ?_)
  match a with
  | 0 => show _ % 32 = _; rw [e]; omega
  | 1 => show 0 + 1 * (j 1).val = (j 1).val; omega

/-- The value one send lands: the rows of `c` of the result. -/
theorem land_ag {off : Fin 2 → ℕ} {inb} (ho : off = ![c.val * 32, 0]) {h} (fd : Vec F S1024x1024 .bf16) (i : S1024x1024.Idx) (hi : i ∈ rowsS c) :
    (oM.slice (Rect.unit (s := S1024x1024) off S32x1024.size inb) h).view.write (Elt F) fd (dM.view.read (Elt F) (redV I c)) Finset.univ i = OV I i := by
  subst ho
  obtain ⟨j, rfl⟩ := exists_emb hi
  refine (access_write_in cc0_stg7_0 (devR c) fd _ j).trans ?_
  rw [OV_emb]
  rfl

/-- The send to the device `k` places after `c`. -/
theorem step_ag (k : ℕ) (hk : k < 32) (h1 : 1 ≤ k) {n : ℕ} {hn : n < nD} {off : Fin 2 → ℕ} {inb} {h2} {s1 s2 : SemLoc sig} {hsc} {hsrc} {hdst}
    {hsem} {p : PUnit → P F α} (hdev : n = (c.val + k) % 32) (ho : off = ![c.val * 32, 0]) (hs1 : s1 = .dma (semOf 2 ⟨k, hk⟩))
    (hs2 : s2 = .dma (semOf 3 ⟨k, hk⟩)) (h : AgSt I K c (k + 1) R ⊢ WP c (p ⟨⟩) Q) :
    AgSt I K c k R ⊢ WP c
        (Prog.lift (.enqueueDma dM (.remote (Dev.tc (⟨n, hn⟩ : Dev nD)) (oM.slice (Rect.unit (s := S1024x1024) off S32x1024.size inb) h2) s1 hsc)
          s2 hsrc hdst hsem) >>= p) Q := by
  have hd : (⟨n, hn⟩ : Dev nD) = devAdd c ⟨k, hk⟩ := Fin.ext hdev
  subst hs1 hs2
  revert hsc hsem hdst
  rw [hd]
  intro hsc hdst hsem
  have hk0 : (⟨k, hk⟩ : Fin 32) ≠ 0 := fun e => by have := congrArg Fin.val e; simp at this; omega
  rw [lift_bind]
  unfold WP at *
  unfold AgSt at *
  rw [done_succ k hk h1, bigSep_ins (done_not k hk)] at h
  rw [rem_succ k hk, bigSep_ins (rem_not k hk), Oag_succ c k hk]
  unfold AgIn redTok
  iintro ⟨#Hrec, ⟨%W, HO⟩, ⟨⟨⟨⟨%fd, Hdst⟩, Ht1, Ht2⟩, Hsrc⟩, Hins⟩, Hcr, HR⟩
  ihave #HI1 := (records_inv I K (c, some (2, ⟨k, hk⟩))) $$ Hrec
  ihave #HI2 := (records_inv I K (devAdd c ⟨k, hk⟩, some (3, ⟨k, hk⟩))) $$ Hrec
  ihave #Hr1 := (records_reached I K (c, some (2, ⟨k, hk⟩))) $$ Hrec
  ihave #Hr2 := (records_reached I K (devAdd c ⟨k, hk⟩, some (3, ⟨k, hk⟩))) $$ Hrec
  iapply (Rounds.wp_send_pointsTo 𝒱₀ ER (fusedRd I) (c : Thread nD τ) none (c' := ((devAdd c ⟨k, hk⟩ : Dev nD) : Thread nD τ))
      (κ₁ := K (c, some (2, ⟨k, hk⟩))) (κ₂ := K (devAdd c ⟨k, hk⟩, some (3, ⟨k, hk⟩)))
      (q := Transfers.shareTok fullShare 32 ⟨k, hk⟩) (fs := redV I c) (fd := fd) (r₁ := 0) (r₂ := 0) (d₁ := (0 : Fin 32)) (d₂ := (0 : Fin 32))
      (duty_at I c 2 hk0) (duty_at I (devAdd c ⟨k, hk⟩) 3 hk0) () () N credit_out
      (amount_dma I c 2 _ 0) (amount_dma I (devAdd c ⟨k, hk⟩) 3 _ 0) (Oag c (k + 1)) rfl
      (by
        rw [pay_sem]
        show _ ⊢ redTok I c ⟨k, hk⟩
        unfold redTok
        rw [View.set_whole])
      (by
        rw [pay_sem]
        show _ ⊢ outPts I (devAdd c ⟨k, hk⟩) (devSub (devAdd c ⟨k, hk⟩) ⟨k, hk⟩)
        rw [devSub_devAdd, out_set c ho]
        exact Entails.of_eq (pointsTo_congr fun i hi => land_ag ho fd i hi))) $$ [HO Hsrc Hdst Ht1 Ht2]
  · isplitr; · iexact HI1
    isplitr; · iexact HI2
    isplitl [Hsrc]; · rw [View.set_whole]; iexact Hsrc
    isplitl [Hdst]; · rw [out_set c ho]; iexact Hdst
    isplitl [HO]; · iexact HO
    isplitl [Ht1]; · iexact Ht1
    isplitr; · iexact Hr1
    isplitl [Ht2]; · iexact Ht2
    iexact Hr2
  iintro ⟨Hc, HO⟩
  iapply h
  isplitr; · iexact Hrec
  isplitl [HO]; · iexists W; iexact HO
  isplitl [Hins]; · iexact Hins
  isplitl [Hc Hcr]
  · isplitl [Hc]; · iexact Hc
    iexact Hcr
  iexact HR

/-! ## The own rows, and the waits of the second exchange -/

theorem ld_red {inb} {hl : dM.view.LoadsAt (Rect.unit (s := S32x1024) ![0, 0] S32x1024.size inb).toLoadRect}
    {k : ((Rect.unit (s := S32x1024) ![0, 0] S32x1024.size inb).toLoadRect.shape.Idx → Elt F .bf16) → P F α}
    (h : AgSt I K c n R ⊢ WP c (k (redV I c)) Q) :
    AgSt I K c n R ⊢ WP c (Prog.lift (.load dM (Rect.unit (s := S32x1024) ![0, 0] S32x1024.size inb).toLoadRect hl) >>= k) Q := by
  refine step_load (S := Finset.univ) (q := Transfers.shareDrop fullShare 32) (f := redV I c)
    (acc_snd (acc_snd (acc_snd (acc_snd acc_hd)))) (Finset.subset_univ _) ?_
  have e : dM.view.readAt (Elt F) (Rect.unit (s := S32x1024) ![0, 0] S32x1024.size inb).toLoadRect (redV I c) = redV I c :=
    Memref.readAt_unit_zero (Elt F) cc0_scratch6 hz2 inb (redV I c)
  rw [e]; exact h

/-- The rows of `c` of its own result, before they are stored. -/
def OSt (c : Dev nD) : sProp (MT nD τ sig Unit (Elt F) ℕ UU ℕ) :=
  iprop(∃ f : Buf (Elt F) (at' c cc0_stg7_0), at' c cc0_stg7_0 ↦[rowsS c]{fullShare} f)

theorem ld_o {off : Fin 2 → ℕ} {inb} (ho : off = ![c.val * 32, 0])
    {hl : oM.view.LoadsAt (Rect.unit (s := S1024x1024) off S32x1024.size inb).toLoadRect} {k : _ → P F α}
    (h : ∀ v, AgSt I K c n iprop(OSt c ∗ R) ⊢ WP c (k v) Q) :
    AgSt I K c n iprop(OSt c ∗ R) ⊢ WP c (Prog.lift (.load oM (Rect.unit (s := S1024x1024) off S32x1024.size inb).toLoadRect hl) >>= k) Q := by
  subst ho
  exact step_load_any (S := rowsS c) (q := fullShare) (by
    unfold AgSt OSt
    iintro ⟨Hrec, HO, Ha, Hb, Hc, ⟨%f, H⟩, HR⟩
    iexists f; isplitl [H]; · iexact H
    iintro H
    isplitl [Hrec]; · iexact Hrec
    isplitl [HO]; · iexact HO
    isplitl [Ha]; · iexact Ha
    isplitl [Hb]; · iexact Hb
    isplitl [Hc]; · iexact Hc
    isplitl [H]
    · iexists f; iexact H
    iexact HR) (by
    intro i hi; obtain ⟨j, hj, e⟩ := Finset.mem_map.mp hi; rw [← e]; exact hj) h

/-- With the waits below `n` of the second exchange over. -/
def AwSt (I : Inp F) (K : Dev nD × Pl → ℕ) (c : Dev nD) (n : ℕ) (R : sProp (MT nD τ sig Unit (Elt F) ℕ UU ℕ)) :
    sProp (MT nD τ sig Unit (Elt F) ℕ UU ℕ) :=
  iprop(records I K ∗ (∃ W, owes (c : Thread nD τ) 0 W) ∗ Wt I c 3 n ∗ outPts I c c ∗ R)

theorem st_o {w : FVec F S32x1024 .bf16} {off : Fin 2 → ℕ} {inb} (ho : off = ![c.val * 32, 0])
    {hx : (oM.access (Rect.unit (s := S1024x1024) off S32x1024.size inb)).Stores Finset.univ} {hm}
    (hn : n = 32) (hw : w = redV I c) {k : PUnit → P F α}
    (h : AwSt I K c 1 iprop((bigSep (rem 1) fun k => cred (tallyAt (dmaCell c 2 k) () N)) ∗ dKeep I c ∗ R) ⊢ WP c (k ⟨⟩) Q) :
    AgSt I K c n iprop(OSt c ∗ (bigSep (rem 1) fun k => WtIn (F := F) c 3 k) ∗ R)
      ⊢ WP c (Prog.lift (.store oM (Rect.unit (s := S1024x1024) off S32x1024.size inb) w Finset.univ hx hm) >>= k) Q := by
  subst ho hw hn
  exact step_store (S := rowsS c) (by
    unfold AgSt OSt AwSt
    rw [Oag_end, rem_end, bigSep_empty, done_end]
    iintro ⟨Hrec, HO, -, Hb, Hc, ⟨%f, H⟩, Hw, HR⟩
    iexists f; isplitl [H]; · iexact H
    iintro H
    isplitl [Hrec]; · iexact Hrec
    isplitl [HO]; · iexact HO
    isplitl [Hw]; · iapply (Wt_start (I := I) (c := c) 3); iexact Hw
    isplitl [H]
    · have e : (at' c cc0_stg7_0 ↦[rowsS c]{fullShare}
          ((oM.access (Rect.unit (s := S1024x1024) ![c.val * 32, 0] S32x1024.size inb)).write (Elt F) f (redV I c) Finset.univ))
          ⊢ (outPts I c c : sProp 𝕄) := Entails.of_eq (pointsTo_congr fun i hi => by
        obtain ⟨j, rfl⟩ := exists_emb hi
        refine (access_write_in cc0_stg7_0 (devR c) f _ j).trans ?_
        rw [OV_emb])
      iapply e; iexact H
    isplitl [Hb]; · iexact Hb
    isplitl [Hc]; · iexact Hc
    iexact HR) (by
      rw [View.setOn_univ]
      exact subset_of_eq (View.set_slice_whole cc0_stg7_0 (devR c))) h

theorem step_aw (n : ℕ) (hn : n < 32) (h1 : 1 ≤ n) {s : DmaSem sig} {sp' sp : Space} {s' s'' : Shape} {e' e : EltTy}
    {src : Memref sig .tc sp' s' e'} {dst : Memref sig .tc sp s'' e} {hsrc hdst} {k : PUnit → P F α}
    (hs : s = semOf 3 ⟨n, hn⟩) (hN : dst.view.dmaCredit = N)
    (h : AwSt I K c (n + 1) R ⊢ WP c (k ⟨⟩) Q) : AwSt I K c n R ⊢ WP c (Prog.lift (.waitDma2 s src dst hsrc hdst) >>= k) Q :=
  step_wait 3 n hn h1 (O := 0) (St' := AwSt I K c (n + 1) R) (by
    unfold AwSt
    iintro ⟨#Hrec, HO, HW, HR⟩
    isplitr; · iexact Hrec
    isplitl [HO]; · iexact HO
    isplitl [HW]; · iexact HW
    iintro HO HW
    isplitr; · iexact Hrec
    isplitl [HO]; · iexact HO
    isplitl [HW]; · iexact HW
    iexact HR) hs hN (mayWait_zero c _) h

/-! ## The waits for the sends -/

/-- With the waits below `n` for the sends of the first exchange over, and below `n'` for those of the second. -/
def FnSt (I : Inp F) (K : Dev nD × Pl → ℕ) (c : Dev nD) (n n' : ℕ) (R : sProp (MT nD τ sig Unit (Elt F) ℕ UU ℕ)) :
    sProp (MT nD τ sig Unit (Elt F) ℕ UU ℕ) :=
  iprop(records I K ∗ (∃ W, owes (c : Thread nD τ) 0 W) ∗ Wt I c 0 n ∗ Wt I c 2 n' ∗ R)

variable {n' : ℕ}

theorem step_f0 (n : ℕ) (hn : n < 32) (h1 : 1 ≤ n) {s : DmaSem sig} {sp' sp : Space} {s' s'' : Shape} {e' e : EltTy}
    {src : Memref sig .tc sp' s' e'} {dst : Memref sig .tc sp s'' e} {hsrc hdst} {k : PUnit → P F α}
    (hs : s = semOf 0 ⟨n, hn⟩) (hN : dst.view.dmaCredit = N)
    (h : FnSt I K c (n + 1) n' R ⊢ WP c (k ⟨⟩) Q) : FnSt I K c n n' R ⊢ WP c (Prog.lift (.waitDma2 s src dst hsrc hdst) >>= k) Q :=
  step_wait 0 n hn h1 (O := 0) (St' := FnSt I K c (n + 1) n' R) (by
    unfold FnSt
    iintro ⟨#Hrec, HO, HW, HR⟩
    isplitr; · iexact Hrec
    isplitl [HO]; · iexact HO
    isplitl [HW]; · iexact HW
    iintro HO HW
    isplitr; · iexact Hrec
    isplitl [HO]; · iexact HO
    isplitl [HW]; · iexact HW
    iexact HR) hs hN (mayWait_zero c _) h
theorem step_f2 (n' : ℕ) (hn : n' < 32) (h1 : 1 ≤ n') {s : DmaSem sig} {sp' sp : Space} {s' s'' : Shape} {e' e : EltTy}
    {src : Memref sig .tc sp' s' e'} {dst : Memref sig .tc sp s'' e} {hsrc hdst} {k : PUnit → P F α}
    (hs : s = semOf 2 ⟨n', hn⟩) (hN : dst.view.dmaCredit = N)
    (h : FnSt I K c n (n' + 1) R ⊢ WP c (k ⟨⟩) Q) : FnSt I K c n n' R ⊢ WP c (Prog.lift (.waitDma2 s src dst hsrc hdst) >>= k) Q :=
  step_wait 2 n' hn h1 (O := 0) (St' := FnSt I K c n (n' + 1) R) (by
    unfold FnSt
    iintro ⟨#Hrec, HO, H0, HW, HR⟩
    isplitr; · iexact Hrec
    isplitl [HO]; · iexact HO
    isplitl [HW]; · iexact HW
    iintro HO HW
    isplitr; · iexact Hrec
    isplitl [HO]; · iexact HO
    isplitl [H0]; · iexact H0
    isplitl [HW]; · iexact HW
    iexact HR) hs hN (mayWait_zero c _) h

/-! ## From one phase to the next -/

/-- What the phases after the blocks take over. -/
def TailIn (c : Dev nD) (R : sProp (MT nD τ sig Unit (Elt F) ℕ UU ℕ)) : sProp (MT nD τ sig Unit (Elt F) ℕ UU ℕ) :=
  iprop((bigSep (rem 1) fun k => WtIn (F := F) c 1 k) ∗ (∃ f : Buf (Elt F) (at' c cc0_scratch5), at' c cc0_scratch5 ↦[Finset.univ]{fullShare} f)
    ∗ DSt c ∗ OSt c ∗ (bigSep (rem 1) fun k => WtIn (F := F) c 3 k)
    ∗ (bigSep (rem 1) fun k => atPos ER (dmaCell c 0 k) 0 ∅ 0) ∗ (bigSep (rem 1) fun k => atPos ER (dmaCell c 2 k) 0 ∅ 0) ∗ R)
/-- What waits for the last phase. -/
def Later (I : Inp F) (c : Dev nD) (R : sProp (MT nD τ sig Unit (Elt F) ℕ UU ℕ)) : sProp (MT nD τ sig Unit (Elt F) ℕ UU ℕ) :=
  iprop(ComSt I c ∗ semVal (barCell c) 0 ∗ (bigSep (rem 1) fun k => atPos ER (dmaCell c 2 k) 0 ∅ 0)
    ∗ (bigSep (rem 1) fun k => WtIn (F := F) c 0 k) ∗ R)

theorem creds_around (c : Fin 32) : (bigSep (Finset.univ.erase c) fun x : Fin 32 => cred (tallyAt (dmaCell c 0 (devSub x c)) () N))
    = (bigSep (rem 1) (fun k => cred (tallyAt (dmaCell c 0 k) () N)) : sProp (MT nD τ sig Unit (Elt F) ℕ UU ℕ)) := by
  rw [bigSep_around c]
  exact bigSep_congr fun k _ => by rw [devAdd_sub]

theorem WtIn_join (a : Fin 4) : iprop((bigSep (rem 1) fun k => cred (tallyAt (dmaCell c a k) () N)) ∗ (bigSep (rem 1) fun k => atPos ER (dmaCell c a k) 0 ∅ 0))
    ⊢ (bigSep (rem 1) (fun k => WtIn (F := F) c a k) : sProp 𝕄) := Entails.of_eq (bigSep_sep _ _ _).symm

theorem rs_start : BlkSt I K c 8 32 iprop((bigSep (rem 1) fun k => AgIn (F := F) c k) ∗ semVal (barCell c) 0 ∗ TailIn c R)
    ⊢ RwSt I K c 1 0 iprop(DSt c ∗ (bigSep (rem 1) fun k => AgIn (F := F) c k) ∗ OSt c ∗ (bigSep (rem 1) fun k => WtIn (F := F) c 3 k)
      ∗ Later I c R) := by
  unfold BlkSt RsSt TailIn RwSt Later ownRow
  rw [if_pos c.isLt, Ors_end, zero_add, doneD_end, creds_around]
  iintro ⟨Hcom, -, Hrec, HO, Hown, -, Hcr, Hag, Hz, Hw1, Ha, Hd, Ho, Hw3, Hat0, Hat2, HR⟩
  isplitl [Hrec]; · iexact Hrec
  isplitl [HO]; · iexact HO
  isplitl [Hw1]; · iapply (Wt_start (I := I) (c := c) 1); iexact Hw1
  isplitl [Ha]
  · unfold ASt
    icases Ha with ⟨%f, H⟩
    iexists f
    isplitr; · ipureintro; intro h; omega
    iexact H
  isplitl [Hown]; · iexact Hown
  isplitl [Hd]; · iexact Hd
  isplitl [Hag]; · iexact Hag
  isplitl [Ho]; · iexact Ho
  isplitl [Hw3]; · iexact Hw3
  isplitl [Hcom]; · iexact Hcom
  isplitl [Hz]; · iexact Hz
  isplitl [Hat2]; · iexact Hat2
  isplitl [Hcr Hat0]
  · iapply (WtIn_join (c := c) 0)
    isplitl [Hcr]; · iexact Hcr
    iexact Hat0
  iexact HR

/-- What is left once every wait but the last ones is over. -/
def Left (I : Inp F) (c : Dev nD) (R : sProp (MT nD τ sig Unit (Elt F) ℕ UU ℕ)) : sProp (MT nD τ sig Unit (Elt F) ℕ UU ℕ) :=
  iprop(Wt I c 3 32 ∗ outPts I c c ∗ dKeep I c ∗ ComSt I c ∗ semVal (barCell c) 0 ∗ redTok I c 0 ∗ Wt I c 1 32 ∗ ASt I c 32 ∗ partPts I c c ∗ R)

theorem fin_start : AwSt I K c 32 iprop((bigSep (rem 1) fun k => cred (tallyAt (dmaCell c 2 k) () N)) ∗ dKeep I c
      ∗ Later I c R ∗ redTok I c 0 ∗ Wt I c 1 32 ∗ ASt I c 32 ∗ partPts I c c)
    ⊢ FnSt I K c 1 1 (Left I c R) := by
  unfold AwSt Later FnSt Left
  iintro ⟨Hrec, HO, Hw3, Ho, Hcr, Hd, ⟨Hcom, Hz, Hat2, Hw0, HR⟩, Ht, Hw1, Ha, Hp⟩
  isplitl [Hrec]; · iexact Hrec
  isplitl [HO]; · iexact HO
  isplitl [Hw0]; · iapply (Wt_start (I := I) (c := c) 0); iexact Hw0
  isplitl [Hcr Hat2]
  · iapply (Wt_start (I := I) (c := c) 2)
    iapply (WtIn_join (c := c) 2)
    isplitl [Hcr]; · iexact Hcr
    iexact Hat2
  isplitl [Hw3]; · iexact Hw3
  isplitl [Ho]; · iexact Ho
  isplitl [Hd]; · iexact Hd
  isplitl [Hcom]; · iexact Hcom
  isplitl [Hz]; · iexact Hz
  isplitl [Ht]; · iexact Ht
  isplitl [Hw1]; · iexact Hw1
  isplitl [Ha]; · iexact Ha
  isplitl [Hp]; · iexact Hp
  iexact HR

end

end Cert.KernelIdeal.Fused

end

end
-- ==== Proof.Second.lean ====
/-
# The second half of the run

The rest of the last block, the two exchanges and the waits, along the printed text.
-/
module

public import proofs.«01_k».proof.Proof.First
public import proofs.«01_k».proof.Proof.Tail

@[expose] public section

noncomputable section

namespace Cert.KernelIdeal.Fused

open Cert.KernelIdeal Cert.KernelIdeal.Gen
open Idealize.ShloMosaic Idealize.ShloMosaic.TcCoe
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ UU ℕ

section
variable {I : Inp F} {K : Dev nD × Pl → ℕ} {c : Dev nD}
variable {Q : PUnit → sProp (MT nD τ sig Unit (Elt F) ℕ UU ℕ)} {R : sProp (MT nD τ sig Unit (Elt F) ℕ UU ℕ)}

theorem own_rows (c : Dev nD) : k0_off65 c = ![c.val * 32, 0] := by revert c; decide +kernel

set_option maxRecDepth 8000 in
set_option maxHeartbeats 4000000 in
theorem run_second (v2 : BitVec 32) (h : FnSt I K c 30 30 (Left I c R) ⊢ Q ⟨⟩) :
    BlkSt I K c 7 28 iprop((bigSep (rem 1) fun k => AgIn (F := F) c k) ∗ semVal (barCell c) 0 ∗ TailIn c R)
      ⊢ WP c (k0_part112 xM (Memref.isWhole_whole _) wqM (Memref.isWhole_whole _) wkM (Memref.isWhole_whole _) wvM (Memref.isWhole_whole _)
        woM (Memref.isWhole_whole _) cosM (Memref.isWhole_whole _) sinM (Memref.isWhole_whole _) oM (Memref.isWhole_whole _)
        qM (Memref.isWhole_whole _) kM (Memref.isWhole_whole _) vM (Memref.isWhole_whole _) pM (Memref.isWhole_whole _)
        rM (Memref.isWhole_whole _) aM (Memref.isWhole_whole _) dM (Memref.isWhole_whole _)
        cc0_scratch7 cc0_scratch8 cc0_scratch9 cc0_scratch10 c v2 (sum6 I c) (q6 I c)) Q := by
  rw [k0_part112_eq_skeleton]; unfold k0_part112_skel
  -- the rest of the last block and of the sends
  repeat first
    | with_reducible refine ld_q3 ?_ | with_reducible refine ld_k3 ?_ | with_reducible refine ld_v3 ?_ | with_reducible refine ld_wo ?_
    | (with_reducible refine ld_p _ ?_ ?_ ?_ fun _ => ?_) <;> [decide; rfl; decide; skip]
    | (with_reducible refine st_p _ ?_ ?_ ?_ ?_ ?_) <;> [decide; rfl; decide; rfl; skip]
    | (with_reducible refine step_rs _ ?_ ?_ ?_ (fun hh hne hB => ?_) ?_) <;>
        [decide; (clear h; revert c; decide +kernel); decide;
          (refine step_send _ ?_ hne ?_ rfl ?_ (congrArg SemLoc.dma (sem_at (a := 0) rfl _ ?_)) (congrArg SemLoc.dma (sem_at (a := 1) rfl _ ?_)) ?_ hB <;>
            [decide; (clear hh hne hB h; revert c; decide +kernel); (clear hh hne hB h; revert c; decide +kernel); (clear hh hne hB h; revert c; decide +kernel); (clear hh hne hB h; revert c; decide +kernel); decide]); skip]
    | with_reducible refine step_pure ?_
    | refine step_bind ?_; first
    | rw [k0_part61_eq_skeleton]; unfold k0_part61_skel
    | rw [k0_part62_eq_skeleton]; unfold k0_part62_skel
    | rw [k0_part63_eq_skeleton]; unfold k0_part63_skel
  -- the running sum
  refine (rs_start (F := F) (I := I) (K := K) (c := c)).trans ?_
  repeat first
    | (with_reducible refine ld_own ?_ ?_) <;> [(clear h; revert c; decide +kernel); skip]
    | with_reducible refine ld_a ?_
    | with_reducible refine ld_a_any fun _ => ?_
    | (with_reducible refine st_a _ ?_ ?_) <;> [rfl; skip]
    | (with_reducible refine step_rw _ ?_ ?_ (sem_at (a := 1) rfl _ ?_) ?_ ?_) <;> [decide; decide; decide; rfl; skip]
    | (with_reducible refine ld_slot _ ?_ ?_ ?_ ?_) <;> [decide; decide; rfl; skip]
    | with_reducible refine ld_d fun _ => ?_
    | (with_reducible refine st_d ?_ ?_) <;> [rfl; skip]
    | with_reducible refine step_pure ?_
    | refine step_bind ?_; first
    | rw [k0_part64_eq_skeleton]; unfold k0_part64_skel
    | rw [k0_part65_eq_skeleton]; unfold k0_part65_skel
    | rw [k0_part66_eq_skeleton]; unfold k0_part66_skel
    | rw [k0_part67_eq_skeleton]; unfold k0_part67_skel
    | rw [k0_part68_eq_skeleton]; unfold k0_part68_skel
    | rw [k0_part69_eq_skeleton]; unfold k0_part69_skel
    | rw [k0_part70_eq_skeleton]; unfold k0_part70_skel
    | rw [k0_part71_eq_skeleton]; unfold k0_part71_skel
    | rw [k0_part72_eq_skeleton]; unfold k0_part72_skel
    | rw [k0_part73_eq_skeleton]; unfold k0_part73_skel
    | rw [k0_part74_eq_skeleton]; unfold k0_part74_skel
    | rw [k0_part75_eq_skeleton]; unfold k0_part75_skel
    | rw [k0_part76_eq_skeleton]; unfold k0_part76_skel
    | rw [k0_part77_eq_skeleton]; unfold k0_part77_skel
    | rw [k0_part78_eq_skeleton]; unfold k0_part78_skel
    | rw [k0_part79_eq_skeleton]; unfold k0_part79_skel
    | rw [k0_part80_eq_skeleton]; unfold k0_part80_skel
  -- the sends of the rounded sum
  repeat first
    | (with_reducible refine step_ag _ ?_ ?_ ?_ ?_ (congrArg SemLoc.dma (sem_at (a := 2) rfl _ ?_)) (congrArg SemLoc.dma (sem_at (a := 3) rfl _ ?_)) ?_) <;>
        [decide; decide; (clear h; revert c; decide +kernel); (clear h; revert c; decide +kernel); decide; decide; skip]
    | with_reducible refine ld_red ?_
    | (with_reducible refine ld_o ?_ fun _ => ?_) <;> [(clear h; revert c; decide +kernel); skip]
    | with_reducible refine step_pure ?_
    | refine step_bind ?_; first
    | rw [k0_part81_eq_skeleton]; unfold k0_part81_skel
    | rw [k0_part82_eq_skeleton]; unfold k0_part82_skel
    | rw [k0_part83_eq_skeleton]; unfold k0_part83_skel
    | rw [k0_part84_eq_skeleton]; unfold k0_part84_skel
    | rw [k0_part85_eq_skeleton]; unfold k0_part85_skel
    | rw [k0_part86_eq_skeleton]; unfold k0_part86_skel
    | rw [k0_part87_eq_skeleton]; unfold k0_part87_skel
    | rw [k0_part88_eq_skeleton]; unfold k0_part88_skel
    | rw [k0_part89_eq_skeleton]; unfold k0_part89_skel
    | rw [k0_part90_eq_skeleton]; unfold k0_part90_skel
  (with_reducible refine st_o (F := F) (I := I) (K := K) (c := c) (own_rows c) ?_ ?_ ?_) <;> [decide; rfl; skip]
  -- the waits of the second exchange
  repeat first
    | (with_reducible refine step_aw (F := F) (I := I) (K := K) (c := c) _ ?_ ?_ (sem_at (a := 3) rfl _ ?_) ?_ ?_) <;> [decide; decide; decide; rfl; skip]
    | with_reducible refine step_pure ?_
    | refine step_bind ?_; first
    | rw [k0_part91_eq_skeleton]; unfold k0_part91_skel
    | rw [k0_part92_eq_skeleton]; unfold k0_part92_skel
    | rw [k0_part93_eq_skeleton]; unfold k0_part93_skel
    | rw [k0_part94_eq_skeleton]; unfold k0_part94_skel
    | rw [k0_part95_eq_skeleton]; unfold k0_part95_skel
    | rw [k0_part96_eq_skeleton]; unfold k0_part96_skel
    | rw [k0_part97_eq_skeleton]; unfold k0_part97_skel
    | rw [k0_part98_eq_skeleton]; unfold k0_part98_skel
    | rw [k0_part99_eq_skeleton]; unfold k0_part99_skel
    | rw [k0_part100_eq_skeleton]; unfold k0_part100_skel
  -- the waits for the sends
  refine (fin_start (F := F) (I := I) (K := K) (c := c)).trans ?_
  repeat first
    | (with_reducible refine step_f0 (F := F) (I := I) (K := K) (c := c) _ ?_ ?_ (sem_at (a := 0) rfl _ ?_) ?_ ?_) <;> [decide; decide; decide; rfl; skip]
    | (with_reducible refine step_f2 (F := F) (I := I) (K := K) (c := c) _ ?_ ?_ (sem_at (a := 2) rfl _ ?_) ?_ ?_) <;> [decide; decide; decide; rfl; skip]
    | with_reducible refine step_pure ?_
    | refine step_bind ?_; first
    | rw [k0_part101_eq_skeleton]; unfold k0_part101_skel
    | rw [k0_part102_eq_skeleton]; unfold k0_part102_skel
    | rw [k0_part103_eq_skeleton]; unfold k0_part103_skel
    | rw [k0_part104_eq_skeleton]; unfold k0_part104_skel
    | rw [k0_part105_eq_skeleton]; unfold k0_part105_skel
    | rw [k0_part106_eq_skeleton]; unfold k0_part106_skel
    | rw [k0_part107_eq_skeleton]; unfold k0_part107_skel
    | rw [k0_part108_eq_skeleton]; unfold k0_part108_skel
    | rw [k0_part109_eq_skeleton]; unfold k0_part109_skel
    | rw [k0_part110_eq_skeleton]; unfold k0_part110_skel
  exact h

end

end Cert.KernelIdeal.Fused

end

end
-- ==== Proof.Body.lean ====
/-
# The body as a whole

Dealing the buffers out at the start, the whole run, and joining everything again at the end.
-/
module

public import proofs.«01_k».proof.Proof.Second

@[expose] public section

noncomputable section

namespace Cert.KernelIdeal.Fused

open Cert.KernelIdeal Cert.KernelIdeal.Gen
open Idealize.ShloMosaic Idealize.ShloMosaic.TcCoe
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ UU ℕ

/-! ## The rows of a buffer and the slots of the landing buffer -/

theorem rowsS_disjoint (b b' : Fin 32) (h : b ≠ b') : Disjoint (rowsS b) (rowsS b') := by
  rw [Finset.disjoint_left]
  intro i hi hi'
  rw [rowsS_mem] at hi hi'
  have hb : b.val ≠ b'.val := fun e => h (Fin.ext e)
  omega
theorem rowsS_cover : Finset.univ.biUnion rowsS = (Finset.univ : Finset S1024x1024.Idx) := by
  ext i
  simp only [Finset.mem_biUnion, Finset.mem_univ, true_and, iff_true]
  have hi : (i 0).val < 1024 := (i 0).isLt
  exact ⟨⟨(i 0).val / 32, by omega⟩, rowsS_mem.mpr ⟨by simp only; omega, by simp only; omega⟩⟩
theorem slotS_mem {k : Fin 32} {i : S32x32x1024.Idx} : i ∈ slotS k ↔ (i 0).val = k.val := by
  rw [slotS, Rect.mem_set_unit]
  constructor
  · intro h
    have h0 : k.val ≤ (i 0).val ∧ (i 0).val < k.val + 1 := h 0
    omega
  · intro h a
    have h1 : (i 1).val < 32 := (i 1).isLt
    have h2 : (i 2).val < 1024 := (i 2).isLt
    fin_cases a
    · show k.val ≤ (i 0).val ∧ (i 0).val < k.val + 1; omega
    · show 0 ≤ (i 1).val ∧ (i 1).val < 0 + 32; omega
    · show 0 ≤ (i 2).val ∧ (i 2).val < 0 + 1024; omega
theorem slotS_disjoint (b b' : Fin 32) (h : b ≠ b') : Disjoint (slotS b) (slotS b') := by
  rw [Finset.disjoint_left]
  intro i hi hi'
  rw [slotS_mem] at hi hi'
  exact h (Fin.ext (hi.symm.trans hi'))
theorem slotS_cover : Finset.univ.biUnion slotS = (Finset.univ : Finset S32x32x1024.Idx) := by
  ext i
  simp only [Finset.mem_biUnion, Finset.mem_univ, true_and, iff_true]
  exact ⟨⟨(i 0).val, (i 0).isLt⟩, slotS_mem.mpr rfl⟩

/-! ## Conjunctions over the devices, seen from one of them -/

/-- Counting places backwards from `c`. -/
def subEquiv (c : Fin 32) : Fin 32 ≃ Fin 32 := ⟨devSub c, devSub c, fun x => devSub_devSub x c, fun x => devSub_devSub x c⟩

section

variable (c : Fin 32) (Φ : Fin 32 → sProp (MT nD τ sig Unit (Elt F) ℕ UU ℕ))

theorem bigSep_zero : bigSep Finset.univ Φ = iprop(Φ 0 ∗ bigSep (rem 1) Φ) := by
  rw [univ_rem, bigSep_ins zero_not_rem]
theorem bigSep_place : bigSep Finset.univ Φ = iprop(Φ c ∗ bigSep (rem 1) fun k => Φ (devAdd c k)) := by
  rw [← bigSep_around c Φ]; exact BI.bigSep_erase (Finset.mem_univ c)
theorem bigSep_back : bigSep Finset.univ Φ = bigSep Finset.univ fun k => Φ (devSub c k) :=
  BI.bigSep_univ_equiv (subEquiv c) Φ
theorem bigSep_back_zero : bigSep Finset.univ Φ = iprop(Φ c ∗ bigSep (rem 1) fun k => Φ (devSub c k)) := by
  rw [bigSep_back c Φ, bigSep_zero fun k => Φ (devSub c k)]
  have h : devSub c 0 = c := by rw [← devSub_self c, devSub_devSub]
  rw [h]

end

section

variable (I : Inp F) (K : Dev nD × Pl → ℕ) (c : Dev nD)

/-! ## What a device starts with -/

/-- The landing buffer and the result's staging buffer, dealt: the own slot and the own rows, and what goes with the signals. -/
theorem deal_buffers (f : Buf (Elt F) (at' c cc0_scratch4)) (g : Buf (Elt F) (at' c cc0_stg7_0)) :
    iprop((at' c cc0_scratch4 ↦[Finset.univ]{fullShare} f) ∗ (at' c cc0_stg7_0 ↦[Finset.univ]{fullShare} g))
      ⊢ (iprop((∃ f : Buf (Elt F) (at' c cc0_scratch4), at' c cc0_scratch4 ↦[slotS 0]{fullShare} f)
        ∗ OSt c ∗ (bigSep (rem 1) fun k => barPay (devAdd c k) c)) : sProp 𝕄) := by
  have h1 : (at' c cc0_scratch4 ↦[Finset.univ]{fullShare} f : sProp 𝕄)
      = iprop((at' c cc0_scratch4 ↦[slotS (devSub c c)]{fullShare} f)
        ∗ bigSep (rem 1) fun k => (at' c cc0_scratch4 ↦[slotS (devSub c (devAdd c k))]{fullShare} f)) := by
    rw [← bigSep_place c fun x => (at' c cc0_scratch4 ↦[slotS (devSub c x)]{fullShare} f : sProp 𝕄),
      ← bigSep_back c fun x => (at' c cc0_scratch4 ↦[slotS x]{fullShare} f : sProp 𝕄)]
    exact Ring.pointsTo_blocks (ℓ := at' c cc0_scratch4) slotS slotS_disjoint slotS_cover f
  have h2 : (at' c cc0_stg7_0 ↦[Finset.univ]{fullShare} g : sProp 𝕄)
      = iprop((at' c cc0_stg7_0 ↦[rowsS c]{fullShare} g)
        ∗ bigSep (rem 1) fun k => (at' c cc0_stg7_0 ↦[rowsS (devAdd c k)]{fullShare} g)) := by
    rw [← bigSep_place c fun x => (at' c cc0_stg7_0 ↦[rowsS x]{fullShare} g : sProp 𝕄)]
    exact Ring.pointsTo_blocks (ℓ := at' c cc0_stg7_0) rowsS rowsS_disjoint rowsS_cover g
  have h3 : iprop((bigSep (rem 1) fun k => (at' c cc0_scratch4 ↦[slotS (devSub c (devAdd c k))]{fullShare} f))
      ∗ (bigSep (rem 1) fun k => (at' c cc0_stg7_0 ↦[rowsS (devAdd c k)]{fullShare} g)))
      ⊢ (bigSep (rem 1) fun k => barPay (devAdd c k) c : sProp 𝕄) := by
    rw [← bigSep_sep']
    have h (k : Fin 32) : iprop((at' c cc0_scratch4 ↦[slotS (devSub c (devAdd c k))]{fullShare} f) ∗ (at' c cc0_stg7_0 ↦[rowsS (devAdd c k)]{fullShare} g))
        ⊢ (barPay (devAdd c k) c : sProp 𝕄) := by
      unfold barPay
      iintro ⟨H1, H2⟩
      isplitl [H1]; · iexists _; iexact H1
      iexists _; iexact H2
    exact bigSep_mono fun k _ => h k
  rw [h1, h2, devSub_self]
  unfold OSt
  iintro ⟨⟨H0, H1⟩, ⟨H2, H3⟩⟩
  isplitl [H0]; · iexists _; iexact H0
  isplitl [H2]; · iexists _; iexact H2
  iapply h3
  isplitl [H1]; · iexact H1
  iexact H3

/-! ## What a device ends with -/

/-- What the body does not touch: the own slot of the landing buffer and the places of the own place of the table. -/
def Ry (c : Dev nD) : sProp (MT nD τ sig Unit (Elt F) ℕ UU ℕ) :=
  iprop((∃ f : Buf (Elt F) (at' c cc0_scratch4), at' c cc0_scratch4 ↦[slotS 0]{fullShare} f)
    ∗ (bigSep Finset.univ fun a : Fin 4 => atPos ER (dmaCell c a 0) 0 ∅ 0))

/-- A whole scratch buffer at some contents. -/
def Any (c : Dev nD) (b : Ref sig .tc) : sProp (MT nD τ sig Unit (Elt F) ℕ UU ℕ) :=
  iprop(∃ f : Buf (Elt F) (at' c b), at' c b ↦{fullShare} f)

/-- The body's end on one device. -/
def End : sProp (MT nD τ sig Unit (Elt F) ℕ UU ℕ) :=
  iprop((∃ W, owes (c : Thread nD τ) 0 W) ∗ Ins I c ∗ (at' c cc0_stg7_0 ↦{fullShare} OV I)
    ∗ (Any c cc0_scratch0 ∗ Any c cc0_scratch1 ∗ Any c cc0_scratch2 ∗ Any c cc0_scratch3 ∗ Any c cc0_scratch4 ∗ Any c cc0_scratch5 ∗ Any c cc0_scratch6)
    ∗ semVal (barCell c) 0 ∗ (bigSep Finset.univ fun ak : Fin 4 × Fin 32 => semVal (dmaCell c ak.1 ak.2) 0))

theorem out_join : iprop(outPts I c c ∗ bigSep (rem 1) fun k => outPts I c (devSub c k)) ⊢ (at' c cc0_stg7_0 ↦{fullShare} OV I : sProp 𝕄) := by
  rw [← bigSep_back_zero c fun x => outPts I c x]
  exact Entails.of_eq (Ring.pointsTo_blocks (ℓ := at' c cc0_stg7_0) rowsS rowsS_disjoint rowsS_cover (OV I)).symm
theorem part_join : iprop(partPts I c c ∗ bigSep (rem 1) fun k => partPts I c (devAdd c k)) ⊢ (Any c cc0_scratch3 : sProp 𝕄) := by
  rw [← bigSep_place c fun x => partPts I c x]
  have h : (at' c cc0_scratch3 ↦{fullShare} PV I c : sProp 𝕄) ⊢ Any c cc0_scratch3 := by
    unfold Any; iintro H; iexists _; iexact H
  exact BIBase.Entails.trans (Entails.of_eq (Ring.pointsTo_blocks (ℓ := at' c cc0_scratch3) rowsS rowsS_disjoint rowsS_cover (PV I c)).symm) h
theorem slot_join : iprop((∃ f : Buf (Elt F) (at' c cc0_scratch4), at' c cc0_scratch4 ↦[slotS 0]{fullShare} f) ∗ bigSep (rem 1) fun k => slotPts I c k)
    ⊢ (Any c cc0_scratch4 : sProp 𝕄) := by
  have h : iprop((∃ f : Buf (Elt F) (at' c cc0_scratch4), at' c cc0_scratch4 ↦[slotS 0]{fullShare} f) ∗ bigSep (rem 1) fun k => slotPts I c k)
      ⊢ (bigSep Finset.univ fun k => iprop(∃ f : Buf (Elt F) (at' c cc0_scratch4), at' c cc0_scratch4 ↦[slotS k]{fullShare} f) : sProp 𝕄) := by
    rw [bigSep_zero fun k => iprop(∃ f : Buf (Elt F) (at' c cc0_scratch4), at' c cc0_scratch4 ↦[slotS k]{fullShare} f)]
    have h0 (k : Fin 32) : slotPts I c k ⊢ (iprop(∃ f : Buf (Elt F) (at' c cc0_scratch4), at' c cc0_scratch4 ↦[slotS k]{fullShare} f) : sProp 𝕄) := by
      unfold slotPts; iintro H; iexists _; iexact H
    have h' : (bigSep (rem 1) fun k => slotPts I c k)
        ⊢ (bigSep (rem 1) fun k => iprop(∃ f : Buf (Elt F) (at' c cc0_scratch4), at' c cc0_scratch4 ↦[slotS k]{fullShare} f) : sProp 𝕄) :=
      bigSep_mono fun k _ => h0 k
    iintro ⟨H0, H1⟩
    isplitl [H0]; · iexact H0
    iapply h'; iexact H1
  exact h.trans (Ring.pointsTo_blocks_join_exists (ℓ := at' c cc0_scratch4) slotS slotS_disjoint slotS_cover (RV I c))
theorem red_join : iprop(dKeep I c ∗ redTok I c 0 ∗ bigSep (rem 1) fun k => redTok I c k) ⊢ (Any c cc0_scratch6 : sProp 𝕄) := by
  rw [← bigSep_zero fun k => redTok I c k]
  refine BIBase.Entails.trans ?_ (show (at' c cc0_scratch6 ↦{fullShare} redV I c : sProp 𝕄) ⊢ Any c cc0_scratch6 by
    unfold Any; iintro H; iexists _; iexact H)
  exact (Transfers.pointsTo_toks fullShare 32).2

theorem wt_split (a : Fin 4) : Wt I c a 32 ⊢ (iprop((bigSep (rem 1) fun k => semVal (dmaCell c a k) 0) ∗ (bigSep (rem 1) fun k => dmaPay I c a k)) : sProp 𝕄) := by
  unfold Wt
  rw [done_end]
  iintro ⟨-, H⟩
  iapply (show (bigSep (rem 1) fun k => Dn I c a k) ⊢ (iprop((bigSep (rem 1) fun k => semVal (dmaCell c a k) 0) ∗ (bigSep (rem 1) fun k => dmaPay I c a k)) : sProp 𝕄) by
    unfold Dn; rw [bigSep_sep'])
  iexact H

/-- The places nothing is sent to are closed unused. -/
theorem close_own (a : Fin 4) : iprop(records I K ∗ atPos ER (dmaCell c a 0) 0 ∅ 0) ⊢ (iprop(|={Set.univ}=> semVal (dmaCell c a 0) 0) : sProp 𝕄) := by
  iintro ⟨#Hrec, Hat⟩
  ihave #HI := (records_inv I K (c, some (a, 0))) $$ Hrec
  iapply (Rounds.cell_close ER (fusedRd I) (Set.mem_univ (K (c, some (a, 0)))) (fun h => h) (R := 0) (duties_dma0 I c a))
  isplitr; · iexact HI
  iexact Hat

theorem close_all : iprop(records I K ∗ bigSep Finset.univ fun a : Fin 4 => atPos ER (dmaCell c a 0) 0 ∅ 0)
    ⊢ (iprop(|={Set.univ}=> bigSep Finset.univ fun a : Fin 4 => semVal (dmaCell c a 0) 0) : sProp 𝕄) := by
  have h : iprop((bigSep Finset.univ fun _ : Fin 4 => records I K) ∗ bigSep Finset.univ fun a : Fin 4 => atPos ER (dmaCell c a 0) 0 ∅ 0)
      ⊢ (bigSep Finset.univ fun a : Fin 4 => iprop(|={Set.univ}=> semVal (dmaCell c a 0) 0) : sProp 𝕄) := by
    rw [← bigSep_sep']
    exact bigSep_mono fun a _ => close_own I K c a
  refine BIBase.Entails.trans ?_ (h.trans (bigSep_fupd Finset.univ _))
  iintro ⟨#Hrec, H⟩
  isplitr
  · iapply (bigSep_of_persistent (I := Fin 4) Finset.univ (records I K)); iexact Hrec
  iexact H

theorem bigSep_fin4 (Ψ : Fin 4 → sProp (MT nD τ sig Unit (Elt F) ℕ UU ℕ)) : bigSep Finset.univ Ψ = iprop(Ψ 0 ∗ Ψ 1 ∗ Ψ 2 ∗ Ψ 3) := by
  rw [show (Finset.univ : Finset (Fin 4)) = {0, 1, 2, 3} from by decide, bigSep_ins (by decide), bigSep_ins (by decide), bigSep_ins (by decide),
    BI.bigSep_singleton]

theorem sems_join (Φ : Fin 4 → Fin 32 → sProp (MT nD τ sig Unit (Elt F) ℕ UU ℕ)) :
    iprop((bigSep Finset.univ fun a : Fin 4 => Φ a 0) ∗ (bigSep (rem 1) fun k => Φ 0 k) ∗ (bigSep (rem 1) fun k => Φ 1 k)
      ∗ (bigSep (rem 1) fun k => Φ 2 k) ∗ (bigSep (rem 1) fun k => Φ 3 k))
      = bigSep Finset.univ fun ak : Fin 4 × Fin 32 => Φ ak.1 ak.2 := by
  rw [BI.bigSep_univ_prod (fun ak : Fin 4 × Fin 32 => Φ ak.1 ak.2)]
  have e : (fun a : Fin 4 => bigSep Finset.univ fun b : Fin 32 => Φ a b)
      = fun a => iprop(Φ a 0 ∗ bigSep (rem 1) fun k => Φ a k) := funext fun a => bigSep_zero (Φ a)
  show _ = bigSep Finset.univ fun a : Fin 4 => bigSep Finset.univ fun b : Fin 32 => Φ a b
  rw [e, bigSep_sep']
  congr 1
  exact (bigSep_fin4 fun a : Fin 4 => bigSep (rem 1) fun k => Φ a k).symm

theorem body_end : FnSt I K c 32 32 (Left I c (Ry c)) ⊢ (iprop(|={Set.univ}=> End I c) : sProp 𝕄) := by
  unfold FnSt Left Ry ComSt ASt
  iintro ⟨#Hrec, HO, Hw0, Hw2, Hw3, Hout, Hd, ⟨Hins, Hq, Hk, Hv⟩, Hbar, Ht0, Hw1, ⟨%fa, -, Ha⟩, Hp, Hs, Hat⟩
  imod (close_all I K c) $$ [Hat] with Hz
  · isplitr; · iexact Hrec
    iexact Hat
  imodintro
  ihave H0 := (wt_split I c 0) $$ Hw0
  icases H0 with ⟨Hz0, Hp0⟩
  ihave H1 := (wt_split I c 1) $$ Hw1
  icases H1 with ⟨Hz1, Hp1⟩
  ihave H2 := (wt_split I c 2) $$ Hw2
  icases H2 with ⟨Hz2, Hp2⟩
  ihave H3 := (wt_split I c 3) $$ Hw3
  icases H3 with ⟨Hz3, Hp3⟩
  unfold End
  isplitl [HO]; · iexact HO
  isplitl [Hins]; · iexact Hins
  isplitl [Hout Hp3]
  · iapply (out_join I c)
    isplitl [Hout]; · iexact Hout
    iexact Hp3
  isplitl [Hq Hk Hv Hp Hp0 Hs Hp1 Ha Hd Ht0 Hp2]
  · isplitl [Hq]; · unfold Any; iexists _; iexact Hq
    isplitl [Hk]; · unfold Any; iexists _; iexact Hk
    isplitl [Hv]; · unfold Any; iexists _; iexact Hv
    isplitl [Hp Hp0]
    · iapply (part_join I c)
      isplitl [Hp]; · iexact Hp
      iexact Hp0
    isplitl [Hs Hp1]
    · iapply (slot_join I c)
      isplitl [Hs]; · iexact Hs
      iexact Hp1
    isplitl [Ha]; · unfold Any; iexists _; iexact Ha
    iapply (red_join I c)
    isplitl [Hd]; · iexact Hd
    isplitl [Ht0]; · iexact Ht0
    iexact Hp2
  isplitl [Hbar]; · iexact Hbar
  rw [← sems_join fun a k => (semVal (dmaCell c a k) 0 : sProp 𝕄)]
  isplitl [Hz]; · iexact Hz
  isplitl [Hz0]; · iexact Hz0
  isplitl [Hz1]; · iexact Hz1
  isplitl [Hz2]; · iexact Hz2
  iexact Hz3

end

/-! ## The body -/

section

variable {I : Inp F} {K : Dev nD × Pl → ℕ} {c : Dev nD}

theorem step_end {Q : PUnit → sProp (MT nD τ sig Unit (Elt F) ℕ UU ℕ)} {St : sProp (MT nD τ sig Unit (Elt F) ℕ UU ℕ)}
    (h : St ⊢ iprop(|={Set.univ}=> Q ⟨⟩)) : St ⊢ WP c (pure ⟨⟩ : P F PUnit) Q := by
  unfold WP; rw [wp_pure]; exact h

theorem run_body : SigSt I K c 1 iprop(cred (tallyAt (barCell c) () 31) ∗ atPos ER (barCell c) 0 ∅ 0 ∗ HeadSt I c 0 0 0 (BlkIn c (TailIn c (Ry c))))
    ⊢ WP c (cc0__fused_body (F := F) xM (Memref.isWhole_whole _) wqM (Memref.isWhole_whole _) wkM (Memref.isWhole_whole _) wvM (Memref.isWhole_whole _)
        woM (Memref.isWhole_whole _) cosM (Memref.isWhole_whole _) sinM (Memref.isWhole_whole _) oM (Memref.isWhole_whole _)
        qM (Memref.isWhole_whole _) kM (Memref.isWhole_whole _) vM (Memref.isWhole_whole _) pM (Memref.isWhole_whole _)
        rM (Memref.isWhole_whole _) aM (Memref.isWhole_whole _) dM (Memref.isWhole_whole _)
        cc0_scratch7 cc0_scratch8 cc0_scratch9 cc0_scratch10) fun _ => End I c := by
  rw [cc0__fused_body_eq_skeleton]
  unfold cc0__fused_body_skel
  refine step_bind ?_
  refine run_first (F := F) (I := I) (K := K) (c := c) fun v2 => ?_
  refine step_bind ?_
  refine run_second (F := F) (I := I) (K := K) (c := c) v2 ?_
  repeat first
    | (with_reducible refine step_f0 (F := F) (I := I) (K := K) (c := c) _ ?_ ?_ (sem_at (a := 0) rfl _ ?_) ?_ ?_) <;> [decide; decide; decide; rfl; skip]
    | (with_reducible refine step_f2 (F := F) (I := I) (K := K) (c := c) _ ?_ ?_ (sem_at (a := 2) rfl _ ?_) ?_ ?_) <;> [decide; decide; decide; rfl; skip]
  refine step_end ?_
  exact body_end I K c

end

end Cert.KernelIdeal.Fused

end

end
-- ==== Proof.Deal.lean ====
/-
# What the launch deals each device

The ghost state of the two exchanges, its tokens dealt around, and the credit each device starts with.
-/
module

public import proofs.«01_k».proof.Proof.Body

@[expose] public section

noncomputable section

namespace Cert.KernelIdeal.Fused

open Cert.KernelIdeal Cert.KernelIdeal.Gen
open Idealize.ShloMosaic Idealize.ShloMosaic.TcCoe
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ UU ℕ

/-! ## Conjunctions over the places of a device -/

theorem bigSep_pl (Φ : Pl → sProp (MT nD τ sig Unit (Elt F) ℕ UU ℕ)) :
    bigSep Finset.univ Φ = iprop(Φ none ∗ bigSep Finset.univ fun ak : Fin 4 × Fin 32 => Φ (some ak)) := by
  have e : (Finset.univ : Finset Pl) = insert none (Finset.univ.map Function.Embedding.some) := by
    ext x; cases x <;> simp
  rw [e, bigSep_ins (by simp), bigSep_map]; rfl
theorem bigSep_places (Φ : Fin 4 → Fin 32 → sProp (MT nD τ sig Unit (Elt F) ℕ UU ℕ)) :
    (bigSep Finset.univ fun ak : Fin 4 × Fin 32 => Φ ak.1 ak.2)
      = iprop((bigSep Finset.univ fun k => Φ 0 k) ∗ (bigSep Finset.univ fun k => Φ 1 k)
        ∗ (bigSep Finset.univ fun k => Φ 2 k) ∗ (bigSep Finset.univ fun k => Φ 3 k)) := by
  rw [BI.bigSep_univ_prod (fun ak : Fin 4 × Fin 32 => Φ ak.1 ak.2)]
  exact bigSep_fin4 fun a => bigSep Finset.univ fun k => Φ a k
theorem bigSep_swap {α β : Type} [Fintype α] [Fintype β] (Φ : α → β → sProp (MT nD τ sig Unit (Elt F) ℕ UU ℕ)) :
    (bigSep Finset.univ fun a => bigSep Finset.univ fun b => Φ a b) = bigSep Finset.univ fun b => bigSep Finset.univ fun a => Φ a b := by
  rw [← BI.bigSep_univ_prod (fun x : α × β => Φ x.1 x.2), BI.bigSep_univ_equiv (Equiv.prodComm β α) (fun x : α × β => Φ x.1 x.2),
    BI.bigSep_univ_prod]
  rfl

/-- Moving by `k` places. -/
def addEquiv (k : Fin 32) : Fin 32 ≃ Fin 32 :=
  ⟨fun c => devAdd c k, fun x => devSub x k, fun c => devSub_devAdd c k, fun x => Fin.ext (by
    show (devAdd (devSub x k) k).val = _
    rw [devAdd_val, devSub_val]; have := x.isLt; have := k.isLt; omega)⟩

/-! ## The ghost state of the launch -/

def ringCells : Finset (GSem nD τ sig) := Finset.univ.map ⟨kcell, kcell_injective⟩
def tokOf (x : (Dev nD × Pl) × Fin 32) : GSem nD τ sig × ℕ × Fin 32 := (kcell x.1, 0, x.2)
theorem tokOf_injective : Function.Injective tokOf := fun x y h => by
  have h1 : kcell x.1 = kcell y.1 := congrArg Prod.fst h
  have h2 : x.2 = y.2 := congrArg (fun z : GSem nD τ sig × ℕ × Fin 32 => z.2.2) h
  exact Prod.ext (kcell_injective h1) h2
def ringToks : Finset (GSem nD τ sig × ℕ × Fin 32) := Finset.univ.map ⟨tokOf, tokOf_injective⟩

def u₀ : UU := (initOf (Pipeline.cells cfgs cellOf_inj) (Pipeline.launchToks cfgs cellOf_inj), initOf ringCells ringToks)

section

variable (I : Inp F)

/-- The tokens of the duties of a device's own cells. -/
def toks (c : Dev nD) : sProp (MT nD τ sig Unit (Elt F) ℕ UU ℕ) :=
  bigSep Finset.univ fun p : Pl => bigSep Finset.univ fun d : Fin 32 => dutyTok ER (kcell (c, p)) 0 d
/-- What the launch deals a device. -/
def G (c : Dev nD) : sProp (MT nD τ sig Unit (Elt F) ℕ UU ℕ) :=
  iprop((bigSep Finset.univ fun p : Pl => roundState ER (fusedRd I) (kcell (c, p)) 0)
    ∗ (bigSep Finset.univ fun p : Pl => iprop(atPos ER (kcell (c, p)) 0 ∅ 0 ∗ reached ER (kcell (c, p)) 0)) ∗ toks c)

theorem fund_ring : BI.own ((ER (F := F)) (initOf ringCells ringToks)) ⊢ (|==> bigSep Finset.univ (G I) : sProp 𝕄) := by
  have hX (Φ : GSem nD τ sig → sProp 𝕄) : bigSep ringCells Φ = bigSep Finset.univ fun c : Dev nD => bigSep Finset.univ fun p : Pl => Φ (kcell (c, p)) := by
    unfold ringCells; rw [bigSep_map, BI.bigSep_univ_prod]; rfl
  have hT : bigSep ringToks (fun x => (dutyTok ER x.1 x.2.1 x.2.2 : sProp 𝕄)) = bigSep Finset.univ fun c : Dev nD => toks c := by
    unfold ringToks; rw [bigSep_map, BI.bigSep_univ_prod, BI.bigSep_univ_prod]; rfl
  iintro HX
  imod (Rounds.fund ER (fusedRd I) ringCells ringToks) $$ HX with ⟨Hst, Hr, Hat, Htok⟩
  imodintro
  ihave Hst' := (Entails.of_eq (hX fun g => roundState ER (fusedRd I) g 0)) $$ Hst
  ihave Hat' := (Entails.of_eq (hX fun g => atPos ER g 0 ∅ 0)) $$ Hat
  ihave Hr' := (Entails.of_eq (hX fun g => reached ER g 0)) $$ Hr
  ihave Htok' := (Entails.of_eq hT) $$ Htok
  unfold G; simp only [bigSep_sep']
  isplitl [Hst']; · iexact Hst'
  isplitl [Hat' Hr']
  · isplitl [Hat'] <;> iassumption
  iexact Htok'

/-! ## The semaphores -/

/-- The semaphores of the two exchanges. -/
def osem (ak : Fin 4 × Fin 32) : SemLoc sig := SemLoc.dma (semOf ak.1 ak.2)

theorem ownSems0_eq (c : Dev nD) : (Pipeline.ownSems0 (Ix := Unit) (Name := ℕ) (U := UU) (Lvl := ℕ) (Val := Elt F) (τ := τ) osem c : sProp 𝕄)
    = bigSep Finset.univ fun ak : Fin 4 × Fin 32 => semVal (dmaCell c ak.1 ak.2) 0 := rfl
theorem unscopedSems0_eq (c : Dev nD) : (unscopedSems0 c : sProp 𝕄) = semVal (barCell c) 0 := by
  unfold unscopedSems0
  rw [show (Finset.univ.filter fun sm : SemLoc sig => ¬ sm.isScoped .tc) = {SemLoc.reg barS} from by decide +kernel, BI.bigSep_singleton]
  rfl

theorem core_alloc (c : Dev nD) :
    iprop(Pipeline.ownSems0 (Ix := Unit) (Name := ℕ) (U := UU) (Lvl := ℕ) (Val := Elt F) (τ := τ) osem c ∗ unscopedSems0 c ∗ G I c)
      ⊢ |={Set.univ}=> iprop((bigSep Finset.univ fun p : Pl => iprop(∃ κ : ℕ, cellInv ER (fusedRd I) κ (kcell (c, p))))
          ∗ (bigSep Finset.univ fun p : Pl => iprop(atPos ER (kcell (c, p)) 0 ∅ 0 ∗ reached ER (kcell (c, p)) 0)) ∗ toks c) := by
  have h : iprop((bigSep Finset.univ fun p : Pl => semVal (kcell (c, p)) 0) ∗ bigSep Finset.univ fun p : Pl => roundState ER (fusedRd I) (kcell (c, p)) 0)
      ⊢ (|={Set.univ}=> bigSep Finset.univ fun p : Pl => iprop(∃ κ : ℕ, cellInv ER (fusedRd I) κ (kcell (c, p))) : sProp 𝕄) := by
    rw [← bigSep_sep']
    exact (bigSep_mono fun p _ => (Rounds.body_intro ER (fusedRd I) (kcell (c, p))).trans inv_alloc).trans (bigSep_fupd _ _)
  rw [ownSems0_eq, unscopedSems0_eq]
  unfold G
  iintro ⟨Hos, Hus, Hst, Hat, Htok⟩
  imod h $$ [Hos Hus Hst] with Hinv
  · isplitl [Hos Hus]
    · rw [bigSep_pl fun p : Pl => (semVal (kcell (c, p)) 0 : sProp 𝕄)]
      isplitl [Hus]; · iexact Hus
      iexact Hos
    iexact Hst
  imodintro
  isplitl [Hinv]; · iexact Hinv
  isplitl [Hat]; · iexact Hat
  iexact Htok

/-! ## Dealing the tokens around -/

/-- The tokens of the duties a device pays. -/
def payToks (c : Dev nD) : sProp (MT nD τ sig Unit (Elt F) ℕ UU ℕ) :=
  iprop((bigSep (rem 1) fun k => dutyTok ER (barCell (devAdd c k)) 0 c)
    ∗ (bigSep (Finset.univ.erase c) fun x => iprop(dutyTok ER (dmaCell c 0 (devSub x c)) 0 0 ∗ dutyTok ER (dmaCell x 1 (devSub x c)) 0 0))
    ∗ (bigSep (rem 1) fun k => iprop(dutyTok ER (dmaCell c 2 k) 0 0 ∗ dutyTok ER (dmaCell (devAdd c k) 3 k) 0 0)))

section

variable (T : Dev nD → Pl → Fin 32 → sProp (MT nD τ sig Unit (Elt F) ℕ UU ℕ))

theorem toks_split (c : Dev nD) : (bigSep Finset.univ fun p : Pl => bigSep Finset.univ fun d : Fin 32 => T c p d)
    ⊢ iprop((bigSep Finset.univ fun d => T c none d) ∗ (bigSep Finset.univ fun k => T c (some (0, k)) 0) ∗ (bigSep Finset.univ fun k => T c (some (1, k)) 0)
      ∗ (bigSep Finset.univ fun k => T c (some (2, k)) 0) ∗ (bigSep Finset.univ fun k => T c (some (3, k)) 0)) := by
  rw [bigSep_pl, ← bigSep_places fun a k => T c (some (a, k)) 0]
  have h : (bigSep Finset.univ fun ak : Fin 4 × Fin 32 => bigSep Finset.univ fun d : Fin 32 => T c (some ak) d)
      ⊢ (bigSep Finset.univ fun ak : Fin 4 × Fin 32 => T c (some (ak.1, ak.2)) 0 : sProp 𝕄) :=
    bigSep_mono fun ak _ => bigSep_elim (Finset.mem_univ 0)
  iintro ⟨H1, H2⟩
  isplitl [H1]; · iexact H1
  iapply h; iexact H2

theorem deal_bar : (bigSep Finset.univ fun c => bigSep Finset.univ fun d => T c none d)
    ⊢ (bigSep Finset.univ fun c => bigSep (rem 1) fun k => T (devAdd c k) none c : sProp 𝕄) := by
  rw [bigSep_swap fun c d => T c none d]
  refine bigSep_mono fun c _ => ?_
  rw [← bigSep_around c fun x => T x none c]
  exact bigSep_subset (Finset.subset_univ _)
theorem deal_rsSend : (bigSep Finset.univ fun c => bigSep Finset.univ fun k => T c (some (0, k)) 0)
    ⊢ (bigSep Finset.univ fun c => bigSep (Finset.univ.erase c) fun x => T c (some (0, devSub x c)) 0 : sProp 𝕄) := by
  refine bigSep_mono fun c _ => ?_
  rw [bigSep_around c fun x => T c (some (0, devSub x c)) 0]
  simp only [devAdd_sub]
  exact bigSep_subset (Finset.subset_univ _)
theorem deal_rsRecv : (bigSep Finset.univ fun c => bigSep Finset.univ fun k => T c (some (1, k)) 0)
    ⊢ (bigSep Finset.univ fun c => bigSep (Finset.univ.erase c) fun x => T x (some (1, devSub x c)) 0 : sProp 𝕄) := by
  have e : (fun x => bigSep Finset.univ fun k => T x (some (1, k)) 0) = fun x => bigSep Finset.univ fun c => T x (some (1, devSub x c)) 0 :=
    funext fun x => bigSep_back x fun k => T x (some (1, k)) 0
  rw [e, bigSep_swap fun x c => T x (some (1, devSub x c)) 0]
  exact bigSep_mono fun c _ => bigSep_subset (Finset.subset_univ _)
theorem deal_agSend : (bigSep Finset.univ fun c => bigSep Finset.univ fun k => T c (some (2, k)) 0)
    ⊢ (bigSep Finset.univ fun c => bigSep (rem 1) fun k => T c (some (2, k)) 0 : sProp 𝕄) :=
  bigSep_mono fun c _ => bigSep_subset (Finset.subset_univ _)
theorem deal_agRecv : (bigSep Finset.univ fun c => bigSep Finset.univ fun k => T c (some (3, k)) 0)
    ⊢ (bigSep Finset.univ fun c => bigSep (rem 1) fun k => T (devAdd c k) (some (3, k)) 0 : sProp 𝕄) := by
  rw [bigSep_swap fun c k => T c (some (3, k)) 0]
  have e : (fun k => bigSep Finset.univ fun x => T x (some (3, k)) 0) = fun k => bigSep Finset.univ fun c => T (devAdd c k) (some (3, k)) 0 :=
    funext fun k => BI.bigSep_univ_equiv (addEquiv k) fun x => T x (some (3, k)) 0
  rw [e, ← bigSep_swap fun c k => T (devAdd c k) (some (3, k)) 0]
  exact bigSep_mono fun c _ => bigSep_subset (Finset.subset_univ _)

end

theorem toks_around : (bigSep Finset.univ fun c : Dev nD => (toks c : sProp 𝕄)) ⊢ bigSep Finset.univ fun c : Dev nD => payToks c := by
  have h1 : (bigSep Finset.univ fun c : Dev nD => (toks c : sProp 𝕄)) ⊢ _ :=
    bigSep_mono fun c _ => toks_split (fun c p d => (dutyTok ER (kcell (c, p)) 0 d : sProp 𝕄)) c
  refine h1.trans ?_
  unfold payToks
  simp only [bigSep_sep']
  iintro ⟨HB, H0, H1, H2, H3⟩
  isplitl [HB]; · iapply (deal_bar fun c p d => (dutyTok ER (kcell (c, p)) 0 d : sProp 𝕄)); iexact HB
  isplitl [H0 H1]
  · isplitl [H0]; · iapply (deal_rsSend fun c p d => (dutyTok ER (kcell (c, p)) 0 d : sProp 𝕄)); iexact H0
    iapply (deal_rsRecv fun c p d => (dutyTok ER (kcell (c, p)) 0 d : sProp 𝕄)); iexact H1
  isplitl [H2]; · iapply (deal_agSend fun c p d => (dutyTok ER (kcell (c, p)) 0 d : sProp 𝕄)); iexact H2
  iapply (deal_agRecv fun c p d => (dutyTok ER (kcell (c, p)) 0 d : sProp 𝕄)); iexact H3

/-- The records of the launch but for the levels. -/
def recs (K : Dev nD × Pl → ℕ) : sProp (MT nD τ sig Unit (Elt F) ℕ UU ℕ) :=
  iprop((bigSep Finset.univ fun ck => cellInv ER (fusedRd I) (K ck) (kcell ck)) ∗ (bigSep Finset.univ fun ck => reached ER (kcell ck) 0))
instance recs_persistent (K : Dev nD × Pl → ℕ) : BI.Persistent (recs I K) := by unfold recs; infer_instance
/-- What is a device's alone. -/
def linear (c : Dev nD) : sProp (MT nD τ sig Unit (Elt F) ℕ UU ℕ) :=
  iprop((bigSep Finset.univ fun p : Pl => atPos ER (kcell (c, p)) 0 ∅ 0) ∗ payToks c)
def G' (c : Dev nD) : sProp (MT nD τ sig Unit (Elt F) ℕ UU ℕ) := iprop(∃ K, recs I K ∗ linear c)

theorem bigSep_with_persistent {J : Type} [DecidableEq J] {S : Finset J} {R : sProp (MT nD τ sig Unit (Elt F) ℕ UU ℕ)} [BI.Persistent R]
    {Φ Ψ : J → sProp (MT nD τ sig Unit (Elt F) ℕ UU ℕ)} (h : ∀ i ∈ S, iprop(R ∗ Φ i) ⊢ Ψ i) : iprop(R ∗ bigSep S Φ) ⊢ bigSep S Ψ :=
  (sep_mono_left (bigSep_of_persistent S R)).trans (by rw [← bigSep_sep']; exact bigSep_mono h)

theorem regroup :
    (bigSep Finset.univ fun c : Dev nD => iprop((bigSep Finset.univ fun p : Pl => iprop(∃ κ : ℕ, cellInv ER (fusedRd I) κ (kcell (c, p))))
          ∗ (bigSep Finset.univ fun p : Pl => iprop(atPos ER (kcell (c, p)) 0 ∅ 0 ∗ reached ER (kcell (c, p)) 0)) ∗ toks c) : sProp 𝕄)
      ⊢ bigSep Finset.univ (G' I) := by
  rw [bigSep_sep', bigSep_sep', ← BI.bigSep_univ_prod (fun ck : Dev nD × Pl => iprop(∃ κ : ℕ, cellInv ER (fusedRd I) κ (kcell ck))),
    bigSep_congr (s := Finset.univ) (fun (c : Dev nD) _ => bigSep_sep' Finset.univ (fun p : Pl => (atPos ER (kcell (c, p)) 0 ∅ 0 : sProp 𝕄)) (fun p => reached ER (kcell (c, p)) 0)),
    bigSep_sep', ← BI.bigSep_univ_prod (fun ck : Dev nD × Pl => (reached ER (kcell ck) 0 : sProp 𝕄))]
  iintro ⟨HI, ⟨Hat, #HR⟩, Htok⟩
  ihave HK := (BI.bigSep_exists_pi Finset.univ (fun (ck : Dev nD × Pl) (κ : ℕ) => (cellInv ER (fusedRd I) κ (kcell ck) : sProp 𝕄))) $$ HI
  icases HK with ⟨%K, #HI⟩
  ihave Htk := (toks_around (F := F)) $$ Htok
  have hg (c : Dev nD) : iprop(recs I K ∗ linear c) ⊢ (G' I c : sProp 𝕄) := by
    unfold G'; iintro H; iexists K; iexact H
  iapply (bigSep_with_persistent (R := recs I K) (Φ := linear) fun c _ => hg c)
  isplitr
  · unfold recs; isplitl; · iexact HI
    iexact HR
  · unfold linear; rw [bigSep_sep']
    isplitl [Hat]; · iexact Hat
    iexact Htk

/-- The step taken for all devices at once. -/
theorem glob : (bigSep Finset.univ fun c => iprop(Pipeline.ownSems0 (Ix := Unit) (Name := ℕ) (U := UU) (Lvl := ℕ) (Val := Elt F) (τ := τ) osem c ∗ unscopedSems0 c ∗ G I c) : sProp 𝕄)
    ⊢ |={Set.univ}=> bigSep Finset.univ (G' I) :=
  ((bigSep_mono fun c _ => core_alloc I c).trans (bigSep_fupd _ _)).trans (BI.fupd_mono (regroup I))

end

/-! ## The credit of the launch -/

theorem sum_tally {ι : Type} (s : Finset ι) (cell : ι → GSem nD τ sig) (n : ℕ) (g : GSem nD τ sig) :
    (∑ k ∈ s, tallyAt (cell k) () n : CellTallies nD τ sig Unit) g () = ∑ k ∈ s, if g = cell k then n else 0 := by
  classical
  induction s using Finset.induction with
  | empty => rfl
  | insert a s ha ih =>
    rw [Finset.sum_insert ha, Finset.sum_insert ha, Pi.add_apply, Finsupp.add_apply, ih, tallyAt_apply]
    congr 1
    by_cases h : g = cell a
    · rw [if_pos ⟨h, rfl⟩, if_pos h]
    · rw [if_neg fun e => h e.1, if_neg h]

theorem kcell_eq {c c' : Dev nD} {p p' : Pl} : kcell (c, p) = kcell (c', p') ↔ c = c' ∧ p = p' :=
  ⟨fun h => ⟨congrArg Prod.fst (kcell_injective h), congrArg Prod.snd (kcell_injective h)⟩, fun ⟨h, h'⟩ => by rw [h, h']⟩

theorem eq_devAdd {c d k : Fin 32} : c = devAdd d k ↔ d = devSub c k :=
  ⟨fun h => by rw [h, devSub_devAdd], fun h => by rw [h]; exact ((addEquiv k).right_inv c).symm⟩

theorem O₀_at (d : Dev nD) (g : GSem nD τ sig) : O₀ d g () = Obar d 1 g () + (Ors d 0 g () + Oag d 1 g ()) := by
  unfold O₀; rw [Pi.add_apply, Finsupp.add_apply, Pi.add_apply, Finsupp.add_apply]

theorem Obar_dma (d c : Dev nD) (a : Fin 4) (k : Fin 32) : Obar d 1 (dmaCell c a k) () = 0 := by
  unfold Obar; rw [sum_tally]
  exact Finset.sum_eq_zero fun j _ => if_neg fun h => by have := (kcell_eq.mp h).2; cases this
theorem Ors_bar (d c : Dev nD) : Ors d 0 (barCell c) () = 0 := by
  unfold Ors; rw [sum_tally]
  exact Finset.sum_eq_zero fun j _ => if_neg fun h => by have := (kcell_eq.mp h).2; cases this
theorem Oag_bar (d c : Dev nD) : Oag d 1 (barCell c) () = 0 := by
  unfold Oag; rw [sum_tally]
  exact Finset.sum_eq_zero fun j _ => if_neg fun h => by have := (kcell_eq.mp h).2; cases this
theorem Ors_ag (d c : Dev nD) (k : Fin 32) : Ors d 0 (dmaCell c 3 k) () = 0 := by
  unfold Ors; rw [sum_tally]
  exact Finset.sum_eq_zero fun j _ => if_neg fun h => by
    have := congrArg Prod.fst (Option.some.inj (kcell_eq.mp h).2)
    exact absurd (congrArg Fin.val this) (by simp only; decide)
theorem Oag_rs (d c : Dev nD) (k : Fin 32) : Oag d 1 (dmaCell c 1 k) () = 0 := by
  unfold Oag; rw [sum_tally]
  exact Finset.sum_eq_zero fun j _ => if_neg fun h => by
    have := congrArg Prod.fst (Option.some.inj (kcell_eq.mp h).2)
    exact absurd (congrArg Fin.val this) (by simp only; decide)

theorem owed_bar (c : Dev nD) : ∑ d : Dev nD, O₀ d (barCell c) () = 31 := by
  have h (d : Dev nD) : O₀ d (barCell c) () = ∑ k ∈ rem 1, if d = devSub c k then 1 else 0 := by
    rw [O₀_at, Ors_bar, Oag_bar]
    refine (Nat.add_zero _).trans ?_
    unfold Obar; rw [sum_tally]
    refine Finset.sum_congr rfl fun k _ => ?_
    exact if_congr ((kcell_eq.trans (and_iff_left rfl)).trans eq_devAdd) rfl rfl
  rw [Finset.sum_congr rfl fun d _ => h d, Finset.sum_comm]
  have h' (k : Fin 32) : (∑ d : Dev nD, if d = devSub c k then 1 else 0) = 1 := by
    rw [Finset.sum_ite_eq' Finset.univ (devSub c k) fun _ => 1, if_pos (Finset.mem_univ _)]
  rw [Finset.sum_congr rfl fun k _ => h' k]
  decide
theorem owed_rs (c : Dev nD) {k : Fin 32} (hk : k ≠ 0) : ∑ d : Dev nD, O₀ d (dmaCell c 1 k) () = N := by
  have h (d : Dev nD) : O₀ d (dmaCell c 1 k) () = if d = devSub c k then N else 0 := by
    rw [O₀_at, Obar_dma, Oag_rs, Nat.add_zero, Nat.zero_add]
    unfold Ors; rw [sum_tally]
    by_cases hd : d = devSub c k
    · rw [if_pos hd]
      have hc : devSub c d = k := by rw [hd, devSub_devSub]
      have hdc : c ≠ d := fun e => hk (by rw [← hc, ← e, devSub_self])
      rw [Finset.sum_eq_single c]
      · rw [if_pos]; rw [hc]
      · intro x _ hx; exact if_neg fun e => hx (kcell_eq.mp e).1.symm
      · intro hx; exact absurd (by simp only [remD, Finset.mem_filter, Finset.mem_univ, true_and]; exact ⟨Nat.zero_le _, hdc⟩) hx
    · rw [if_neg hd]
      refine Finset.sum_eq_zero fun x _ => if_neg fun e => hd ?_
      obtain ⟨e1, e2⟩ := kcell_eq.mp e
      have e3 := congrArg Prod.snd (Option.some.inj e2)
      simp only at e3
      rw [e3, ← e1, devSub_devSub]
  rw [Finset.sum_congr rfl fun d _ => h d, Finset.sum_ite_eq' Finset.univ (devSub c k) fun _ => N, if_pos (Finset.mem_univ _)]
theorem owed_ag (c : Dev nD) {k : Fin 32} (hk : k ∈ rem 1) : ∑ d : Dev nD, O₀ d (dmaCell c 3 k) () = N := by
  have h (d : Dev nD) : O₀ d (dmaCell c 3 k) () = if d = devSub c k then N else 0 := by
    rw [O₀_at, Obar_dma, Ors_ag, Nat.zero_add, Nat.zero_add]
    unfold Oag; rw [sum_tally, Finset.sum_eq_single k]
    · exact if_congr ((kcell_eq.trans (and_iff_left rfl)).trans eq_devAdd) rfl rfl
    · intro j _ hj; exact if_neg fun e => hj (congrArg Prod.snd (Option.some.inj (kcell_eq.mp e).2)).symm
    · intro hx; exact absurd hk hx
  rw [Finset.sum_congr rfl fun d _ => h d, Finset.sum_ite_eq' Finset.univ (devSub c k) fun _ => N, if_pos (Finset.mem_univ _)]

theorem launch_at (g : GSem nD τ sig) (n : ℕ) (h : ∑ d : Dev nD, O₀ d g () = n) :
    tallyOn g (launchCredit (Pipeline.owing O₀) 0 g) = (tallyAt g () n : CellTallies nD τ sig Unit) := by
  unfold tallyAt; refine congrArg _ (Finsupp.ext fun u => ?_); cases u
  rw [Pipeline.launchCredit_owing, Finsupp.single_eq_same, h]

theorem creds (c : Dev nD) :
    (Pipeline.launchCred O₀ c : sProp 𝕄) ⊢ iprop(cred (tallyAt (barCell c) () 31)
      ∗ (bigSep (rem 1) fun k => cred (tallyAt (dmaCell c 1 k) () N)) ∗ (bigSep (rem 1) fun k => cred (tallyAt (dmaCell c 3 k) () N))) := by
  have h0 : (Pipeline.launchCred O₀ c : sProp 𝕄)
      ⊢ bigSep Finset.univ fun p : Pl => cred (tallyOn (kcell (c, p)) (launchCredit (Pipeline.owing O₀) 0 (kcell (c, p)))) := by
    unfold Pipeline.launchCred
    have h := bigSep_subset (M := 𝕄) (s := Finset.univ) (t := Finset.univ.map ⟨csem, csem_injective⟩) (Finset.subset_univ _)
      (Φ := fun sm : SemLoc sig => cred (tallyOn ((c.tc : Thread nD τ), sm) (launchCredit (Pipeline.owing O₀) 0 ((c.tc : Thread nD τ), sm))))
    rw [bigSep_map] at h
    exact h
  refine h0.trans ?_
  rw [bigSep_pl, bigSep_places fun a k => cred (tallyOn (dmaCell c a k) (launchCredit (Pipeline.owing O₀) 0 (dmaCell c a k)))]
  rw [launch_at _ 31 (owed_bar c)]
  have h1 : (bigSep Finset.univ fun k => cred (tallyOn (dmaCell c 1 k) (launchCredit (Pipeline.owing O₀) 0 (dmaCell c 1 k))))
      ⊢ (bigSep (rem 1) fun k => cred (tallyAt (dmaCell c 1 k) () N) : sProp 𝕄) :=
    (bigSep_subset (Finset.subset_univ (rem 1))).trans (bigSep_mono fun k hk => Entails.of_eq (congrArg cred (launch_at _ N (owed_rs c (ne_zero_of_rem hk)))))
  have h3 : (bigSep Finset.univ fun k => cred (tallyOn (dmaCell c 3 k) (launchCredit (Pipeline.owing O₀) 0 (dmaCell c 3 k))))
      ⊢ (bigSep (rem 1) fun k => cred (tallyAt (dmaCell c 3 k) () N) : sProp 𝕄) :=
    (bigSep_subset (Finset.subset_univ (rem 1))).trans (bigSep_mono fun k hk => Entails.of_eq (congrArg cred (launch_at _ N (owed_ag c hk))))
  iintro ⟨HB, -, H1, -, H3⟩
  isplitl [HB]; · iexact HB
  isplitl [H1]; · iapply h1; iexact H1
  iapply h3; iexact H3

end Cert.KernelIdeal.Fused

end

end
-- ==== Proof.Run.lean ====
/-
# The run of the whole program

What the launch needs of the body, and the run of every device from any memory.
-/
module

public import proofs.«01_k».proof.Proof.Deal
public import Idealize.ShloMosaic.Lib.Pipeline.CollectiveSegs
public import Idealize.ShloMosaic.Lib.Quiescent

@[expose] public section

noncomputable section

namespace Cert.KernelIdeal.Fused

open Cert.KernelIdeal Cert.KernelIdeal.Gen
open Idealize.ShloMosaic Idealize.ShloMosaic.TcCoe
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ UU ℕ

variable (m : (ℓ : Loc nD τ sig) → Buf (Elt F) ℓ) (ρ : Dev nD → PrngReg)

/-- The memory at launch: any contents, every counter zero, any generator registers. -/
def s₀ : MemSt nD τ sig (Elt F) := ⟨m, fun _ => 0, ρ⟩

/-- The inputs as the memory holds them. -/
def inp : Inp F where
  x c := (win0_0.blk t0_0).view.read (Elt F) (m ((c : Thread nD τ).loc main_arg0))
  wq c := (win0_1.blk t0_0).view.read (Elt F) (m ((c : Thread nD τ).loc main_arg1))
  wk c := (win0_2.blk t0_0).view.read (Elt F) (m ((c : Thread nD τ).loc main_arg2))
  wv c := (win0_3.blk t0_0).view.read (Elt F) (m ((c : Thread nD τ).loc main_arg3))
  wo c := (win0_4.blk t0_0).view.read (Elt F) (m ((c : Thread nD τ).loc main_arg4))
  cos c := (win0_5.blk t0_0).view.read (Elt F) (m ((c : Thread nD τ).loc main_arg5))
  sin c := (win0_6.blk t0_0).view.read (Elt F) (m ((c : Thread nD τ).loc main_arg6))

/-! ## The start of the body from what the launch deals -/

section

variable (I : Inp F) (c : Dev nD)

/-- What a device starts with besides its buffers. -/
def start : sProp (MT nD τ sig Unit (Elt F) ℕ UU ℕ) :=
  iprop(G' I c ∗ (cred (tallyAt (barCell c) () 31)
      ∗ (bigSep (rem 1) fun k => cred (tallyAt (dmaCell c 1 k) () N)) ∗ (bigSep (rem 1) fun k => cred (tallyAt (dmaCell c 3 k) () N)))
    ∗ levAts L lv)
/-- The scratch buffers, each whole at some contents. -/
def Scr : sProp (MT nD τ sig Unit (Elt F) ℕ UU ℕ) :=
  iprop(Any c cc0_scratch0 ∗ Any c cc0_scratch1 ∗ Any c cc0_scratch2 ∗ Any c cc0_scratch3 ∗ Any c cc0_scratch4 ∗ Any c cc0_scratch5 ∗ Any c cc0_scratch6)
def Phi0 : sProp (MT nD τ sig Unit (Elt F) ℕ UU ℕ) := iprop(start I c ∗ Scr c)
def Phi1 : sProp (MT nD τ sig Unit (Elt F) ℕ UU ℕ) :=
  iprop(Scr c ∗ semVal (barCell c) 0 ∗ (bigSep Finset.univ fun ak : Fin 4 × Fin 32 => semVal (dmaCell c ak.1 ak.2) 0))

theorem pos_split : (bigSep Finset.univ fun p : Pl => (atPos ER (kcell (c, p)) 0 ∅ 0 : sProp 𝕄))
    = iprop(atPos ER (barCell c) 0 ∅ 0 ∗ (bigSep Finset.univ fun a : Fin 4 => atPos ER (dmaCell c a 0) 0 ∅ 0)
      ∗ (bigSep (rem 1) fun k => atPos ER (dmaCell c 0 k) 0 ∅ 0) ∗ (bigSep (rem 1) fun k => atPos ER (dmaCell c 1 k) 0 ∅ 0)
      ∗ (bigSep (rem 1) fun k => atPos ER (dmaCell c 2 k) 0 ∅ 0) ∗ (bigSep (rem 1) fun k => atPos ER (dmaCell c 3 k) 0 ∅ 0)) := by
  rw [bigSep_pl, sems_join fun a k => (atPos ER (dmaCell c a k) 0 ∅ 0 : sProp 𝕄)]

theorem wt_join (a : Fin 4) : iprop((bigSep (rem 1) fun k => cred (tallyAt (dmaCell c a k) () N)) ∗ (bigSep (rem 1) fun k => atPos ER (dmaCell c a k) 0 ∅ 0))
    ⊢ (bigSep (rem 1) fun k => WtIn c a k : sProp 𝕄) := by
  unfold WtIn; rw [bigSep_sep']

theorem scr_st (b : Ref sig .tc) (f : Buf (Elt F) (at' c b)) (P : Buf (Elt F) (at' c b) → Prop) (h : P f) :
    (at' c b ↦{fullShare} f) ⊢ (iprop(∃ f : Buf (Elt F) (at' c b), ⌜P f⌝ ∗ (at' c b ↦[Finset.univ]{fullShare} f)) : sProp 𝕄) := by
  iintro H; iexists f
  isplitr; · ipureintro; exact h
  iexact H

theorem pay_split : (payToks c : sProp 𝕄) ⊢ iprop((bigSep (rem 1) fun k => dutyTok ER (barCell (devAdd c k)) 0 c)
    ∗ (bigSep (Finset.univ.erase c) fun x => iprop(dutyTok ER (dmaCell c 0 (devSub x c)) 0 0 ∗ dutyTok ER (dmaCell x 1 (devSub x c)) 0 0))
    ∗ (bigSep (rem 1) fun k => iprop(dutyTok ER (dmaCell c 2 k) 0 0 ∗ dutyTok ER (dmaCell (devAdd c k) 3 k) 0 0))) := by
  unfold payToks; iintro H; iexact H

theorem body_start : iprop(Phi0 I c ∗ (∃ W, owes (c : Thread nD τ) (O₀ c) W) ∗ Ins I c ∗ Any c cc0_stg7_0)
    ⊢ (iprop(∃ K, SigSt I K c 1 iprop(cred (tallyAt (barCell c) () 31) ∗ atPos ER (barCell c) 0 ∅ 0 ∗ HeadSt I c 0 0 0 (BlkIn c (TailIn c (Ry c))))) : sProp 𝕄) := by
  unfold Phi0 start G' linear Scr
  rw [pos_split]
  iintro ⟨⟨⟨⟨%K, Hrecs, ⟨HatB, Hat0, Ha0, Ha1, Ha2, Ha3⟩, Htok⟩, ⟨HcB, Hc1, Hc3⟩, Hlev⟩, Hq, Hk, Hv, Hp, Hs, Ha, Hd⟩, HO, Hins, Ho⟩
  ihave Ht := (pay_split c) $$ Htok
  icases Ht with ⟨HtB, HtR, HtA⟩
  unfold Any
  icases Hq with ⟨%fq, Hq⟩
  icases Hk with ⟨%fk, Hk⟩
  icases Hv with ⟨%fv, Hv⟩
  icases Hs with ⟨%fs, Hs⟩
  icases Ho with ⟨%fo, Ho⟩
  ihave Hdeal := (deal_buffers c fs fo) $$ [Hs Ho]
  · isplitl [Hs]; · iexact Hs
    iexact Ho
  icases Hdeal with ⟨Hs0, Ho, Hbar⟩
  iexists K
  unfold SigSt HeadSt QSt KSt VSt BlkIn TailIn DSt Ry records recs
  icases Hrecs with ⟨HI, HR⟩
  isplitl [HI HR Hlev]
  · isplitl [HI]; · iexact HI
    isplitl [HR]; · iexact HR
    iexact Hlev
  isplitl [HO]; · iexact HO
  isplitl [HtB]; · iexact HtB
  isplitl [Hbar]; · iexact Hbar
  isplitl [HcB]; · iexact HcB
  isplitl [HatB]; · iexact HatB
  isplitl [Hins]; · iexact Hins
  isplitl [Hq]; · iapply (scr_st c cc0_scratch0 fq (fun f => AgreeH 0 f (Q3 I c)) (fun _ h => absurd h (Nat.not_lt_zero _))); iexact Hq
  isplitl [Hk]; · iapply (scr_st c cc0_scratch1 fk (fun f => AgreeH 0 f (K3 I c)) (fun _ h => absurd h (Nat.not_lt_zero _))); iexact Hk
  isplitl [Hv]; · iapply (scr_st c cc0_scratch2 fv (fun f => AgreeH 0 f (V3 I c)) (fun _ h => absurd h (Nat.not_lt_zero _))); iexact Hv
  isplitl [Hp]; · iexact Hp
  isplitl [HtR]; · iexact HtR
  isplitl [HtA]; · iexact HtA
  isplitl [Hc1 Ha1]
  · iapply (wt_join c 1)
    isplitl [Hc1]; · iexact Hc1
    iexact Ha1
  isplitl [Ha]; · iexact Ha
  isplitl [Hd]; · iexact Hd
  isplitl [Ho]; · iexact Ho
  isplitl [Hc3 Ha3]
  · iapply (wt_join c 3)
    isplitl [Hc3]; · iexact Hc3
    iexact Ha3
  isplitl [Ha0]; · iexact Ha0
  isplitl [Ha2]; · iexact Ha2
  isplitl [Hs0]; · iexact Hs0
  iexact Hat0

end

/-! ## The proof data and the body's obligation -/

def dats (_ : Fin 1) (c : Dev nD) : Dat τ (Elt F) Unit ℕ UU ℕ cfg0 c where
  A w := (s₀ m ρ).mem ((cfg0.win w).arr.view.loc (c : Thread nD τ))
  after w _ := match w with
    | ⟨0, _⟩ => (inp m).x c
    | ⟨1, _⟩ => (inp m).wq c
    | ⟨2, _⟩ => (inp m).wk c
    | ⟨3, _⟩ => (inp m).wv c
    | ⟨4, _⟩ => (inp m).wo c
    | ⟨5, _⟩ => (inp m).cos c
    | ⟨6, _⟩ => (inp m).sin c
    | ⟨7, _⟩ => OV (inp m)
  Φ t := match t with
    | ⟨0, _⟩ => Phi0 (inp m) c
    | ⟨_ + 1, _⟩ => Phi1 c
  q _ := fullShare
  owed t := match t with
    | ⟨0, _⟩ => O₀ c
    | ⟨_ + 1, _⟩ => 0

theorem owns_whole_eq (c : Dev nD) (b : Ref sig .tc) (X : b.ty.Contents (Elt F)) :
    (owns (Ix := Unit) (Name := ℕ) (U := UU) (Lvl := ℕ) (c : Thread nD τ) (Memref.whole b) fullShare X : sProp 𝕄)
      = iprop(∃ f : Buf (Elt F) (((c : Dev nD) : Thread nD τ).loc b), ⌜f = X⌝ ∗ (((c : Thread nD τ).loc b) ↦{fullShare} f)) := by
  unfold owns; simp only [Memref.view_whole, View.read_whole, View.set_whole]

theorem bigSep_W (Φ : Fin cfg0.W → sProp (MT nD τ sig Unit (Elt F) ℕ UU ℕ)) :
    bigSep Finset.univ Φ = iprop(Φ (0 : Fin 8) ∗ Φ (1 : Fin 8) ∗ Φ (2 : Fin 8) ∗ Φ (3 : Fin 8) ∗ Φ (4 : Fin 8) ∗ Φ (5 : Fin 8) ∗ Φ (6 : Fin 8) ∗ Φ (7 : Fin 8)) := bigSep_W0 Φ

abbrev stg (c : Dev nD) (b : Ref sig .tc) (X : b.ty.Contents (Elt F)) : sProp (MT nD τ sig Unit (Elt F) ℕ UU ℕ) :=
  iprop(∃ f : Buf (Elt F) (((c : Dev nD) : Thread nD τ).loc b), ⌜f = X⌝ ∗ (((c : Thread nD τ).loc b) ↦{fullShare} f))

theorem stg_own (c : Dev nD) (b : Ref sig .tc) (X Y : b.ty.Contents (Elt F)) (h : X = Y) : stg c b X ⊢ (at' c b ↦[Finset.univ]{fullShare} Y : sProp 𝕄) := by
  subst h; iintro ⟨%f, %hf, H⟩; subst hf; iexact H
theorem own_stg (c : Dev nD) (b : Ref sig .tc) (X : b.ty.Contents (Elt F)) : (at' c b ↦{fullShare} X : sProp 𝕄) ⊢ stg c b X := by
  iintro H; iexists X
  isplitr; · ipureintro; rfl
  iexact H

set_option maxRecDepth 8000 in
theorem before_in (c : Dev nD) (w : Fin cfg0.W) (hf : (cfg0.win w).fetch t0_0 = true) (d) :
    (dats m ρ 0 c).before w t0_0 d = (dats m ρ 0 c).fetched w t0_0 d := by
  unfold Dat.before; rw [if_pos hf]

def bodyPre (c : Dev nD) : sProp (MT nD τ sig Unit (Elt F) ℕ UU ℕ) :=
  iprop(Phi0 (inp m) c ∗ (dats m ρ 0 c).owesAt () t0_0.castSucc
    ∗ (∃ d, stg c cc0_stg0_0 ((dats m ρ 0 c).before (0 : Fin 8) t0_0 d)) ∗ (∃ d, stg c cc0_stg1_0 ((dats m ρ 0 c).before (1 : Fin 8) t0_0 d))
    ∗ (∃ d, stg c cc0_stg2_0 ((dats m ρ 0 c).before (2 : Fin 8) t0_0 d)) ∗ (∃ d, stg c cc0_stg3_0 ((dats m ρ 0 c).before (3 : Fin 8) t0_0 d))
    ∗ (∃ d, stg c cc0_stg4_0 ((dats m ρ 0 c).before (4 : Fin 8) t0_0 d)) ∗ (∃ d, stg c cc0_stg5_0 ((dats m ρ 0 c).before (5 : Fin 8) t0_0 d))
    ∗ (∃ d, stg c cc0_stg6_0 ((dats m ρ 0 c).before (6 : Fin 8) t0_0 d)) ∗ (∃ d, stg c cc0_stg7_0 ((dats m ρ 0 c).before (7 : Fin 8) t0_0 d)))
def bodyPost (c : Dev nD) : sProp (MT nD τ sig Unit (Elt F) ℕ UU ℕ) :=
  iprop(Phi1 c ∗ (dats m ρ 0 c).owesAt () t0_0.succ
    ∗ stg c cc0_stg0_0 ((inp m).x c) ∗ stg c cc0_stg1_0 ((inp m).wq c) ∗ stg c cc0_stg2_0 ((inp m).wk c) ∗ stg c cc0_stg3_0 ((inp m).wv c)
    ∗ stg c cc0_stg4_0 ((inp m).wo c) ∗ stg c cc0_stg5_0 ((inp m).cos c) ∗ stg c cc0_stg6_0 ((inp m).sin c) ∗ stg c cc0_stg7_0 (OV (inp m)))

theorem pre_start (c : Dev nD) : bodyPre m ρ c
    ⊢ iprop(Phi0 (inp m) c ∗ (∃ W, owes (c : Thread nD τ) (O₀ c) W) ∗ Ins (inp m) c ∗ Any c cc0_stg7_0) := by
  unfold bodyPre Dat.owesAt Pipeline.owesWithin Ins
  iintro ⟨HΦ, ⟨%W, %hW, HO⟩, ⟨%d0, H0⟩, ⟨%d1, H1⟩, ⟨%d2, H2⟩, ⟨%d3, H3⟩, ⟨%d4, H4⟩, ⟨%d5, H5⟩, ⟨%d6, H6⟩, ⟨%d7, %f7, -, H7⟩⟩
  isplitl [HΦ]; · iexact HΦ
  isplitl [HO]; · iexists W; iexact HO
  isplitr [H7]
  · isplitl [H0]; · iapply (stg_own c cc0_stg0_0 _ ((inp m).x c) (before_in m ρ c 0 (fetch0_0 _) d0)); iexact H0
    isplitl [H1]; · iapply (stg_own c cc0_stg1_0 _ ((inp m).wq c) (before_in m ρ c 1 (fetch0_1 _) d1)); iexact H1
    isplitl [H2]; · iapply (stg_own c cc0_stg2_0 _ ((inp m).wk c) (before_in m ρ c 2 (fetch0_2 _) d2)); iexact H2
    isplitl [H3]; · iapply (stg_own c cc0_stg3_0 _ ((inp m).wv c) (before_in m ρ c 3 (fetch0_3 _) d3)); iexact H3
    isplitl [H4]; · iapply (stg_own c cc0_stg4_0 _ ((inp m).wo c) (before_in m ρ c 4 (fetch0_4 _) d4)); iexact H4
    isplitl [H5]; · iapply (stg_own c cc0_stg5_0 _ ((inp m).cos c) (before_in m ρ c 5 (fetch0_5 _) d5)); iexact H5
    iapply (stg_own c cc0_stg6_0 _ ((inp m).sin c) (before_in m ρ c 6 (fetch0_6 _) d6)); iexact H6
  unfold Any; iexists f7; iexact H7

theorem end_post (c : Dev nD) : End (inp m) c ⊢ bodyPost m ρ c := by
  unfold End bodyPost Phi1 Scr Dat.owesAt Pipeline.owesWithin Ins
  iintro ⟨⟨%W, HO⟩, ⟨H0, H1, H2, H3, H4, H5, H6⟩, H7, Hscr, Hbar, Hz⟩
  isplitl [Hscr Hbar Hz]
  · isplitl [Hscr]; · iexact Hscr
    isplitl [Hbar]; · iexact Hbar
    iexact Hz
  isplitl [HO]
  · iexists W
    isplitr; · ipureintro; exact fun _ _ => Or.inl trivial
    iexact HO
  isplitl [H0]; · iapply (own_stg c cc0_stg0_0); iexact H0
  isplitl [H1]; · iapply (own_stg c cc0_stg1_0); iexact H1
  isplitl [H2]; · iapply (own_stg c cc0_stg2_0); iexact H2
  isplitl [H3]; · iapply (own_stg c cc0_stg3_0); iexact H3
  isplitl [H4]; · iapply (own_stg c cc0_stg4_0); iexact H4
  isplitl [H5]; · iapply (own_stg c cc0_stg5_0); iexact H5
  isplitl [H6]; · iapply (own_stg c cc0_stg6_0); iexact H6
  iapply (own_stg c cc0_stg7_0); iexact H7

theorem exists_pre {ι : Type} {Φ : ι → sProp (MT nD τ sig Unit (Elt F) ℕ UU ℕ)} {R : sProp (MT nD τ sig Unit (Elt F) ℕ UU ℕ)}
    (h : ∀ i, Φ i ⊢ R) : iprop(∃ i, Φ i) ⊢ R := by
  iintro ⟨%i, H⟩; iapply (h i); iexact H

theorem run_dev (c : Dev nD) : bodyPre m ρ c
    ⊢ WP c (cc0__fused_body (F := F) xM (Memref.isWhole_whole _) wqM (Memref.isWhole_whole _) wkM (Memref.isWhole_whole _) wvM (Memref.isWhole_whole _)
        woM (Memref.isWhole_whole _) cosM (Memref.isWhole_whole _) sinM (Memref.isWhole_whole _) oM (Memref.isWhole_whole _)
        qM (Memref.isWhole_whole _) kM (Memref.isWhole_whole _) vM (Memref.isWhole_whole _) pM (Memref.isWhole_whole _)
        rM (Memref.isWhole_whole _) aM (Memref.isWhole_whole _) dM (Memref.isWhole_whole _)
        cc0_scratch7 cc0_scratch8 cc0_scratch9 cc0_scratch10) fun _ => bodyPost m ρ c := by
  refine (pre_start m ρ c).trans ((body_start (inp m) c).trans (exists_pre fun K => ?_))
  refine (run_body (I := inp m) (K := K) (c := c)).trans ?_
  unfold WP
  exact Idealize.SL.Sem.wp_mono _ _ _ fun _ => end_post m ρ c

set_option maxRecDepth 8000 in
theorem body_obligation (c : Dev nD) : BodyObligation (dats (F := F) m ρ 0 c) (defs₀ (F := F)) 𝒱₀ () Set.univ := fun t => by
  rw [fin_N0 t]
  rw [bigSep_W, bigSep_W]
  simp only [owns_whole_eq]
  exact run_dev m ρ c

/-! ## The side conditions of the launch -/

set_option maxRecDepth 8000 in
theorem stage_sem : ∀ (w : Fin 8) (s : Fin (cfg0.spec w).nbuf), ((cfg0.win w).sem s).val < 8 := by decide

set_option maxRecDepth 8000 in
theorem ownSemFacts : Pipeline.OwnSemFacts cfg0.spec osem where
  isScoped := by decide +kernel
  inj := fun p q h => Option.some.inj (csem_injective (show csem (some p) = csem (some q) from h))
  disj := fun ak w s h => by
    have hs := stage_sem w s
    have hv : (semOf ak.1 ak.2).val = ((cfg0.win w).sem s).val := by unfold osem at h; exact congrArg Fin.val (SemLoc.dma.inj h)
    have hk : (semOf ak.1 ak.2).val = 8 + (32 * ak.1.val + ak.2.val) := rfl
    exact absurd hs (by rw [← hv, hk]; exact Nat.not_lt.mpr (Nat.le_add_right _ _))

theorem share_eq (c : Dev nD) (w : Fin cfg0.W) : (dats m ρ 0 c).share w = fullShare := by unfold Dat.share; split <;> rfl

theorem start_intro (c : Dev nD) :
    iprop(Pipeline.unscopedRestP Pipeline.Prefetch.none cfg0.spec c (fun b => m ((c : Thread nD τ).loc b)) ∗ levAts L lv
        ∗ Pipeline.launchCred O₀ c ∗ prngReg c (ρ c) ∗ G' (inp m) c)
      ⊢ |={Set.univ}=> iprop(start (inp m) c ∗ emp) := by
  iintro ⟨-, Hlev, Hcr, -, HG⟩
  ihave Hc := (creds (F := F) c) $$ Hcr
  imodintro
  unfold start
  isplitl
  · isplitl [HG]; · iexact HG
    isplitl [Hc]; · iexact Hc
    iexact Hlev
  · iempintro

theorem scr_eq (c : Dev nD) : (Pipeline.scopedRest (Ix := Unit) (Name := ℕ) (U := UU) (Lvl := ℕ) (Val := Elt F) spec0 c : sProp 𝕄) = Scr c :=
  scopedRest0_eq c

theorem phi0_intro (c : Dev nD) :
    iprop(start (inp m) c ∗ Pipeline.prefHeld Pipeline.Prefetch.none c (fun _ => fullShare.right) (fun k => k.elim0) ∗ Pipeline.scopedRest cfg0.spec c)
      ⊢ (dats m ρ 0 c).Φ 0 := by
  rw [show (dats m ρ 0 c).Φ 0 = Phi0 (inp m) c from rfl]
  refine BIBase.Entails.trans ?_ (show iprop(start (inp m) c ∗ Scr c) ⊢ Phi0 (inp m) c by unfold Phi0; iintro H; iexact H)
  rw [← scr_eq]
  iintro ⟨Hs, -, Hr⟩
  isplitl [Hs]; · iexact Hs
  iexact Hr

theorem phi1_exit (c : Dev nD) :
    (dats m ρ 0 c).Φ (Fin.last cfg0.N) ⊢ iprop(unscopedSems0 c ∗ Pipeline.ownSems0 osem c ∗ Pipeline.scopedRest cfg0.spec c) := by
  rw [show (dats m ρ 0 c).Φ (Fin.last cfg0.N) = Phi1 c from rfl, ownSems0_eq, unscopedSems0_eq, show cfg0.spec = spec0 from rfl, scr_eq]
  unfold Phi1
  iintro ⟨Hr, HzB, Hz⟩
  isplitl [HzB]; · iexact HzB
  isplitl [Hz]; · iexact Hz
  iexact Hr

theorem waits (c : Dev nD) : (levAts L lv : sProp 𝕄) ⊢ Pipeline.cellsWaits cfgs (dats m ρ) () 0 c :=
  Pipeline.cellsWaits_intro cfgs (dats m ρ) () 0 c fun w s t =>
    mayWait_stage c _ (stage_sem w s) _ (by
      rcases t with ⟨_ | _, ht⟩
      · exact Or.inl rfl
      · exact Or.inr rfl)

/-! ## The run -/

def finalA (c : Dev nD) (w : Fin cfg0.W) : Buf (Elt F) ((cfg0.win w).arr.view.loc (c : Thread nD τ)) := (dats m ρ 0 c).arrAt w cfg0.N

def QC : PUnit × MemSt nD τ sig (Elt F) → Prop := fun r =>
  ∀ c : Dev nD, ∀ w : Fin cfg0.W, r.2.mem ((cfg0.win w).arr.view.loc (c : Thread nD τ)) = finalA m ρ c w

set_option maxRecDepth 16384 in
/-- From any memory with its counters at zero, for any float values: every fair execution ends, with each window's array at the
    contents the data names and every counter at zero. -/
theorem run_main : θ_run defs (onTc (τ := τ) (main (F := F))) (s₀ m ρ) (fun r => QC m ρ r ∧ r.2.sem = fun _ => 0) :=
  Pipeline.θ_run_region_owing_glob_pf (fun p => (cfgs p).toPCfg) (fun p => (cfgs p).toPCfg_adm) (dats m ρ) () cellOf_inj (0 : Fin 1)
    winFacts0.to₀ ownSemFacts (Pipeline.PreFacts.none _) EP defs₀ 𝒱₀ m ρ main
    (hmain := fun c => (main_chain c).trans rfl)
    (hbody := body_obligation m ρ) (hne := fun w => block_pos0 w) (harr := arr_whole0) (hstage := stage_whole0) (hshare := share_eq m ρ)
    (hdistinct := winFacts0.arr_inj)
    (O₀ := O₀) (howed₀ := fun _ => rfl) (howedN := fun _ => rfl)
    (L := L) (lv := lv) (hL := L_of_ne) (hwaits := waits m ρ)
    (G := G (inp m)) (G' := G' (inp m)) (u₀ := u₀)
    (hu₀ := by
      unfold u₀
      iintro Hu
      ihave H := (ownU_pair _ _) $$ Hu
      icases H with ⟨HP, HX⟩
      imod (fund_ring (inp m)) $$ HX with HG
      imodintro
      isplitl [HP] <;> iassumption)
    (hglob := glob (inp m))
    (hA := fun _ _ => rfl) (hpf := fun _ k => k.elim0)
    (X := start (inp m)) (Y := fun c => unscopedSems0 c) (Z := fun _ => iprop(emp))
    (hX := start_intro m ρ) (hin := phi0_intro m ρ) (hout := phi1_exit m ρ)
    (QY := fun c s => ∀ sm : SemLoc sig, sm.isScoped .tc = false → s.sem ((c.tc : Thread nD τ), sm) = 0)
    (hY := fun c s' => by
      iintro ⟨Hu, -, HSI⟩
      iapply (Pipeline.unscopedSems0_read (X := unscopedSems0 c) (c := c) fupd_intro s')
      isplitl [Hu] <;> iassumption)
    (hQ := fun _ h hs => ⟨fun c w => (h c).1 w, sem_eq_zero hs fun c => (h c).2.2⟩)

theorem finalA_in (c : Dev nD) (w : Fin cfg0.W) (hw : (cfg0.win w).isOut = false) :
    finalA m ρ c w = m ((cfg0.win w).arr.view.loc (c : Thread nD τ)) :=
  (dats (F := F) m ρ 0 c).arrAt_in w hw _

end Cert.KernelIdeal.Fused

end

end
-- ==== Proof.Frames.lean ====
/-
# The frames

Each program ends, on every device, with its arguments as they were and every counter at zero.
-/
module

public import proofs.«01_k».proof.Defs
public import proofs.«01_k».proof.Proof.Gen.Kernel
public import proofs.«01_k».proof.Proof.Gen.ReferenceIdeal.Run
public import proofs.«01_k».proof.Proof.Run

@[expose] public section

noncomputable section

namespace Cert.Frames

open Idealize.ShloMosaic Idealize.ShloMosaic.TcCoe Idealize.SL.Sem
open Cert.KernelIdeal.Fused

section
open Cert.KernelIdeal

variable {F : FTy → Type} [FloatOps F]

/-- The seven argument arrays are read, never written. -/
theorem args_kept {m : (ℓ : Loc nD τ sig) → Buf (Elt F) ℓ} {ρ : Dev nD → PrngReg} {r : PUnit × MemSt nD τ sig (Elt F)}
    (h : QC m ρ r) (c : Dev nD) :
    r.2.mem ((c.tc : Thread nD τ).loc main_arg0) = m ((c.tc : Thread nD τ).loc main_arg0)
    ∧ r.2.mem ((c.tc : Thread nD τ).loc main_arg1) = m ((c.tc : Thread nD τ).loc main_arg1)
    ∧ r.2.mem ((c.tc : Thread nD τ).loc main_arg2) = m ((c.tc : Thread nD τ).loc main_arg2)
    ∧ r.2.mem ((c.tc : Thread nD τ).loc main_arg3) = m ((c.tc : Thread nD τ).loc main_arg3)
    ∧ r.2.mem ((c.tc : Thread nD τ).loc main_arg4) = m ((c.tc : Thread nD τ).loc main_arg4)
    ∧ r.2.mem ((c.tc : Thread nD τ).loc main_arg5) = m ((c.tc : Thread nD τ).loc main_arg5)
    ∧ r.2.mem ((c.tc : Thread nD τ).loc main_arg6) = m ((c.tc : Thread nD τ).loc main_arg6) :=
  ⟨(h c (0 : Fin 8)).trans (finalA_in m ρ c (0 : Fin 8) rfl), (h c (1 : Fin 8)).trans (finalA_in m ρ c (1 : Fin 8) rfl),
    (h c (2 : Fin 8)).trans (finalA_in m ρ c (2 : Fin 8) rfl), (h c (3 : Fin 8)).trans (finalA_in m ρ c (3 : Fin 8) rfl),
    (h c (4 : Fin 8)).trans (finalA_in m ρ c (4 : Fin 8) rfl), (h c (5 : Fin 8)).trans (finalA_in m ρ c (5 : Fin 8) rfl),
    (h c (6 : Fin 8)).trans (finalA_in m ρ c (6 : Fin 8) rfl)⟩

end

section
variable {F : FTy → Type} [FloatOps F]

/-- The two printed programs have the same body table. -/
theorem bodies_eq : Cert.Kernel.defs₀ (F := F) = Cert.KernelIdeal.defs₀ := by
  unfold Cert.Kernel.defs₀ Cert.KernelIdeal.defs₀
  refine congrArg Defs.onTc (funext fun l => ?_)
  match l with
  | 0 => rfl

theorem defs_eq : Cert.Kernel.defs (F := F) = Cert.KernelIdeal.defs := congrArg (Pipeline.defs _) bodies_eq

end

/-- The kernel as traced, on bits: the run holds for any floats, and the two texts are the same. -/
theorem kernel : Cert.quiescent_Kernel := by
  intro m ρ _
  rw [defs_eq]
  exact (θ_run Cert.KernelIdeal.defs _ _).mono (fun _ h => ⟨fun c => args_kept h.1 c, h.2⟩) (run_main (F := Bits) m ρ)

theorem kernelIdeal : Cert.quiescent_KernelIdeal := fun m ρ _ =>
  (θ_run Cert.KernelIdeal.defs _ _).mono (fun _ h => ⟨fun c => args_kept h.1 c, h.2⟩) (run_main (F := Ideal) m ρ)

theorem referenceIdeal : Cert.quiescent_ReferenceIdeal := fun m ρ _ =>
  (θ_run Cert.ReferenceIdeal.defs _ _).mono (fun r h => ⟨fun c => (h c).2, sem_eq_zero_of_no_sems (by decide) r.2⟩)
    (Cert.ReferenceIdeal.Value.run (F := Ideal) m ρ)

end Cert.Frames

end
-- ==== Proof.Values.lean ====
/-
# The values of the run over the extended reals

Every value that the run names, read at an index: the result is the sum, over the devices and their heads, of the head's
attention times its rows of the output weight.
-/
module

public import proofs.«01_k».proof.Proof.Contents
public import Idealize.ShloMosaic.Lib.Pointwise

@[expose] public section

noncomputable section

namespace Cert.KernelIdeal.Fused

open Cert.KernelIdeal Cert.KernelIdeal.Gen
open Idealize.ShloMosaic Idealize.ShloMosaic.TcCoe

variable (I : Inp Ideal) (c : Dev nD)

/-! ## The inputs as matrices -/

abbrev Mat (a b : ℕ) : Type := Fin a → Fin b → EReal

def xMat : Mat 1024 1024 := fun i k => I.x c (ix3 0 i k)
def cosMat : Mat 1024 128 := fun i d => I.cos c (ix2 i d)
def sinMat : Mat 1024 128 := fun i d => I.sin c (ix2 i d)
/-- The columns of head `h` of a weight. -/
def headCols (w : Dev nD → Vec Ideal S1024x1024 .bf16) (h : Fin 8) : Mat 1024 128 :=
  fun k d => w c (ix2 k ⟨h.val * 128 + d.val, by omega⟩)
/-- The rows of head `h` of the output weight. -/
def headRows (h : Fin 8) : Mat 128 1024 := fun d n => I.wo c (ix2 ⟨h.val * 128 + d.val, by omega⟩ n)

/-! ## The operations -/

def prj (x : Mat 1024 1024) (w : Mat 1024 128) : Mat 1024 128 := fun i d => ∑ k, x i k * w k d
/-- Each pair of coordinates `(a, b)` becomes `(-b, a)`. -/
def swap (p : Fin 128 → EReal) (d : Fin 128) : EReal :=
  if h : d.val % 2 = 0 then -(p ⟨d.val + 1, by omega⟩) else p ⟨d.val - 1, by omega⟩
def turn (p tc ts : Mat 1024 128) : Mat 1024 128 := fun i d => p i d * tc i d + swap (p i) d * ts i d
/-- The exponentials of the products of two rows. -/
def expo (q k : Mat 1024 128) : Mat 1024 1024 := fun i j => Ideal.exp (∑ e, q i e * k j e)
def attn (e : Mat 1024 1024) (v : Mat 1024 128) : Mat 1024 128 :=
  fun i d => (∑ j, e i j * v j d) * Ideal.div 1 (∑ j, e i j)
/-- The score scale. -/
def sc : EReal := Ideal.ofBits .f32 0x3DB504F3#32

/-! ## Reads -/

/-- A rectangle of unit stride places an index at its offset plus the index. -/
theorem unit_val {s : Shape} (off size : Fin s.rank → ℕ) (inb) (j : (Rect.unit off size inb).shape.Idx) (a : Fin s.rank) :
    ((Rect.unit off size inb).idx j a : ℕ) = off a + j a := by
  show off a + 1 * (j a : ℕ) = _; omega

theorem xL_at (i k : Fin 1024) : xL I c (ix2 i k) = xMat I c i k := by
  unfold xL
  pointwise
  refine congrArg (I.x c) (funext fun a => Fin.ext ((unit_val _ _ _ _ a).trans ?_))
  match a with
  | 0 => rfl
  | 1 => exact Nat.zero_add _
  | 2 => exact Nat.zero_add _

theorem cosL_at (i : Fin 1024) (d : Fin 128) : cosL I c (ix2 i d) = cosMat I c i d := by
  unfold cosL
  pointwise
  refine congrArg (I.cos c) (funext fun a => Fin.ext ((unit_val _ _ _ _ a).trans ?_))
  match a with
  | 0 => exact Nat.zero_add _
  | 1 => exact Nat.zero_add _

theorem sinL_at (i : Fin 1024) (d : Fin 128) : sinL I c (ix2 i d) = sinMat I c i d := by
  unfold sinL
  pointwise
  refine congrArg (I.sin c) (funext fun a => Fin.ext ((unit_val _ _ _ _ a).trans ?_))
  match a with
  | 0 => exact Nat.zero_add _
  | 1 => exact Nat.zero_add _

theorem wqL_at (h : Fin 8) (k : Fin 1024) (d : Fin 128) : wqL I c h (ix2 k d) = headCols c I.wq h k d := by
  unfold wqL
  pointwise
  refine congrArg (I.wq c) (funext fun a => Fin.ext ((unit_val _ _ _ _ a).trans ?_))
  match a with
  | 0 => exact Nat.zero_add _
  | 1 => rfl

theorem wkL_at (h : Fin 8) (k : Fin 1024) (d : Fin 128) : wkL I c h (ix2 k d) = headCols c I.wk h k d := by
  unfold wkL
  pointwise
  refine congrArg (I.wk c) (funext fun a => Fin.ext ((unit_val _ _ _ _ a).trans ?_))
  match a with
  | 0 => exact Nat.zero_add _
  | 1 => rfl

theorem wvL_at (h : Fin 8) (k : Fin 1024) (d : Fin 128) : wvL I c h (ix2 k d) = headCols c I.wv h k d := by
  unfold wvL
  pointwise
  refine congrArg (I.wv c) (funext fun a => Fin.ext ((unit_val _ _ _ _ a).trans ?_))
  match a with
  | 0 => exact Nat.zero_add _
  | 1 => rfl

theorem woL_at (h : Fin 8) (d : Fin 128) (n : Fin 1024) : woL I c h (ix2 d n) = headRows I c h d n := by
  unfold woL
  pointwise
  refine congrArg (I.wo c) (funext fun a => Fin.ext ((unit_val _ _ _ _ a).trans ?_))
  match a with
  | 0 => rfl
  | 1 => exact Nat.zero_add _

theorem proj_at (w : FVec Ideal S1024x128 .bf16) (i : Fin 1024) (d : Fin 128) :
    proj I c w (ix2 i d) = ∑ k : Fin 1024, xMat I c i k * w (ix2 k d) := by
  unfold proj
  pointwise
  simp only [xL_at]

/-! ## The rotation -/

theorem ofBits_neg_one : Ideal.ofBits .f32 0xBF800000#32 = -1 := by
  have : Ideal.ofBits .f32 0xBF800000#32 = ((-(1 : ℝ)) : EReal) := by
    simp [Ideal.ofBits, Ideal.ieee, -EReal.coe_mul, -EReal.coe_neg]; norm_num
  simpa using this

theorem even_bit : ∀ d : Fin 128, IntOp.cmpi .eq (IntOp.andi (BitVec.ofNat 32 d.val) 1#32) 0#32 = BitVec.ofBool (decide (d.val % 2 = 0)) := by
  decide
theorem odd_bit : ∀ d : Fin 128, IntOp.cmpi .eq (IntOp.andi (BitVec.ofNat 32 d.val) 1#32) 1#32 = BitVec.ofBool (decide (d.val % 2 = 1)) := by
  decide
theorem next_bit (e d : Fin 128) : IntOp.cmpi .eq (BitVec.ofNat 32 e.val) (IntOp.addi (BitVec.ofNat 32 d.val) 1#32)
    = BitVec.ofBool (decide (e.val = d.val + 1)) := by
  have : (BitVec.ofNat 32 e.val = BitVec.ofNat 32 d.val + 1#32) ↔ e.val = d.val + 1 := by
    rw [← BitVec.toNat_inj]; simp; omega
  show BitVec.ofBool (decide (_ = _)) = _
  exact congrArg _ (decide_eq_decide.mpr this)
theorem prev_bit (e d : Fin 128) : IntOp.cmpi .eq (IntOp.addi (BitVec.ofNat 32 e.val) 1#32) (BitVec.ofNat 32 d.val)
    = BitVec.ofBool (decide (e.val + 1 = d.val)) := by
  have : (BitVec.ofNat 32 e.val + 1#32 = BitVec.ofNat 32 d.val) ↔ e.val + 1 = d.val := by
    rw [← BitVec.toNat_inj]; simp; omega
  show BitVec.ofBool (decide (_ = _)) = _
  exact congrArg _ (decide_eq_decide.mpr this)

theorem select_bits {α : Type} (p q : Bool) (x y : α) :
    Scalar.select (IntOp.andi (BitVec.ofBool p) (BitVec.ofBool q)) x y = if p = true ∧ q = true then x else y := by
  cases p <;> cases q <;> rfl

theorem rotV_at (e d : Fin 128) : (rotV (F := Ideal)) (ix2 e d)
    = if e.val = d.val + 1 ∧ d.val % 2 = 0 then -1 else if e.val + 1 = d.val ∧ d.val % 2 = 1 then 1 else (0 : EReal) := by
  unfold rotV k0_pay6 k0_pay4 k0_pay5
  pointwise
  rw [even_bit, odd_bit, next_bit, prev_bit, select_bits, select_bits, ofBits_neg_one]
  simp only [decide_eq_true_eq]

theorem rot_sum (p : Fin 128 → EReal) (d : Fin 128) : ∑ e, p e * (rotV (F := Ideal)) (ix2 e d) = swap p d := by
  unfold swap
  simp only [rotV_at]
  split
  · rename_i h
    rw [Finset.sum_eq_single (⟨d.val + 1, by omega⟩ : Fin 128)]
    · rw [if_pos ⟨rfl, h⟩, mul_neg, mul_one]
    · intro e _ he
      have : e.val ≠ d.val + 1 := fun h' => he (Fin.ext h')
      rw [if_neg (fun h' => this h'.1), if_neg (fun h' => by omega), mul_zero]
    · exact fun h' => absurd (Finset.mem_univ _) h'
  · rename_i h
    rw [Finset.sum_eq_single (⟨d.val - 1, by omega⟩ : Fin 128)]
    · rw [if_neg (fun h' => h h'.2), if_pos ⟨by show d.val - 1 + 1 = _; omega, by omega⟩, mul_one]
    · intro e _ he
      have : e.val + 1 ≠ d.val := fun h' => he (Fin.ext (by show e.val = d.val - 1; omega))
      rw [if_neg (fun h' => h h'.2), if_neg (fun h' => this h'.1), mul_zero]
    · exact fun h' => absurd (Finset.mem_univ _) h'

theorem rotary_at (p tc ts : FVec Ideal S1024x128 .bf16) (i : Fin 1024) (d : Fin 128) :
    rotary p tc ts (ix2 i d)
      = turn (fun i d => p (ix2 i d)) (fun i d => tc (ix2 i d)) (fun i d => ts (ix2 i d)) i d := by
  unfold rotary
  pointwise
  rw [rot_sum (fun e => p (ix2 i e)) d]
  rfl

theorem scaled_at (t : FVec Ideal S1024x128 .bf16) (i : Fin 1024) (d : Fin 128) : scaled t (ix2 i d) = t (ix2 i d) * sc := by
  unfold scaled
  pointwise
  rfl

def QM (h : Fin 8) : Mat 1024 128 :=
  turn (prj (xMat I c) (headCols c I.wq h)) (fun i d => cosMat I c i d * sc) (fun i d => sinMat I c i d * sc)
def KM (h : Fin 8) : Mat 1024 128 := turn (prj (xMat I c) (headCols c I.wk h)) (cosMat I c) (sinMat I c)
def VM (h : Fin 8) : Mat 1024 128 := prj (xMat I c) (headCols c I.wv h)

theorem qV_at (h : Fin 8) (i : Fin 1024) (d : Fin 128) : qV I c h (ix2 i d) = QM I c h i d := by
  unfold qV QM
  rw [rotary_at]
  simp only [proj_at, scaled_at, cosL_at, sinL_at, wqL_at]
  rfl
theorem kV_at (h : Fin 8) (i : Fin 1024) (d : Fin 128) : kV I c h (ix2 i d) = KM I c h i d := by
  unfold kV KM
  rw [rotary_at]
  simp only [proj_at, cosL_at, sinL_at, wkL_at]
  rfl
theorem vV_at (h : Fin 8) (i : Fin 1024) (d : Fin 128) : vV I c h (ix2 i d) = VM I c h i d := by
  unfold vV VM
  rw [proj_at]
  simp only [wvL_at]
  rfl

/-! ## Loads of the projections -/

def qB (b h : Fin 8) : FVec Ideal S128x128 .bf16 :=
  shapeCast S128x128 (qM.view.readAt (Elt Ideal) (blkR h b).toLoadRect (Q3 I c)) shapeCasts_S1x128x128_S128x128
def kB (h : Fin 8) : FVec Ideal S1024x128 .bf16 :=
  shapeCast S1024x128 (kM.view.readAt (Elt Ideal) (headR h).toLoadRect (K3 I c)) shapeCasts_S1x1024x128_S1024x128
def vB (h : Fin 8) : FVec Ideal S1024x128 .bf16 :=
  shapeCast S1024x128 (vM.view.readAt (Elt Ideal) (headR h).toLoadRect (V3 I c)) shapeCasts_S1x1024x128_S1024x128

/-- A stack of heads, read at an index. -/
theorem stack_at (f : Fin 8 → FVec Ideal S1024x128 .bf16) (i : S8x1024x128.Idx) (h : Fin 8) (j : Fin 1024) (d : Fin 128)
    (h0 : (i 0).val = h.val) (h1 : (i 1).val = j.val) (h2 : (i 2).val = d.val) :
    stack (fun h => shapeCast S1x1024x128 (f h) shapeCasts_S1024x128_S1x1024x128) i = f h (ix2 j d) := by
  have e : i = ix3 h j d := funext fun a => Fin.ext (match a with | 0 => h0 | 1 => h1 | 2 => h2)
  subst e
  unfold stack
  show shapeCast S1x1024x128 (f h) shapeCasts_S1024x128_S1x1024x128 _ = _
  pointwise

theorem cast_blk (x : FVec Ideal S1x128x128 .bf16) (i d : Fin 128) :
    shapeCast S128x128 x shapeCasts_S1x128x128_S128x128 (ix2 i d) = x (ix3 0 i d) := by pointwise
theorem cast_head (x : FVec Ideal S1x1024x128 .bf16) (j : Fin 1024) (d : Fin 128) :
    shapeCast S1024x128 x shapeCasts_S1x1024x128_S1024x128 (ix2 j d) = x (ix3 0 j d) := by pointwise
theorem cast_slot (x : FVec Ideal S1x32x1024 .bf16) (r : Fin 32) (n : Fin 1024) :
    shapeCast S32x1024 x shapeCasts_S1x32x1024_S32x1024 (ix2 r n) = x (ix3 0 r n) := by pointwise

theorem qB_at (b h : Fin 8) (i : Fin 128) (d : Fin 128) :
    qB I c b h (ix2 i d) = QM I c h ⟨b.val * 128 + i.val, by omega⟩ d := by
  rw [← qV_at]
  refine (cast_blk _ _ _).trans ?_
  refine stack_at (qV I c) _ h _ d ?_ ?_ ?_
  · exact (unit_val _ _ _ _ 0).trans rfl
  · exact (unit_val _ _ _ _ 1).trans rfl
  · exact (unit_val _ _ _ _ 2).trans (Nat.zero_add _)
theorem kB_at (h : Fin 8) (j : Fin 1024) (d : Fin 128) : kB I c h (ix2 j d) = KM I c h j d := by
  rw [← kV_at]
  refine (cast_head _ _ _).trans ?_
  refine stack_at (kV I c) _ h _ d ?_ ?_ ?_
  · exact (unit_val _ _ _ _ 0).trans rfl
  · exact (unit_val _ _ _ _ 1).trans (Nat.zero_add _)
  · exact (unit_val _ _ _ _ 2).trans (Nat.zero_add _)
theorem vB_at (h : Fin 8) (j : Fin 1024) (d : Fin 128) : vB I c h (ix2 j d) = VM I c h j d := by
  rw [← vV_at]
  refine (cast_head _ _ _).trans ?_
  refine stack_at (vV I c) _ h _ d ?_ ?_ ?_
  · exact (unit_val _ _ _ _ 0).trans rfl
  · exact (unit_val _ _ _ _ 1).trans (Nat.zero_add _)
  · exact (unit_val _ _ _ _ 2).trans (Nat.zero_add _)

/-! ## The attention of a block -/

theorem expS_at (b h : Fin 8) (i : Fin 128) (j : Fin 1024) :
    expS I c b h (ix2 i j) = expo (QM I c h) (KM I c h) ⟨b.val * 128 + i.val, by omega⟩ j := by
  have e : expS I c b h = exp (matmul dot_S128x128_S1024x128_S128x1024_1_1_0_0_n_n none (qB I c b h) (kB I c h)
    (constant S128x1024 .f32 0x00000000#32)) := rfl
  rw [e]
  pointwise
  simp only [qB_at, kB_at]
  rfl

theorem ctxS_at (b h : Fin 8) (i d : Fin 128) :
    ctxS I c b h (ix2 i d) = attn (expo (QM I c h) (KM I c h)) (VM I c h) ⟨b.val * 128 + i.val, by omega⟩ d := by
  have e : ctxS I c b h = truncf .bf16 (mulf (matmul dot_S128x1024_S1024x128_S128x128_1_0_0_1_n_n none
      (truncf .bf16 (expS I c b h) bitsLt_bf16_f32) (vB I c h) (constant S128x128 .f32 0x00000000#32))
    (broadcastTo S128x128 (divf (broadcast S128x1 (Scalar.ofBits .f32 0x3F800000#32 : Ideal .f32))
      (shapeCast S128x1 (multiReduction .add [1] S128 (expS I c b h) 0x00000000#32 reduces_S128x1024_S128 (.inl rfl) rfl)
        shapeCasts_S128_S128x1)) broadcasts_S128x1_S128x128)) bitsLt_bf16_f32 := rfl
  rw [e]
  pointwise
  simp only [expS_at, vB_at]
  rfl

/-! ## The partial product of a device -/

/-- What head `h` of device `c` adds to the result. -/
def headOut (h : Fin 8) : Mat 1024 1024 :=
  fun i n => ∑ d, attn (expo (QM I c h) (KM I c h)) (VM I c h) i d * headRows I c h d n

theorem outS_at (b h : Fin 8) (i : Fin 128) (n : Fin 1024) :
    outS I c b h (ix2 i n) = headOut I c h ⟨b.val * 128 + i.val, by omega⟩ n := by
  unfold outS headOut
  pointwise
  simp only [ctxS_at, woL_at]

theorem blkS_at (b : Fin 8) (i : Fin 128) (n : Fin 1024) :
    blkS I c b (ix2 i n) = ∑ h, headOut I c h ⟨b.val * 128 + i.val, by omega⟩ n := by
  unfold blkS sumS
  pointwise
  simp only [outS_at]
  rw [Fin.sum_univ_eight]

theorem PV_at (i n : Fin 1024) : PV I c (ix2 i n) = ∑ h, headOut I c h i n := by
  have h1 : PV I c (ix2 i n) = blkS I c ⟨i.val / 128, blk_lt i⟩ (ix2 ⟨i.val % 128, blk_mod i⟩ n) :=
    congrArg (blkS I c _) (funext fun a => match a with | 0 => rfl | 1 => rfl)
  rw [h1, blkS_at]
  refine Finset.sum_congr rfl fun h _ => congrArg (fun z => headOut I c h z n) (Fin.ext ?_)
  show i.val / 128 * 128 + i.val % 128 = i.val
  omega

/-! ## The sum over the devices -/

theorem RV_at (k : Fin 32) (r : Fin 32) (n : Fin 1024) :
    RV I c (ix3 k r n) = PV I (devSub c k) (ix2 ⟨c.val * 32 + r.val, row_lt c r⟩ n) :=
  congrArg (PV I (devSub c k)) (funext fun a => match a with | 0 => rfl | 1 => rfl)

def slotB (k : Fin 32) : FVec Ideal S32x1024 .bf16 :=
  shapeCast S32x1024 (rM.view.readAt (Elt Ideal) (slotR k).toLoadRect (RV I c)) shapeCasts_S1x32x1024_S32x1024

theorem slotB_at (k : Fin 32) (r : Fin 32) (n : Fin 1024) :
    slotB I c k (ix2 r n) = PV I (devSub c k) (ix2 ⟨c.val * 32 + r.val, row_lt c r⟩ n) := by
  rw [← RV_at]
  refine (cast_slot _ _ _).trans ?_
  refine congrArg (RV I c) (funext fun a => Fin.ext ((unit_val _ _ _ _ a).trans ?_))
  match a with
  | 0 => rfl
  | 1 => exact Nat.zero_add _
  | 2 => exact Nat.zero_add _

theorem acc_at (q : ℕ) (r : Fin 32) (n : Fin 1024) :
    accV I c q (ix2 r n)
      = ∑ k ∈ Finset.range (q + 1), PV I (devSub c (Fin.ofNat 32 k)) (ix2 ⟨c.val * 32 + r.val, row_lt c r⟩ n) := by
  induction q with
  | zero =>
    rw [Finset.sum_range_one, show devSub c (Fin.ofNat 32 0) = c from by unfold devSub; exact sub_zero c]
    unfold accV
    pointwise
    refine congrArg (PV I c) (funext fun a => Fin.ext ((unit_val _ _ _ _ a).trans ?_))
    match a with
    | 0 => rfl
    | 1 => exact Nat.zero_add _
  | succ q ih =>
    rw [Finset.sum_range_succ, ← ih, ← slotB_at]
    have e : accV I c (q + 1) = shapeCast S32x1024 (addf (accV I c q) (extf .f32 (slotB I c (Fin.ofNat 32 (q + 1))) bitsLt_bf16_f32))
      shapeCasts_S32x1024_S32x1024 := rfl
    rw [e]
    pointwise

theorem redV_at (r : Fin 32) (n : Fin 1024) :
    redV I c (ix2 r n) = ∑ d : Dev nD, PV I d (ix2 ⟨c.val * 32 + r.val, row_lt c r⟩ n) := by
  unfold redV
  pointwise
  rw [acc_at, Finset.sum_range (n := 32)]
  refine (Finset.sum_congr rfl fun k _ => ?_).trans (Equiv.sum_comp (Equiv.subLeft (c : Fin 32))
    (fun d => PV I d (ix2 ⟨c.val * 32 + r.val, row_lt c r⟩ n)))
  refine congrArg (fun d => PV I d _) ?_
  show c - Fin.ofNat 32 k.val = c - k
  exact congrArg (c - ·) (Fin.ext (Nat.mod_eq_of_lt k.isLt))

/-- The result is the sum of what every head of every device adds. -/
theorem OV_at (i n : Fin 1024) : OV I (ix2 i n) = ∑ d : Dev nD, ∑ h, headOut I d h i n := by
  have h1 : OV I (ix2 i n) = redV I ⟨i.val / 32, dev_lt i⟩ (ix2 ⟨i.val % 32, dev_mod i⟩ n) :=
    congrArg (redV I _) (funext fun a => match a with | 0 => rfl | 1 => rfl)
  rw [h1, redV_at]
  refine Finset.sum_congr rfl fun d _ => ?_
  rw [← PV_at]
  refine congrArg (fun z => PV I d (ix2 z n)) (Fin.ext ?_)
  show i.val / 32 * 32 + i.val % 32 = i.val
  omega

end Cert.KernelIdeal.Fused

end

end
-- ==== Proof.Algebra.lean ====
/-
# The algebra of the attention

What makes the two computations one over the extended reals: the scale moved into the rotary tables, and the softmax without
its largest score taken out.
-/
module

public import proofs.«01_k».proof.Proof.Values

@[expose] public section

noncomputable section

namespace Cert.KernelIdeal.Fused

open Idealize.ShloMosaic

theorem coe_sum {ι : Type} (s : Finset ι) (f : ι → ℝ) : ∑ i ∈ s, (f i : EReal) = ((∑ i ∈ s, f i : ℝ) : EReal) := by
  classical
  induction s using Finset.induction_on with
  | empty => rfl
  | insert a s ha ih => rw [Finset.sum_insert ha, Finset.sum_insert ha, ih, EReal.coe_add]

/-- A sum of extended reals times a real that is not negative. -/
theorem sum_mul_coe {ι : Type} (s : Finset ι) (f : ι → EReal) (r : ℝ) (hr : 0 ≤ r) :
    (∑ i ∈ s, f i) * (r : EReal) = ∑ i ∈ s, f i * (r : EReal) := by
  classical
  induction s using Finset.induction_on with
  | empty => simp
  | insert a s ha ih =>
    rw [Finset.sum_insert ha, Finset.sum_insert ha, ← ih,
      EReal.right_distrib_of_nonneg_of_ne_top (EReal.coe_nonneg.mpr hr) (EReal.coe_ne_top r)]

/-- Taking a real off every score leaves the weighted mean as it was. -/
theorem softmax_eq (a : Fin 1024 → ℝ) (v : Fin 1024 → EReal) (M : ℝ) :
    (∑ j, Ideal.exp (a j : EReal) * v j) * Ideal.div 1 (∑ j, Ideal.exp (a j : EReal))
      = ∑ j, v j * Ideal.div (Ideal.exp ((a j : EReal) - (M : EReal))) (∑ l, Ideal.exp ((a l : EReal) - (M : EReal))) := by
  simp only [← EReal.coe_sub, Ideal.exp_coe, coe_sum]
  have hz : 0 < ∑ j, Real.exp (a j) := Finset.sum_pos (fun j _ => Real.exp_pos _) ⟨0, Finset.mem_univ _⟩
  have hz' : 0 < ∑ j, Real.exp (a j - M) := Finset.sum_pos (fun j _ => Real.exp_pos _) ⟨0, Finset.mem_univ _⟩
  have hq : ∑ j, Real.exp (a j - M) = (∑ j, Real.exp (a j)) * Real.exp (-M) := by
    rw [Finset.sum_mul]
    exact Finset.sum_congr rfl fun j _ => by rw [sub_eq_add_neg, Real.exp_add]
  rw [Ideal.div_coe hz.ne', one_mul, sum_mul_coe _ _ _ (by positivity)]
  refine Finset.sum_congr rfl fun j _ => ?_
  rw [Ideal.div_coe hz'.ne', ← EReal.coe_mul, mul_comm (Real.exp (a j) : EReal) (v j), mul_assoc, ← EReal.coe_mul]
  refine congrArg (fun r : ℝ => v j * (r : EReal)) ?_
  rw [hq, sub_eq_add_neg, Real.exp_add]
  have := (Real.exp_pos (-M)).ne'
  field_simp

/-! ## Matrices of reals -/

def IsReal {a b : ℕ} (f : Mat a b) : Prop := ∃ g : Fin a → Fin b → ℝ, ∀ i j, f i j = (g i j : EReal)

theorem prj_real {x : Mat 1024 1024} {w : Mat 1024 128} (hx : IsReal x) (hw : IsReal w) : IsReal (prj x w) := by
  obtain ⟨x', hx⟩ := hx
  obtain ⟨w', hw⟩ := hw
  refine ⟨fun i d => ∑ k, x' i k * w' k d, fun i d => ?_⟩
  unfold prj
  rw [← coe_sum]
  exact Finset.sum_congr rfl fun k _ => by rw [hx, hw, EReal.coe_mul]

def swapR (p : Fin 128 → ℝ) (d : Fin 128) : ℝ :=
  if h : d.val % 2 = 0 then -(p ⟨d.val + 1, by omega⟩) else p ⟨d.val - 1, by omega⟩

theorem swap_coe {p : Fin 128 → EReal} {p' : Fin 128 → ℝ} (h : ∀ d, p d = (p' d : EReal)) (d : Fin 128) :
    swap p d = (swapR p' d : EReal) := by
  unfold swap swapR
  split
  · rw [h, EReal.coe_neg]
  · rw [h]

theorem turn_real {p tc ts : Mat 1024 128} (hp : IsReal p) (hc : IsReal tc) (hs : IsReal ts) : IsReal (turn p tc ts) := by
  obtain ⟨p', hp⟩ := hp
  obtain ⟨c', hc⟩ := hc
  obtain ⟨s', hs⟩ := hs
  refine ⟨fun i d => p' i d * c' i d + swapR (p' i) d * s' i d, fun i d => ?_⟩
  unfold turn
  rw [hp, hc, hs, swap_coe (hp i), EReal.coe_add, EReal.coe_mul, EReal.coe_mul]

theorem sc_real : ∃ r : ℝ, sc = (r : EReal) := by
  refine ⟨_, (EReal.coe_toReal (x := sc) ?_ ?_).symm⟩ <;> simp [sc, Ideal.ofBits, Ideal.ieee, -EReal.coe_mul]

/-- The scale in the tables of the queries is the scale of the scores. -/
theorem score_scaled {p tc ts k : Mat 1024 128} (hp : IsReal p) (hc : IsReal tc) (hs : IsReal ts) (hk : IsReal k)
    (i j : Fin 1024) :
    ∑ e, turn p (fun i d => tc i d * sc) (fun i d => ts i d * sc) i e * k j e = (∑ e, turn p tc ts i e * k j e) * sc := by
  obtain ⟨r, hr⟩ := sc_real
  obtain ⟨q, hq⟩ := turn_real hp hc hs
  obtain ⟨p', hp⟩ := hp
  obtain ⟨c', hc⟩ := hc
  obtain ⟨s', hs⟩ := hs
  obtain ⟨k', hk⟩ := hk
  have e1 : ∀ e, turn p (fun i d => tc i d * sc) (fun i d => ts i d * sc) i e * k j e
      = (((p' i e * c' i e + swapR (p' i) e * s' i e) * r * k' j e : ℝ) : EReal) := fun e => by
    unfold turn
    beta_reduce
    rw [hr, hp, hc, hs, hk, swap_coe (hp i)]
    simp only [← EReal.coe_mul, ← EReal.coe_add]
    exact congrArg _ (by ring)
  have e2 : ∀ e, turn p tc ts i e * k j e
      = (((p' i e * c' i e + swapR (p' i) e * s' i e) * k' j e : ℝ) : EReal) := fun e => by
    unfold turn
    beta_reduce
    rw [hp, hc, hs, hk, swap_coe (hp i)]
    simp only [← EReal.coe_mul, ← EReal.coe_add]
  simp only [e1, e2, coe_sum]
  rw [hr, ← EReal.coe_mul, Finset.sum_mul]
  exact congrArg _ (Finset.sum_congr rfl fun e _ => by ring)

/-- A row of scores is a row of reals. -/
theorem score_real {q k : Mat 1024 128} (hq : IsReal q) (hk : IsReal k) (i : Fin 1024) :
    ∃ a : Fin 1024 → ℝ, ∀ j, (∑ e, q i e * k j e) * sc = (a j : EReal) := by
  obtain ⟨r, hr⟩ := sc_real
  obtain ⟨q', hq⟩ := hq
  obtain ⟨k', hk⟩ := hk
  refine ⟨fun j => (∑ e, q' i e * k' j e) * r, fun j => ?_⟩
  rw [hr, EReal.coe_mul, ← coe_sum]
  exact congrArg (· * (r : EReal)) (Finset.sum_congr rfl fun e _ => by rw [hq, hk, EReal.coe_mul])

end Cert.KernelIdeal.Fused

end

end
-- ==== Proof.RefValues.lean ====
/-
# The values of the reference over the extended reals

The reference's composed term, cut into its stages and read at an index.
-/
module

public import proofs.«01_k».proof.Proof.Gen.ReferenceIdeal.Run
public import Idealize.ShloMosaic.Lib.Pointwise

@[expose] public section

noncomputable section

namespace Cert.ReferenceIdeal.Stages

open Cert.ReferenceIdeal Cert.ReferenceIdeal.Gen Cert.ReferenceIdeal.Value
open Idealize.ShloMosaic Idealize.ShloMosaic.TcCoe

/-! ## The stages -/

abbrev T4 : Type := FVec Ideal S1x1024x256x128 .f32
abbrev Sc4 : Type := FVec Ideal S1x256x1024x1024 .f32

/-- A projection, split into heads. -/
def pre (x : FVec Ideal S1x1024x1024 .bf16) (w : FVec Ideal S1024x32768 .bf16) : T4 :=
  shapeCast _ (extf .f32 (truncf .bf16 (Host.dotGeneral dot_S1x1024x1024_S1024x32768_S1x1024x32768_2_0_01_1_n_n none x w)
    bitsLt_bf16_f32) bitsLt_bf16_f32) shapeCasts_S1x1024x32768_S1x1024x256x128
def evens (p : T4) : FVec Ideal S1x1024x256x64 .f32 :=
  shapeCast _ (extractStridedSlice S1x1024x256x64x1 ![0, 0, 0, 0, 0] (shapeCast S1x1024x256x64x2 p shapeCasts_S1x1024x256x128_S1x1024x256x64x2)
    slices_S1x1024x256x64x2_S1x1024x256x64x1_0_0_0_0_0) shapeCasts_S1x1024x256x64x1_S1x1024x256x64
def odds (p : T4) : FVec Ideal S1x1024x256x64 .f32 :=
  shapeCast _ (extractStridedSlice S1x1024x256x64x1 ![0, 0, 0, 0, 1] (shapeCast S1x1024x256x64x2 p shapeCasts_S1x1024x256x128_S1x1024x256x64x2)
    slices_S1x1024x256x64x2_S1x1024x256x64x1_0_0_0_0_1) shapeCasts_S1x1024x256x64x1_S1x1024x256x64
/-- Each pair of coordinates `(a, b)` becomes `(-b, a)`. -/
def swapped (p : T4) : T4 :=
  shapeCast _ (fn_main_v14 (F := Ideal)
    (broadcastInDim S1x1024x256x64x1 ![0, 1, 2, 3] bcast_S1x1024x256x64_S1x1024x256x64x1_0_1_2_3 (Host.negf (odds p)))
    (broadcastInDim S1x1024x256x64x1 ![0, 1, 2, 3] bcast_S1x1024x256x64_S1x1024x256x64x1_0_1_2_3 (evens p)))
    shapeCasts_S1x1024x256x64x2_S1x1024x256x128
def wide (t : FVec Ideal S1024x128 .bf16) : T4 :=
  broadcastInDim S1x1024x256x128 ![0, 1, 2, 3] bcast_S1x1024x1x128_S1x1024x256x128_0_1_2_3
    (broadcastInDim S1x1024x1x128 ![1, 3] bcast_S1024x128_S1x1024x1x128_1_3 (extf .f32 t bitsLt_bf16_f32))
def turned (p : T4) (tc ts : FVec Ideal S1024x128 .bf16) : T4 := addf (mulf p (wide tc)) (mulf (swapped p) (wide ts))
def scores (q k : T4) : Sc4 :=
  mulf (Host.dotGeneral dot_S1x1024x256x128_S1x1024x256x128_S1x256x1024x1024_3_3_1_1_02_02 none q k)
    (broadcastInDim S1x256x1024x1024 ![] bcast_S_S1x256x1024x1024 (constant S_ .f32 0x3DB504F3#32))
def spread (v : FVec Ideal S1x256x1024 .f32) : Sc4 :=
  broadcastInDim S1x256x1024x1024 ![0, 1, 2, 3] bcast_S1x256x1024x1_S1x256x1024x1024_0_1_2_3
    (broadcastInDim S1x256x1024x1 ![0, 1, 2] bcast_S1x256x1024_S1x256x1024x1_0_1_2 v)
def top (s : Sc4) : FVec Ideal S1x256x1024 .f32 :=
  Host.reduce FloatOps.maximumf s (constant S_ .f32 0xFF800000#32) reducesTo_S1x256x1024x1024_S1x256x1024_d3 h_S_
def exps (s : Sc4) : Sc4 := Host.exp (subf s (spread (top s)))
def weights (e : Sc4) : Sc4 :=
  Host.divf e (spread (Host.reduceAdd e (constant S_ .f32 0x00000000#32) reducesTo_S1x256x1024x1024_S1x256x1024_d3 h_S_))
def context (v : T4) (w : Sc4) : FVec Ideal S1x1024x32768 .f32 :=
  shapeCast _ (transpose S1x1024x256x128 [0, 3, 1, 2]
    (Host.dotGeneral dot_S1x1024x256x128_S1x256x1024x1024_S1x256x128x1024_1_3_3_2_02_01 none v w)
    transposes_S1x256x128x1024_S1x1024x256x128_0_3_1_2) shapeCasts_S1x1024x256x128_S1x1024x32768
def output (x : FVec Ideal S1x1024x32768 .f32) (w : FVec Ideal S32768x1024 .bf16) : FVec Ideal S1024x1024 .bf16 :=
  shapeCast _ (truncf .bf16 (Host.dotGeneral dot_S1x1024x32768_S32768x1024_S1x1024x1024_2_0_01_1_n_n none x
    (extf .f32 w bitsLt_bf16_f32)) bitsLt_bf16_f32) shapeCasts_S1x1024x1024_S1024x1024

def refOut (x : FVec Ideal S1x1024x1024 .bf16) (wq wk wv : FVec Ideal S1024x32768 .bf16) (wo : FVec Ideal S32768x1024 .bf16)
    (tc ts : FVec Ideal S1024x128 .bf16) : FVec Ideal S1024x1024 .bf16 :=
  output (context (pre x wv) (weights (exps (scores (turned (pre x wq) tc ts) (turned (pre x wk) tc ts))))) wo

theorem res_eq (m : (ℓ : Loc nD τ sig) → Buf (Elt Ideal) ℓ) (c : Dev nD) :
    res_main_v66 m c = refOut (m ((c.tc : Thread nD τ).loc main_arg0)) (m ((c.tc : Thread nD τ).loc main_arg1))
      (m ((c.tc : Thread nD τ).loc main_arg2)) (m ((c.tc : Thread nD τ).loc main_arg3)) (m ((c.tc : Thread nD τ).loc main_arg4))
      (m ((c.tc : Thread nD τ).loc main_arg5)) (m ((c.tc : Thread nD τ).loc main_arg6)) := rfl

/-! ## Read at an index -/

theorem pre_at (x : FVec Ideal S1x1024x1024 .bf16) (w : FVec Ideal S1024x32768 .bf16) (i : Fin 1024) (h : Fin 256) (d : Fin 128) :
    pre x w (ix4 0 i h d) = ∑ k : Fin 1024, x (ix3 0 i k) * w (ix2 k ⟨h.val * 128 + d.val, by omega⟩) := by
  unfold pre
  pointwise

theorem evens_at (p : T4) (i : Fin 1024) (h : Fin 256) (d : Fin 64) :
    evens p (ix4 0 i h d) = p (ix4 0 i h ⟨d.val * 2, by omega⟩) := by
  unfold evens
  pointwise
theorem odds_at (p : T4) (i : Fin 1024) (h : Fin 256) (d : Fin 64) :
    odds p (ix4 0 i h d) = p (ix4 0 i h ⟨d.val * 2 + 1, by omega⟩) := by
  unfold odds
  pointwise
theorem swapped_at (p : T4) (i : Fin 1024) (h : Fin 256) (d : Fin 128) :
    swapped p (ix4 0 i h d) = if h' : d.val % 2 = 0 then -(p (ix4 0 i h ⟨d.val + 1, by omega⟩)) else p (ix4 0 i h ⟨d.val - 1, by omega⟩) := by
  unfold swapped fn_main_v14
  pointwise
  by_cases h' : d.val % 2 = 0
  · rw [dif_pos (by omega), dif_pos h', odds_at]
    exact congrArg (fun z => -(p (ix4 0 i h z))) (Fin.ext (by show d.val / 2 * 2 + 1 = d.val + 1; omega))
  · rw [dif_neg (by omega), dif_neg h', evens_at]
    exact congrArg (fun z => p (ix4 0 i h z)) (Fin.ext (by show d.val / 2 * 2 = d.val - 1; omega))
theorem wide_at (t : FVec Ideal S1024x128 .bf16) (i : Fin 1024) (h : Fin 256) (d : Fin 128) : wide t (ix4 0 i h d) = t (ix2 i d) := by
  unfold wide
  pointwise
theorem scores_at (q k : T4) (h : Fin 256) (i j : Fin 1024) :
    scores q k (ix4 0 h i j) = (∑ e : Fin 128, q (ix4 0 i h e) * k (ix4 0 j h e)) * Ideal.ofBits .f32 0x3DB504F3#32 := by
  unfold scores
  pointwise
theorem spread_at (v : FVec Ideal S1x256x1024 .f32) (h : Fin 256) (i j : Fin 1024) : spread v (ix4 0 h i j) = v (ix3 0 h i) := by
  unfold spread
  pointwise
theorem ofBits_neg_inf : Ideal.ofBits .f32 0xFF800000#32 = ⊥ := by simp [Ideal.ofBits, Ideal.ieee]
theorem top_at (s : Sc4) (h : Fin 256) (i : Fin 1024) :
    top s (ix3 0 h i) = Finset.univ.fold max (⊥ : EReal) (fun j : Fin 1024 => s (ix4 0 h i j)) := by
  unfold top
  pointwise
  rw [ofBits_neg_inf]
/-- The largest of a row of reals is a real. -/
theorem top_real (s : Sc4) (h : Fin 256) (i : Fin 1024) (a : Fin 1024 → ℝ) (hs : ∀ j, s (ix4 0 h i j) = (a j : EReal)) :
    ∃ M : ℝ, top s (ix3 0 h i) = (M : EReal) := by
  rw [top_at]
  refine ⟨_, (EReal.coe_toReal (ne_of_lt ?_) (ne_of_gt ?_)).symm⟩
  · exact (Finset.fold_max_lt _).mpr ⟨bot_lt_top, fun j _ => by rw [hs]; exact EReal.coe_lt_top _⟩
  · exact (Finset.lt_fold_max _).mpr (.inr ⟨0, Finset.mem_univ _, by rw [hs]; exact EReal.bot_lt_coe _⟩)
theorem exps_at (s : Sc4) (h : Fin 256) (i j : Fin 1024) :
    exps s (ix4 0 h i j) = Ideal.exp (s (ix4 0 h i j) - top s (ix3 0 h i)) := by
  unfold exps
  pointwise
  rw [spread_at]
theorem weights_at (e : Sc4) (h : Fin 256) (i j : Fin 1024) :
    weights e (ix4 0 h i j) = Ideal.div (e (ix4 0 h i j)) (∑ l : Fin 1024, e (ix4 0 h i l)) := by
  unfold weights
  pointwise
  rw [spread_at]
  pointwise
theorem context_at (v : T4) (w : Sc4) (i : Fin 1024) (r : Fin 32768) :
    context v w (ix3 0 i r) = ∑ j : Fin 1024, v (ix4 0 j ⟨r.val / 128, by omega⟩ ⟨r.val % 128, by omega⟩)
      * w (ix4 0 ⟨r.val / 128, by omega⟩ i j) := by
  unfold context
  pointwise
theorem output_at (x : FVec Ideal S1x1024x32768 .f32) (w : FVec Ideal S32768x1024 .bf16) (i n : Fin 1024) :
    output x w (ix2 i n) = ∑ r : Fin 32768, x (ix3 0 i r) * w (ix2 r n) := by
  unfold output
  pointwise

theorem turned_at (p : T4) (tc ts : FVec Ideal S1024x128 .bf16) (i : Fin 1024) (h : Fin 256) (d : Fin 128) :
    turned p tc ts (ix4 0 i h d) = p (ix4 0 i h d) * tc (ix2 i d) + swapped p (ix4 0 i h d) * ts (ix2 i d) := by
  unfold turned
  pointwise
  rw [wide_at, wide_at]

end Cert.ReferenceIdeal.Stages

end

end
-- ==== Proof.Match.lean ====
/-
# The run's result is the reference's

When every device's inputs are its part of the reference's arrays, and the arrays the scores are made of hold
reals, the sum over the devices and their heads is the reference's output.
-/
module

public import proofs.«01_k».proof.Proof.Algebra
public import proofs.«01_k».proof.Proof.RefValues
public import Idealize.ShloMosaic.Lib.Pipeline.ValueKit.Acc

@[expose] public section

noncomputable section

namespace Cert.KernelIdeal.Fused

open Cert.KernelIdeal Cert.KernelIdeal.Gen
open Idealize.ShloMosaic Idealize.ShloMosaic.TcCoe
open Cert.ReferenceIdeal.Stages

/-- A device's part of a weight cut by columns. -/
def ColPart (w : Dev nD → Vec Ideal S1024x1024 .bf16) (W : FVec Ideal Cert.ReferenceIdeal.S1024x32768 .bf16) : Prop :=
  ∀ (c : Dev nD) (k j : Fin 1024), w c (ix2 k j) = W (ix2 k ⟨c.val * 1024 + j.val, by have : c.val < 32 := c.isLt; omega⟩)

/-- Every device's inputs are its part of the reference's arrays. -/
structure Agree (I : Inp Ideal) (X : FVec Ideal Cert.ReferenceIdeal.S1x1024x1024 .bf16)
    (Wq Wk Wv : FVec Ideal Cert.ReferenceIdeal.S1024x32768 .bf16) (Wo : FVec Ideal Cert.ReferenceIdeal.S32768x1024 .bf16)
    (C S : FVec Ideal Cert.ReferenceIdeal.S1024x128 .bf16) : Prop where
  x : ∀ c, I.x c = X
  wq : ColPart I.wq Wq
  wk : ColPart I.wk Wk
  wv : ColPart I.wv Wv
  wo : ∀ (c : Dev nD) (j n : Fin 1024), I.wo c (ix2 j n) = Wo (ix2 ⟨c.val * 1024 + j.val, by have : c.val < 32 := c.isLt; omega⟩ n)
  cos : ∀ c, I.cos c = C
  sin : ∀ c, I.sin c = S

/-- The arrays the scores are made of hold reals. -/
structure Finite (I : Inp Ideal) : Prop where
  x : ∀ c, IsReal (xMat I c)
  wq : ∀ c h, IsReal (headCols c I.wq h)
  wk : ∀ c h, IsReal (headCols c I.wk h)
  cos : ∀ c, IsReal (cosMat I c)
  sin : ∀ c, IsReal (sinMat I c)

/-- Head `h` of device `c` among all heads. -/
def grp (c : Dev nD) (h : Fin 8) : Fin 256 := ⟨c.val * 8 + h.val, by have : c.val < 32 := c.isLt; omega⟩

section
variable {I : Inp Ideal} {X : FVec Ideal Cert.ReferenceIdeal.S1x1024x1024 .bf16}
    {Wq Wk Wv : FVec Ideal Cert.ReferenceIdeal.S1024x32768 .bf16} {Wo : FVec Ideal Cert.ReferenceIdeal.S32768x1024 .bf16}
    {C S : FVec Ideal Cert.ReferenceIdeal.S1024x128 .bf16}

theorem pre_eq (hx : ∀ c, I.x c = X) {w : Dev nD → Vec Ideal S1024x1024 .bf16} {W : FVec Ideal Cert.ReferenceIdeal.S1024x32768 .bf16}
    (hw : ColPart w W) (c : Dev nD) (h : Fin 8) (i : Fin 1024) (d : Fin 128) :
    pre X W (ix4 0 i (grp c h) d) = prj (xMat I c) (headCols c w h) i d := by
  rw [pre_at]
  unfold prj xMat headCols
  refine Finset.sum_congr rfl fun k _ => ?_
  rw [hx c, hw]
  refine congrArg (fun z => X (ix3 0 i k) * W (ix2 k z)) (Fin.ext ?_)
  show (c.val * 8 + h.val) * 128 + d.val = c.val * 1024 + (h.val * 128 + d.val)
  ring

theorem swapped_eq {p : T4} {q : Mat 1024 128} {g : Fin 256} (hp : ∀ i d, p (ix4 0 i g d) = q i d) (i : Fin 1024) (d : Fin 128) :
    swapped p (ix4 0 i g d) = swap (q i) d := by
  rw [swapped_at]
  unfold swap
  split <;> rw [hp]

theorem turned_eq (hx : ∀ c, I.x c = X) (hc : ∀ c, I.cos c = C) (hs : ∀ c, I.sin c = S)
    {w : Dev nD → Vec Ideal S1024x1024 .bf16} {W : FVec Ideal Cert.ReferenceIdeal.S1024x32768 .bf16}
    (hw : ColPart w W) (c : Dev nD) (h : Fin 8) (i : Fin 1024) (d : Fin 128) :
    turned (pre X W) C S (ix4 0 i (grp c h) d) = turn (prj (xMat I c) (headCols c w h)) (cosMat I c) (sinMat I c) i d := by
  rw [turned_at, swapped_eq (pre_eq hx hw c h), pre_eq hx hw]
  unfold turn cosMat sinMat
  rw [hc c, hs c]

/-- One head of the reference's context is the device's attention of that head. -/
theorem head_eq (A : Agree I X Wq Wk Wv Wo C S) (R : Finite I) (c : Dev nD) (h : Fin 8) (i : Fin 1024) (d : Fin 128) :
    attn (expo (QM I c h) (KM I c h)) (VM I c h) i d
      = ∑ j : Fin 1024, pre X Wv (ix4 0 j (grp c h) d)
        * weights (exps (scores (turned (pre X Wq) C S) (turned (pre X Wk) C S))) (ix4 0 (grp c h) i j) := by
  have hpq := prj_real (R.x c) (R.wq c h)
  have hk : IsReal (KM I c h) := turn_real (prj_real (R.x c) (R.wk c h)) (R.cos c) (R.sin c)
  have hq := turn_real hpq (R.cos c) (R.sin c)
  obtain ⟨a, ha⟩ := score_real hq hk i
  have hsc : ∀ j, scores (turned (pre X Wq) C S) (turned (pre X Wk) C S) (ix4 0 (grp c h) i j) = (a j : EReal) := fun j => by
    rw [scores_at, ← ha j]
    refine congrArg (· * sc) (Finset.sum_congr rfl fun e _ => ?_)
    rw [turned_eq A.x A.cos A.sin A.wq, turned_eq A.x A.cos A.sin A.wk]
    rfl
  obtain ⟨M, hM⟩ := top_real _ (grp c h) i a hsc
  have he : ∀ j, expo (QM I c h) (KM I c h) i j = Ideal.exp (a j) := fun j => by
    rw [← ha j]
    exact congrArg Ideal.exp (score_scaled hpq (R.cos c) (R.sin c) hk i j)
  have hx : ∀ j, exps (scores (turned (pre X Wq) C S) (turned (pre X Wk) C S)) (ix4 0 (grp c h) i j) = Ideal.exp (a j - M) := fun j => by
    rw [exps_at, hsc, hM]
  have hl : attn (expo (QM I c h) (KM I c h)) (VM I c h) i d
      = (∑ j, Ideal.exp (a j) * VM I c h j d) * Ideal.div 1 (∑ j, Ideal.exp (a j)) := by
    unfold attn
    simp only [he]
  rw [hl, softmax_eq a (fun j => VM I c h j d) M]
  refine Finset.sum_congr rfl fun j _ => ?_
  rw [weights_at, hx, pre_eq A.x A.wv]
  simp only [hx]
  rfl

/-- A sum over all columns, by devices, heads and lanes. -/
theorem sum_cols (f : Fin 32768 → EReal) :
    ∑ r, f r = ∑ c : Dev nD, ∑ h : Fin 8, ∑ d : Fin 128,
      f ⟨c.val * 1024 + (h.val * 128 + d.val), by have : c.val < 32 := c.isLt; omega⟩ := by
  let g : ℕ → EReal := fun n => if h : n < 32768 then f ⟨n, h⟩ else 0
  have e : ∀ (n : ℕ) (h : n < 32768), f ⟨n, h⟩ = g n := fun n h => by show _ = dite _ _ _; rw [dif_pos h]
  calc ∑ r, f r = ∑ r : Fin (32 * 1024), g r.val := Finset.sum_congr rfl fun r _ => e r.val r.isLt
    _ = ∑ c : Fin 32, ∑ k : Fin 1024, g (c.val * 1024 + k.val) := (Fin.sum_univ_univ_mul_add 32 1024 g).symm
    _ = _ := Finset.sum_congr rfl fun c _ => by
      refine (Fin.sum_univ_univ_mul_add 8 128 (fun n => g (c.val * 1024 + n))).symm.trans ?_
      exact Finset.sum_congr rfl fun h _ => Finset.sum_congr rfl fun d _ => (e _ _).symm

/-- The result of the run is the reference's output. -/
theorem out_eq (A : Agree I X Wq Wk Wv Wo C S) (R : Finite I) : OV I = refOut X Wq Wk Wv Wo C S := by
  funext z
  obtain ⟨i, n, rfl⟩ : ∃ i n : Fin 1024, z = ix2 i n := ⟨z 0, z 1, funext fun a => by match a with | 0 => rfl | 1 => rfl⟩
  rw [OV_at]
  unfold refOut
  rw [output_at, sum_cols]
  refine Finset.sum_congr rfl fun c _ => Finset.sum_congr rfl fun h _ => ?_
  unfold headOut
  refine Finset.sum_congr rfl fun d _ => ?_
  have hc : c.val < 32 := c.isLt
  have h1 : (⟨(c.val * 1024 + (h.val * 128 + d.val)) / 128, by omega⟩ : Fin 256) = grp c h := Fin.ext (by
    show (c.val * 1024 + (h.val * 128 + d.val)) / 128 = c.val * 8 + h.val; omega)
  have h2 : (⟨(c.val * 1024 + (h.val * 128 + d.val)) % 128, by omega⟩ : Fin 128) = d := Fin.ext (by
    show (c.val * 1024 + (h.val * 128 + d.val)) % 128 = d.val; omega)
  rw [context_at, h1, h2, head_eq A R]
  exact congrArg _ (A.wo c _ n)

end

end Cert.KernelIdeal.Fused

end

end
-- ==== Proof.Algebraic.lean ====
/-
# The kernel computes the reference

The run's result array holds the named result, the precondition gives reals, and the two programs agree.
-/
module

public import proofs.«01_k».proof.Proof.Frames
public import proofs.«01_k».proof.Proof.Match

@[expose] public section

noncomputable section

/-! ## The shape relations of the precondition -/

namespace Cert.Pre_finite_scores_KernelIdeal
open Idealize.ShloMosaic
theorem facts : Facts where
  bitsLt_bf16_f32 := by decide
  bcast_S_S1x1024x1024 := by decide
  bcast_S_S1024x1024 := by decide
  bcast_S_S1024x128 := by decide
end Cert.Pre_finite_scores_KernelIdeal

namespace Cert.Pre_finite_scores_ReferenceIdeal
open Idealize.ShloMosaic
theorem facts : Facts where
  bitsLt_bf16_f32 := by decide
  bcast_S_S1x1024x1024 := by decide
  bcast_S_S1024x32768 := by decide
  bcast_S_S1024x128 := by decide
end Cert.Pre_finite_scores_ReferenceIdeal

namespace Cert.KernelIdeal.Fused

open Cert.KernelIdeal Cert.KernelIdeal.Gen
open Idealize.ShloMosaic Idealize.ShloMosaic.TcCoe
open Idealize.SL Idealize.SL.Sem

/-! ## Reals from the precondition -/

/-- A value whose magnitude is below infinity is a real. -/
theorem real_of_lt {x : EReal} (h : Ideal.cmp .olt (max x (-x)) (Ideal.ofBits .f32 0x7F800000#32) = 1#1) : ∃ r : ℝ, x = (r : EReal) := by
  have htop : Ideal.ofBits .f32 0x7F800000#32 = ⊤ := by simp [Ideal.ofBits, Ideal.ieee]
  rw [htop] at h
  unfold Ideal.cmp at h
  induction x using EReal.rec with
  | bot => simp at h
  | coe r => exact ⟨r, rfl⟩
  | top => simp at h

theorem isReal_of {a b : ℕ} {f : Mat a b} (h : ∀ i j, ∃ r : ℝ, f i j = (r : EReal)) : IsReal f :=
  ⟨fun i j => (h i j).choose, fun i j => (h i j).choose_spec⟩

/-! ## The arrays and their one block -/

section
variable {F : FTy → Type} [FloatOps F] (m : (ℓ : Loc nD τ sig) → Buf (Elt F) ℓ) (ρ : Dev nD → PrngReg) (c : Dev nD)

theorem inp_x : (inp m).x c = m ((c : Thread nD τ).loc main_arg0) := by
  have hz : (fun a => (win0_0.index t0_0) a * main_arg0.ty.shape.size a) = fun _ => 0 := funext fun a => Nat.zero_mul _
  exact (fun f => Memref.read_access_unit_zero (Elt F) main_arg0 hz (fun a => by fin_cases a <;> decide) f) (m ((c : Thread nD τ).loc main_arg0))
theorem inp_wq : (inp m).wq c = m ((c : Thread nD τ).loc main_arg1) := by
  have hz : (fun a => (win0_1.index t0_0) a * main_arg1.ty.shape.size a) = fun _ => 0 := funext fun a => Nat.zero_mul _
  exact (fun f => Memref.read_access_unit_zero (Elt F) main_arg1 hz (fun a => by fin_cases a <;> decide) f) (m ((c : Thread nD τ).loc main_arg1))
theorem inp_wk : (inp m).wk c = m ((c : Thread nD τ).loc main_arg2) := by
  have hz : (fun a => (win0_2.index t0_0) a * main_arg2.ty.shape.size a) = fun _ => 0 := funext fun a => Nat.zero_mul _
  exact (fun f => Memref.read_access_unit_zero (Elt F) main_arg2 hz (fun a => by fin_cases a <;> decide) f) (m ((c : Thread nD τ).loc main_arg2))
theorem inp_wv : (inp m).wv c = m ((c : Thread nD τ).loc main_arg3) := by
  have hz : (fun a => (win0_3.index t0_0) a * main_arg3.ty.shape.size a) = fun _ => 0 := funext fun a => Nat.zero_mul _
  exact (fun f => Memref.read_access_unit_zero (Elt F) main_arg3 hz (fun a => by fin_cases a <;> decide) f) (m ((c : Thread nD τ).loc main_arg3))
theorem inp_wo : (inp m).wo c = m ((c : Thread nD τ).loc main_arg4) := by
  have hz : (fun a => (win0_4.index t0_0) a * main_arg4.ty.shape.size a) = fun _ => 0 := funext fun a => Nat.zero_mul _
  exact (fun f => Memref.read_access_unit_zero (Elt F) main_arg4 hz (fun a => by fin_cases a <;> decide) f) (m ((c : Thread nD τ).loc main_arg4))
theorem inp_cos : (inp m).cos c = m ((c : Thread nD τ).loc main_arg5) := by
  have hz : (fun a => (win0_5.index t0_0) a * main_arg5.ty.shape.size a) = fun _ => 0 := funext fun a => Nat.zero_mul _
  exact (fun f => Memref.read_access_unit_zero (Elt F) main_arg5 hz (fun a => by fin_cases a <;> decide) f) (m ((c : Thread nD τ).loc main_arg5))
theorem inp_sin : (inp m).sin c = m ((c : Thread nD τ).loc main_arg6) := by
  have hz : (fun a => (win0_6.index t0_0) a * main_arg6.ty.shape.size a) = fun _ => 0 := funext fun a => Nat.zero_mul _
  exact (fun f => Memref.read_access_unit_zero (Elt F) main_arg6 hz (fun a => by fin_cases a <;> decide) f) (m ((c : Thread nD τ).loc main_arg6))

/-- The result array ends holding the named result. -/
theorem finalA_out : finalA m ρ c (7 : Fin 8) = OV (inp m) := by
  have ho : (win0_7.blk t0_0).view.read (Elt F) (finalA m ρ c (7 : Fin 8)) = OV (inp m) := by
    unfold finalA
    rw [show cfg0.N = (t0_0 : Fin cfg0.N).val + 1 from rfl, (dats m ρ 0 c).arrAt_succ (7 : Fin 8) t0_0]
    rw [show (cfg0.win (7 : Fin 8)).flush t0_0 = true from flush0_7 t0_0, if_pos rfl]
    exact View.read_write_univ _ _
  rw [← ho]
  have hz : (fun a => (win0_7.index t0_0) a * main_v1.ty.shape.size a) = fun _ => 0 := funext fun a => Nat.zero_mul _
  exact ((fun f => Memref.read_access_unit_zero (Elt F) main_v1 hz (fun a => by fin_cases a <;> decide) f) (finalA m ρ c (7 : Fin 8))).symm

end

/-! ## The claim -/

section
variable (m : (ℓ : Loc nD τ sig) → Buf (Elt Ideal) ℓ)

theorem finite [hP : Cert.Pre_finite_scores_KernelIdeal.Facts] (h : Cert.Pre_KernelIdeal_finite_scores_KernelIdeal m) : Finite (inp m) where
  x c := isReal_of fun i k => by
    show ∃ r : ℝ, (inp m).x c (ix3 0 i k) = (r : EReal)
    rw [inp_x]; exact real_of_lt (congrFun (h c).1 (ix3 0 i k))
  wq c g := isReal_of fun k d => by
    show ∃ r : ℝ, (inp m).wq c (ix2 k ⟨g.val * 128 + d.val, by omega⟩) = (r : EReal)
    rw [inp_wq]; exact real_of_lt (congrFun (h c).2.1 (ix2 k ⟨g.val * 128 + d.val, by omega⟩))
  wk c g := isReal_of fun k d => by
    show ∃ r : ℝ, (inp m).wk c (ix2 k ⟨g.val * 128 + d.val, by omega⟩) = (r : EReal)
    rw [inp_wk]; exact real_of_lt (congrFun (h c).2.2.1 (ix2 k ⟨g.val * 128 + d.val, by omega⟩))
  cos c := isReal_of fun i d => by
    show ∃ r : ℝ, (inp m).cos c (ix2 i d) = (r : EReal)
    rw [inp_cos]; exact real_of_lt (congrFun (h c).2.2.2.1 (ix2 i d))
  sin c := isReal_of fun i d => by
    show ∃ r : ℝ, (inp m).sin c (ix2 i d) = (r : EReal)
    rw [inp_sin]; exact real_of_lt (congrFun (h c).2.2.2.2 (ix2 i d))

/-- A block of columns, read at an index. -/
theorem colPart_of {w : Dev nD → Vec Ideal S1024x1024 .bf16} {W : FVec Ideal Cert.ReferenceIdeal.S1024x32768 .bf16}
    (h : Layout.Tiles ⟨2, ![1024, 1024]⟩ ⟨2, ![1024, 32768]⟩ 1 32)
    (e : ∀ c, w c = Layout.block ⟨2, ![1024, 1024]⟩ ⟨2, ![1024, 32768]⟩ 1 32 c W h) : ColPart w W := fun c k j => by
  rw [e c, Layout.block_apply]
  exact congrArg W (funext fun a => Fin.ext (by match a with | 0 => rfl | 1 => rfl))

theorem algebraic [hP : Cert.Pre_finite_scores_KernelIdeal.Facts] :
    Cert.algebraic_KernelIdeal_ReferenceIdeal_pre_finite_scores_KernelIdeal := by
  intro m g m' g' hpre hag
  have A : Agree (inp m) _ _ _ _ _ _ _ :=
    { x := fun c => (inp_x m c).trans (hag c).1
      wq := colPart_of _ fun c => (inp_wq m c).trans (hag c).2.1
      wk := colPart_of _ fun c => (inp_wk m c).trans (hag c).2.2.1
      wv := colPart_of _ fun c => (inp_wv m c).trans (hag c).2.2.2.1
      wo := fun c j n => by
        rw [(inp_wo m c).trans (hag c).2.2.2.2.1, Layout.block_apply]
        exact congrArg (m' _) (funext fun a => Fin.ext (by match a with | 0 => rfl | 1 => rfl))
      cos := fun c => (inp_cos m c).trans (hag c).2.2.2.2.2.1
      sin := fun c => (inp_sin m c).trans (hag c).2.2.2.2.2.2 }
  have e := out_eq A (finite m hpre)
  refine ⟨OV (inp m), ?_, ?_⟩
  · exact (θ_run defs _ _).mono (fun r h c => ⟨(h.1 c (7 : Fin 8)).trans (finalA_out m g c), Cert.Frames.args_kept h.1 c⟩)
      (run_main (F := Ideal) m g)
  · refine (θ_run Cert.ReferenceIdeal.defs _ _).mono (fun r h => ⟨?_, (h 0).2⟩) (Cert.ReferenceIdeal.Value.run (F := Ideal) m' g')
    exact ((h 0).1.trans (Cert.ReferenceIdeal.Stages.res_eq m' 0)).trans e.symm

end

end Cert.KernelIdeal.Fused

namespace Cert.Frames

open Idealize.ShloMosaic

/-- The frames under the precondition are the frames. -/
theorem kernelIdeal_pre [hP : Cert.Pre_finite_scores_KernelIdeal.Facts] : Cert.quiescent_KernelIdeal_pre_finite_scores_KernelIdeal :=
  fun m g _ => kernelIdeal m g trivial
theorem referenceIdeal_pre [hP : Cert.Pre_finite_scores_ReferenceIdeal.Facts] :
    Cert.quiescent_ReferenceIdeal_pre_finite_scores_ReferenceIdeal := fun m g _ => referenceIdeal m g trivial

end Cert.Frames

end

end
-- ==== Proof.lean ====
/-
# The claim

The frames of the three programs, and the kernel's result against the reference's.
-/
module

public import proofs.«01_k».proof.Defs
public import proofs.«01_k».proof.Proof.Gen.Kernel
public import proofs.«01_k».proof.Proof.Gen.Kernel.Skeleton
public import proofs.«01_k».proof.Proof.Gen.Kernel.Launch
public import proofs.«01_k».proof.Proof.Gen.Kernel.Points
public import proofs.«01_k».proof.Proof.Gen.Kernel.Frame
public import proofs.«01_k».proof.Proof.Gen.KernelIdeal
public import proofs.«01_k».proof.Proof.Gen.KernelIdeal.Skeleton
public import proofs.«01_k».proof.Proof.Gen.KernelIdeal.Launch
public import proofs.«01_k».proof.Proof.Gen.KernelIdeal.Points
public import proofs.«01_k».proof.Proof.Gen.KernelIdeal.Frame
public import proofs.«01_k».proof.Proof.Gen.ReferenceIdeal.Run
public import proofs.«01_k».proof.Proof.Frames
public import proofs.«01_k».proof.Proof.Algebraic
public import Idealize.ShloMosaic.Adequacy
public import Idealize.ShloMosaic.Init

@[expose] public section

noncomputable section

namespace Cert.Proof

open Idealize.ShloMosaic Idealize.SL.Sem Cert.Kernel

theorem claim : Cert.Claim :=
  letI := Cert.Pre_finite_scores_KernelIdeal.facts
  letI := Cert.Pre_finite_scores_ReferenceIdeal.facts
  ⟨Cert.Kernel.Gen.facts, Cert.KernelIdeal.Gen.facts, Cert.ReferenceIdeal.Gen.facts,
    Cert.Pre_finite_scores_KernelIdeal.facts, Cert.Pre_finite_scores_ReferenceIdeal.facts,
    Cert.Frames.kernel, Cert.Frames.kernelIdeal, Cert.Frames.kernelIdeal_pre, Cert.Frames.referenceIdeal,
    Cert.Frames.referenceIdeal_pre, trivial, Cert.KernelIdeal.Fused.algebraic⟩

end Cert.Proof

end
